-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gate [hPre_finite_gate : Cert.Pre_finite_gate.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gate [hPre_finite_gate : Cert.Pre_finite_gate.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_prompt [hPre_finite_prompt : Cert.Pre_finite_prompt.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_prompt.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_prompt [hPre_finite_prompt : Cert.Pre_finite_prompt.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_prompt.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_fourier [hPre_finite_fourier : Cert.Pre_finite_fourier.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_fourier.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_fourier [hPre_finite_fourier : Cert.Pre_finite_fourier.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_fourier.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_fourier_prompt [hPre_finite_fourier_prompt : Cert.Pre_finite_fourier_prompt.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_fourier_prompt.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_fourier_prompt [hPre_finite_fourier_prompt : Cert.Pre_finite_fourier_prompt.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_fourier_prompt.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_gate [hKernel3Ideal : Cert.Kernel3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gate m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_gate [hReference3Ideal : Cert.Reference3Ideal.Facts] [hPre_finite_gate : Cert.Pre_finite_gate.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gate m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_prompt [hKernel5Ideal : Cert.Kernel5Ideal.Facts] [hPre_finite_prompt : Cert.Pre_finite_prompt.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_prompt m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_prompt [hReference5Ideal : Cert.Reference5Ideal.Facts] [hPre_finite_prompt : Cert.Pre_finite_prompt.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_prompt m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_fourier [hKernel6Ideal : Cert.Kernel6Ideal.Facts] [hPre_finite_fourier : Cert.Pre_finite_fourier.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_fourier m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_fourier [hReference6Ideal : Cert.Reference6Ideal.Facts] [hPre_finite_fourier : Cert.Pre_finite_fourier.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_fourier m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite_fourier_prompt [hKernel7Ideal : Cert.Kernel7Ideal.Facts] [hPre_finite_fourier_prompt : Cert.Pre_finite_fourier_prompt.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_fourier_prompt m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite_fourier_prompt [hReference7Ideal : Cert.Reference7Ideal.Facts] [hPre_finite_fourier_prompt : Cert.Pre_finite_fourier_prompt.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_fourier_prompt m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "scale" .f32 0x3E38AA3B#32 (((1 / 8) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_gate [hKernel3Ideal : Cert.Kernel3Ideal.Facts] [hReference3Ideal : Cert.Reference3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gate m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.bf16_pair.PackStatement Cert.Kernel4Ideal.S256x8x256
  ∧ IdealRules.bf16_pair.Statement Cert.Kernel4Ideal.S256x16x256 Cert.Kernel4Ideal.S256x8x256

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_prompt [hKernel5Ideal : Cert.Kernel5Ideal.Facts] [hReference5Ideal : Cert.Reference5Ideal.Facts] [hPre_finite_prompt : Cert.Pre_finite_prompt.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_prompt m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.bf16_pair.PackStatement Cert.Kernel6Ideal.S256x8x256
  ∧ IdealRules.bf16_pair.Statement Cert.Kernel6Ideal.S256x16x256 Cert.Kernel6Ideal.S256x8x256

def algebraic_Kernel6Ideal_Reference6Ideal_pre_finite_fourier [hKernel6Ideal : Cert.Kernel6Ideal.Facts] [hReference6Ideal : Cert.Reference6Ideal.Facts] [hPre_finite_fourier : Cert.Pre_finite_fourier.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_fourier m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v68) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  IdealRules.bf16_pair.PackStatement Cert.Kernel7Ideal.S256x8x256
  ∧ IdealRules.bf16_pair.Statement Cert.Kernel7Ideal.S256x16x256 Cert.Kernel7Ideal.S256x8x256

def algebraic_Kernel7Ideal_Reference7Ideal_pre_finite_fourier_prompt [hKernel7Ideal : Cert.Kernel7Ideal.Facts] [hReference7Ideal : Cert.Reference7Ideal.Facts] [hPre_finite_fourier_prompt : Cert.Pre_finite_fourier_prompt.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_fourier_prompt m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_arguments : Cert.Pre_finite_arguments.Facts) (hPre_finite_gate : Cert.Pre_finite_gate.Facts) (hPre_finite_prompt : Cert.Pre_finite_prompt.Facts) (hPre_finite_fourier : Cert.Pre_finite_fourier.Facts) (hPre_finite_fourier_prompt : Cert.Pre_finite_fourier_prompt.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gate (hKernel3Ideal := hKernel3Ideal) (hPre_finite_gate := hPre_finite_gate)
    ∧ quiescent_Reference3Ideal (hReference3Ideal := hReference3Ideal)
    ∧ quiescent_Reference3Ideal_pre_finite_gate (hReference3Ideal := hReference3Ideal) (hPre_finite_gate := hPre_finite_gate)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_prompt (hKernel5Ideal := hKernel5Ideal) (hPre_finite_prompt := hPre_finite_prompt)
    ∧ quiescent_Reference5Ideal (hReference5Ideal := hReference5Ideal)
    ∧ quiescent_Reference5Ideal_pre_finite_prompt (hReference5Ideal := hReference5Ideal) (hPre_finite_prompt := hPre_finite_prompt)
    ∧ quiescent_Kernel6 (hKernel6 := hKernel6)
    ∧ quiescent_Kernel6Ideal (hKernel6Ideal := hKernel6Ideal)
    ∧ quiescent_Kernel6Ideal_pre_finite_fourier (hKernel6Ideal := hKernel6Ideal) (hPre_finite_fourier := hPre_finite_fourier)
    ∧ quiescent_Reference6Ideal (hReference6Ideal := hReference6Ideal)
    ∧ quiescent_Reference6Ideal_pre_finite_fourier (hReference6Ideal := hReference6Ideal) (hPre_finite_fourier := hPre_finite_fourier)
    ∧ quiescent_Kernel7 (hKernel7 := hKernel7)
    ∧ quiescent_Kernel7Ideal (hKernel7Ideal := hKernel7Ideal)
    ∧ quiescent_Kernel7Ideal_pre_finite_fourier_prompt (hKernel7Ideal := hKernel7Ideal) (hPre_finite_fourier_prompt := hPre_finite_fourier_prompt)
    ∧ quiescent_Reference7Ideal (hReference7Ideal := hReference7Ideal)
    ∧ quiescent_Reference7Ideal_pre_finite_fourier_prompt (hReference7Ideal := hReference7Ideal) (hPre_finite_fourier_prompt := hPre_finite_fourier_prompt)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gate (hKernel3Ideal := hKernel3Ideal) (hReference3Ideal := hReference3Ideal) (hPre_finite_gate := hPre_finite_gate)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_prompt (hKernel5Ideal := hKernel5Ideal) (hReference5Ideal := hReference5Ideal) (hPre_finite_prompt := hPre_finite_prompt)
    ∧ preserves_Kernel6_Kernel6Ideal
    ∧ algebraic_Kernel6Ideal_Reference6Ideal_pre_finite_fourier (hKernel6Ideal := hKernel6Ideal) (hReference6Ideal := hReference6Ideal) (hPre_finite_fourier := hPre_finite_fourier)
    ∧ preserves_Kernel7_Kernel7Ideal
    ∧ algebraic_Kernel7Ideal_Reference7Ideal_pre_finite_fourier_prompt (hKernel7Ideal := hKernel7Ideal) (hReference7Ideal := hReference7Ideal) (hPre_finite_fourier_prompt := hPre_finite_fourier_prompt)
-- ==== Pre_finite_arguments.lean ====
abbrev S4x4096x1024 : Shape := ⟨3, ![4, 4096, 1024]⟩
abbrev S4x4096x512 : Shape := ⟨3, ![4, 4096, 512]⟩
abbrev S32x16 : Shape := ⟨2, ![32, 16]⟩
abbrev S128x384 : Shape := ⟨2, ![128, 384]⟩
abbrev S1x1024 : Shape := ⟨2, ![1, 1024]⟩
abbrev S1024x1024 : Shape := ⟨2, ![1024, 1024]⟩
abbrev S1x16 : Shape := ⟨2, ![1, 16]⟩
abbrev S_ : Shape := ⟨0, ![]⟩

class Facts : Prop where
  bcast_S_S32x16 : S_.BroadcastsInDim S32x16 (![] : Fin 0 → Fin S32x16.rank)
  reducesTo_S32x16_S_d0_1 : S32x16.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S128x384 : S_.BroadcastsInDim S128x384 (![] : Fin 0 → Fin S128x384.rank)
  reducesTo_S128x384_S_d0_1 : S128x384.ReducesTo [0, 1] S_
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg6 : FVec F S1024x1024 .bf16) (main_v31 : IVec S_ 1) (main_v33 : FVec F S4x4096x512 .f32) (main_cst_11 : FVec F S_ .f32) : IVec S_ 1 :=
  let main_v34 : FVec F S4x4096x512 .f32 := broadcastInDim S4x4096x512 ![] bcast_S_S4x4096x512 main_cst_11
  let main_v35 : IVec S4x4096x512 1 := cmpf .olt main_v33 main_v34
  let main_c_12 : IVec S_ 1 := constantI S_ 1 1#1
  let main_v36 : IVec S_ 1 := (fun x v => Host.reduce IntOp.andi x v reducesTo_S4x4096x512_S_d0_1_2 h_S_) main_v35 main_c_12
  let main_v37 : IVec S_ 1 := andi main_v31 main_v36
  let main_v38 : FVec F S1024x1024 .f32 := (extf .f32 · bitsLt_bf16_f32) main_arg6
  let main_v39 : FVec F S1024x1024 .f32 := Host.absf main_v38
  let main_cst_13 : FVec F S_ .f32 := constant S_ .f32 0x7F800000#32
  let main_v40 : FVec F S1024x1024 .f32 := broadcastInDim S1024x1024 ![] bcast_S_S1024x1024 main_cst_13
  let main_v41 : IVec S1024x1024 1 := cmpf .olt main_v39 main_v40
  let main_c_14 : IVec S_ 1 := constantI S_ 1 1#1
  let main_v42 : IVec S_ 1 := (fun x v => Host.reduce IntOp.andi x v reducesTo_S1024x1024_S_d0_1 h_S_) main_v41 main_c_14
  let main_v43 : IVec S_ 1 := andi main_v37 main_v42
  main_v43

def fn_part1 {F : FTy → Type} [FloatOps F] (main_arg0 : FVec F S4x4096x1024 .bf16) (main_arg1 : FVec F S4x4096x512 .bf16) (main_arg4 : IVec S128x384 32) (main_arg6 : FVec F S1024x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_c_6 : IVec S_ 32 := constantI S_ 32 0#32
  let main_v19 : IVec S128x384 32 := broadcastInDim S128x384 ![] bcast_S_S128x384 main_c_6
  let main_v20 : IVec S128x384 1 := cmpi .sge main_arg4 main_v19
  let main_c_7 : IVec S_ 32 := constantI S_ 32 32#32
  let main_v21 : IVec S128x384 32 := broadcastInDim S128x384 ![] bcast_S_S128x384 main_c_7
  let main_v22 : IVec S128x384 1 := cmpi .slt main_arg4 main_v21
  let main_v23 : IVec S128x384 1 := andi main_v20 main_v22
  let main_c_8 : IVec S_ 1 := constantI S_ 1 1#1
  let main_v24 : IVec S_ 1 := (fun x v => Host.reduce IntOp.andi x v reducesTo_S128x384_S_d0_1 h_S_) main_v23 main_c_8
  let main_v25 : IVec S_ 1 := andi main_v18 main_v24
  let main_v26 : FVec F S4x4096x1024 .f32 := (extf .f32 · bitsLt_bf16_f32) main_arg0
  let main_v27 : FVec F S4x4096x1024 .f32 := Host.absf main_v26
  let main_cst_9 : FVec F S_ .f32 := constant S_ .f32 0x7F800000#32
  let main_v28 : FVec F S4x4096x1024 .f32 := broadcastInDim S4x4096x1024 ![] bcast_S_S4x4096x1024 main_cst_9
  let main_v29 : IVec S4x4096x1024 1 := cmpf .olt main_v27 main_v28
  let main_c_10 : IVec S_ 1 := constantI S_ 1 1#1
  let main_v30 : IVec S_ 1 := (fun x v => Host.reduce IntOp.andi x v reducesTo_S4x4096x1024_S_d0_1_2 h_S_) main_v29 main_c_10
  let main_v31 : IVec S_ 1 := andi main_v25 main_v30
  let main_v32 : FVec F S4x4096x512 .f32 := (extf .f32 · bitsLt_bf16_f32) main_arg1
  let main_v33 : FVec F S4x4096x512 .f32 := Host.absf main_v32
  let main_cst_11 : FVec F S_ .f32 := constant S_ .f32 0x7F800000#32
  fn_part2 (F := F) main_arg6 main_v31 main_v33 main_cst_11

def fn {F : FTy → Type} [FloatOps F] (main_arg0 : FVec F S4x4096x1024 .bf16) (main_arg1 : FVec F S4x4096x512 .bf16) (main_arg2 : FVec F S4x4096x1024 .f32) (main_arg3 : FVec F S32x16 .f32) (main_arg4 : IVec S128x384 32) (main_arg5 : FVec F S1x1024 .f32) (main_arg6 : FVec F S1024x1024 .bf16) (main_arg7 : FVec F S1024x1024 .bf16) (main_arg8 : FVec F S1x16 .f32) : IVec S_ 1 :=
  let main_v0 : FVec F S32x16 .f32 := Host.absf main_arg3
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  let main_c : IVec S_ 1 := constantI S_ 1 1#1
  let main_v3 : IVec S_ 1 := (fun x v => Host.reduce IntOp.andi x v reducesTo_S32x16_S_d0_1 h_S_) main_v2 main_c
  let main_v4 : FVec F S1x16 .f32 := Host.absf main_arg8
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1x1024 .f32 := Host.absf main_arg5
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg0 main_arg1 main_arg4 main_arg6 main_v13 main_v16
-- ==== Pre_finite_fourier.lean ====
abbrev S256x256 : Shape := ⟨2, ![256, 256]⟩
abbrev S256x512 : Shape := ⟨2, ![256, 512]⟩
abbrev S128x32x64 : Shape := ⟨3, ![128, 32, 64]⟩
abbrev S4x4096x1024 : Shape := ⟨3, ![4, 4096, 1024]⟩
abbrev S1x1024 : Shape := ⟨2, ![1, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S256x256 .bf16) (main_arg1 : FVec F S256x512 .bf16) (main_arg2 : FVec F S128x32x64 .bf16) (main_arg3 : FVec F S4x4096x1024 .f32) (main_arg4 : FVec F S1x1024 .f32) (main_arg5 : FVec F S1024x1024 .bf16) (main_arg6 : FVec F S1024x1024 .bf16) (main_arg7 : FVec F S1x1024 .f32) : IVec S_ 1 :=
  let main_v0 : FVec F S4x4096x1024 .f32 := Host.absf main_arg3
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1x1024 .f32 := Host.absf main_arg4
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := (extf .f32 · bitsLt_bf16_f32) main_arg5
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v8 main_v13
  main_v14
-- ==== Pre_finite_fourier_prompt.lean ====
abbrev S256x256 : Shape := ⟨2, ![256, 256]⟩
abbrev S256x512 : Shape := ⟨2, ![256, 512]⟩
abbrev S128x128x256 : Shape := ⟨3, ![128, 128, 256]⟩
abbrev S2x16384x1024 : Shape := ⟨3, ![2, 16384, 1024]⟩
abbrev S1x1024 : Shape := ⟨2, ![1, 1024]⟩
abbrev S1024x1024 : Shape := ⟨2, ![1024, 1024]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S256x256 .bf16) (main_arg1 : FVec F S256x512 .bf16) (main_arg2 : FVec F S128x128x256 .bf16) (main_arg3 : FVec F S2x16384x1024 .f32) (main_arg4 : FVec F S1x1024 .f32) (main_arg5 : FVec F S1024x1024 .bf16) (main_arg6 : FVec F S1024x1024 .bf16) (main_arg7 : FVec F S1x1024 .f32) : IVec S_ 1 :=
  let main_v0 : FVec F S2x16384x1024 .f32 := Host.absf main_arg3
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S1x1024 .f32 := Host.absf main_arg4
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := (extf .f32 · bitsLt_bf16_f32) main_arg5
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v8 main_v13
  main_v14
-- ==== Pre_finite_gate.lean ====
abbrev S4x2x128x32x1024 : Shape := ⟨5, ![4, 2, 128, 32, 1024]⟩
abbrev S128x32x64 : Shape := ⟨3, ![128, 32, 64]⟩
abbrev S4x32x128x1024 : Shape := ⟨4, ![4, 32, 128, 1024]⟩
abbrev S1x1024 : Shape := ⟨2, ![1, 1024]⟩
abbrev S1024x1024 : Shape := ⟨2, ![1024, 1024]⟩
abbrev S_ : Shape := ⟨0, ![]⟩

class Facts : Prop where
  bcast_S_S4x32x128x1024 : S_.BroadcastsInDim S4x32x128x1024 (![] : Fin 0 → Fin S4x32x128x1024.rank)
  reducesTo_S4x32x128x1024_S_d0_1_2_3 : S4x32x128x1024.ReducesTo [0, 1, 2, 3] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2x128x32x1024 .bf16) (main_arg1 : FVec F S128x32x64 .bf16) (main_arg2 : FVec F S4x32x128x1024 .f32) (main_arg3 : FVec F S1x1024 .f32) (main_arg4 : FVec F S1024x1024 .bf16) (main_arg5 : FVec F S1024x1024 .bf16) (main_arg6 : FVec F S1x1024 .f32) : IVec S_ 1 :=
  let main_v0 : FVec F S4x32x128x1024 .f32 := Host.absf main_arg2
  let main_cst : FVec F S_ .f32 := constant S_ .f32 0x7F800000#32
  let main_v1 : FVec F S4x32x128x1024 .f32 := broadcastInDim S4x32x128x1024 ![] bcast_S_S4x32x128x1024 main_cst
  let main_v2 : IVec S4x32x128x1024 1 := cmpf .olt main_v0 main_v1
  let main_c : IVec S_ 1 := constantI S_ 1 1#1
  let main_v3 : IVec S_ 1 := (fun x v => Host.reduce IntOp.andi x v reducesTo_S4x32x128x1024_S_d0_1_2_3 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := (extf .f32 · bitsLt_bf16_f32) main_arg4
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v8 main_v13
  main_v14
-- ==== Pre_finite_prompt.lean ====
abbrev S2x2x128x128x1024 : Shape := ⟨5, ![2, 2, 128, 128, 1024]⟩
abbrev S128x128x256 : Shape := ⟨3, ![128, 128, 256]⟩
abbrev S2x128x128x1024 : Shape := ⟨4, ![2, 128, 128, 1024]⟩
abbrev S1x1024 : Shape := ⟨2, ![1, 1024]⟩
abbrev S1024x1024 : Shape := ⟨2, ![1024, 1024]⟩
abbrev S_ : Shape := ⟨0, ![]⟩

class Facts : Prop where
  bcast_S_S2x128x128x1024 : S_.BroadcastsInDim S2x128x128x1024 (![] : Fin 0 → Fin S2x128x128x1024.rank)
  reducesTo_S2x128x128x1024_S_d0_1_2_3 : S2x128x128x1024.ReducesTo [0, 1, 2, 3] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2x128x128x1024 .bf16) (main_arg1 : FVec F S128x128x256 .bf16) (main_arg2 : FVec F S2x128x128x1024 .f32) (main_arg3 : FVec F S1x1024 .f32) (main_arg4 : FVec F S1024x1024 .bf16) (main_arg5 : FVec F S1024x1024 .bf16) (main_arg6 : FVec F S1x1024 .f32) : IVec S_ 1 :=
  let main_v0 : FVec F S2x128x128x1024 .f32 := Host.absf main_arg2
  let main_cst : FVec F S_ .f32 := constant S_ .f32 0x7F800000#32
  let main_v1 : FVec F S2x128x128x1024 .f32 := broadcastInDim S2x128x128x1024 ![] bcast_S_S2x128x128x1024 main_cst
  let main_v2 : IVec S2x128x128x1024 1 := cmpf .olt main_v0 main_v1
  let main_c : IVec S_ 1 := constantI S_ 1 1#1
  let main_v3 : IVec S_ 1 := (fun x v => Host.reduce IntOp.andi x v reducesTo_S2x128x128x1024_S_d0_1_2_3 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := (extf .f32 · bitsLt_bf16_f32) main_arg4
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v8 main_v13
  main_v14
-- ==== Kernel.lean ====
abbrev S4x4096x1024 : Shape := ⟨3, ![4, 4096, 1024]⟩
abbrev S4x4096x512 : Shape := ⟨3, ![4, 4096, 512]⟩
abbrev S32x16 : Shape := ⟨2, ![32, 16]⟩
abbrev S128x384 : Shape := ⟨2, ![128, 384]⟩
abbrev S1x1024 : Shape := ⟨2, ![1, 1024]⟩
abbrev S1024x1024 : Shape := ⟨2, ![1024, 1024]⟩
abbrev S1x16 : Shape := ⟨2, ![1, 16]⟩
abbrev S_ : Shape := ⟨0, ![]⟩
abbrev S384x128 : Shape := ⟨2, ![384, 128]⟩
abbrev S49152 : Shape := ⟨1, ![49152]⟩
abbrev S49152x1 : Shape := ⟨2, ![49152, 1]⟩
abbrev S32 : Shape := ⟨1, ![32]⟩
abbrev S1x32 : Shape := ⟨2, ![1, 32]⟩
abbrev S49152x32 : Shape := ⟨2, ![49152, 32]⟩
abbrev S16x49152 : Shape := ⟨2, ![16, 49152]⟩
abbrev S16x384x128 : Shape := ⟨3, ![16, 384, 128]⟩
abbrev S1x384x128 : Shape := ⟨3, ![1, 384, 128]⟩
abbrev S16 : Shape := ⟨1, ![16]⟩
abbrev S1024 : Shape := ⟨1, ![1024]⟩
abbrev S1x1024x1024 : Shape := ⟨3, ![1, 1024, 1024]⟩
abbrev S1x128x512 : Shape := ⟨3, ![1, 128, 512]⟩
abbrev S1x1024x512 : Shape := ⟨3, ![1, 1024, 512]⟩
abbrev S1280x512 : Shape := ⟨2, ![1280, 512]⟩
abbrev S1280x1024 : Shape := ⟨2, ![1280, 1024]⟩
abbrev S320x1280 : Shape := ⟨2, ![320, 1280]⟩
abbrev S2x8x384x256 : Shape := ⟨4, ![2, 8, 384, 256]⟩
abbrev S2x8x8x256 : Shape := ⟨4, ![2, 8, 8, 256]⟩
abbrev S128x512 : Shape := ⟨2, ![128, 512]⟩
abbrev S1024x512 : Shape := ⟨2, ![1024, 512]⟩
abbrev S1x128 : Shape := ⟨2, ![1, 128]⟩
abbrev S1280x128 : Shape := ⟨2, ![1280, 128]⟩
abbrev S1280x64 : Shape := ⟨2, ![1280, 64]⟩
abbrev S1280x256 : Shape := ⟨2, ![1280, 256]⟩
abbrev S256x1280 : Shape := ⟨2, ![256, 1280]⟩
abbrev S64x1280 : Shape := ⟨2, ![64, 1280]⟩
abbrev S16x1280 : Shape := ⟨2, ![16, 1280]⟩
abbrev S1x256 : Shape := ⟨2, ![1, 256]⟩
abbrev S1x128x256 : Shape := ⟨3, ![1, 128, 256]⟩
abbrev S128x256 : Shape := ⟨2, ![128, 256]⟩
abbrev S128x128 : Shape := ⟨2, ![128, 128]⟩
abbrev S256x128 : Shape := ⟨2, ![256, 128]⟩
abbrev S768x128 : Shape := ⟨2, ![768, 128]⟩
abbrev S768x256 : Shape := ⟨2, ![768, 256]⟩
abbrev S384x256 : Shape := ⟨2, ![384, 256]⟩
abbrev S256x256 : Shape := ⟨2, ![256, 256]⟩
abbrev S1x1x384x256 : Shape := ⟨4, ![1, 1, 384, 256]⟩
abbrev S256 : Shape := ⟨1, ![256]⟩
abbrev S1 : Shape := ⟨1, ![1]⟩
abbrev S8x256 : Shape := ⟨2, ![8, 256]⟩
abbrev S1x1x8x256 : Shape := ⟨4, ![1, 1, 8, 256]⟩
abbrev S1x256x1024 : Shape := ⟨3, ![1, 256, 1024]⟩
abbrev S256x1024 : Shape := ⟨2, ![256, 1024]⟩
abbrev S256x1 : Shape := ⟨2, ![256, 1]⟩
abbrev S80x384 : Shape := ⟨2, ![80, 384]⟩
abbrev S80x256 : Shape := ⟨2, ![80, 256]⟩
abbrev S64x256 : Shape := ⟨2, ![64, 256]⟩
abbrev S64x128 : Shape := ⟨2, ![64, 128]⟩

abbrev nBuf : Space → Nat
  | .hbm => 51
  | .vmem => 23
  | .smem => 1
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S4x4096x1024, .f32⟩
  | .hbm, ⟨3, _⟩ => ⟨S32x16, .f32⟩
  | .hbm, ⟨4, _⟩ => ⟨S128x384, .i32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1x16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S384x128, .i32⟩
  | .hbm, ⟨14, _⟩ => ⟨S384x128, .i32⟩
  | .hbm, ⟨15, _⟩ => ⟨S_, .i32⟩
  | .hbm, ⟨16, _⟩ => ⟨S384x128, .i32⟩
  | .hbm, ⟨17, _⟩ => ⟨S384x128, .i32⟩
  | .hbm, ⟨18, _⟩ => ⟨S384x128, .i32⟩
  | .hbm, ⟨19, _⟩ => ⟨S384x128, .i32⟩
  | .hbm, ⟨20, _⟩ => ⟨S_, .i32⟩
  | .hbm, ⟨21, _⟩ => ⟨S384x128, .i32⟩
  | .hbm, ⟨22, _⟩ => ⟨S384x128, .i1⟩
  | .hbm, ⟨23, _⟩ => ⟨S_, .f32⟩
  | .hbm, ⟨24, _⟩ => ⟨S_, .f32⟩
  | .hbm, ⟨25, _⟩ => ⟨S384x128, .f32⟩
  | .hbm, ⟨26, _⟩ => ⟨S384x128, .f32⟩
  | .hbm, ⟨27, _⟩ => ⟨S384x128, .f32⟩
  | .hbm, ⟨28, _⟩ => ⟨S384x128, .i32⟩
  | .hbm, ⟨29, _⟩ => ⟨S49152, .i32⟩
  | .hbm, ⟨30, _⟩ => ⟨S49152x1, .i32⟩
  | .hbm, ⟨31, _⟩ => ⟨S32, .i32⟩
  | .hbm, ⟨32, _⟩ => ⟨S1x32, .i32⟩
  | .hbm, ⟨33, _⟩ => ⟨S49152x32, .i32⟩
  | .hbm, ⟨34, _⟩ => ⟨S49152x32, .i32⟩
  | .hbm, ⟨35, _⟩ => ⟨S49152x32, .i1⟩
  | .hbm, ⟨36, _⟩ => ⟨S49152x32, .f32⟩
  | .hbm, ⟨37, _⟩ => ⟨S16x49152, .f32⟩
  | .hbm, ⟨38, _⟩ => ⟨S16x384x128, .f32⟩
  | .hbm, ⟨39, _⟩ => ⟨S16x384x128, .f32⟩
  | .hbm, ⟨40, _⟩ => ⟨S16x384x128, .f32⟩
  | .hbm, ⟨41, _⟩ => ⟨S1x384x128, .f32⟩
  | .hbm, ⟨42, _⟩ => ⟨S1x384x128, .f32⟩
  | .hbm, ⟨43, _⟩ => ⟨S16x384x128, .f32⟩
  | .hbm, ⟨44, _⟩ => ⟨S16x384x128, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S1024, .f32⟩
  | .hbm, ⟨49, _⟩ => ⟨S1x1024, .f32⟩
  | .hbm, ⟨50, _⟩ => ⟨S4x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x128x512, .bf16⟩
  | .local _ .vmem, ⟨5, _⟩ => ⟨S1x128x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x128x512, .bf16⟩
  | .local _ .vmem, ⟨9, _⟩ => ⟨S1x128x512, .bf16⟩
  | .local _ .vmem, ⟨10, _⟩ => ⟨S16x384x128, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1280x512, .bf16⟩
  | .local _ .vmem, ⟨17, _⟩ => ⟨S1280x1024, .bf16⟩
  | .local _ .vmem, ⟨18, _⟩ => ⟨S320x1280, .bf16⟩
  | .local _ .vmem, ⟨19, _⟩ => ⟨S2x8x384x256, .f32⟩
  | .local _ .vmem, ⟨20, _⟩ => ⟨S2x8x8x256, .f32⟩
  | .local _ .vmem, ⟨21, _⟩ => ⟨S1024x1024, .f32⟩
  | .local _ .vmem, ⟨22, _⟩ => ⟨S1024x1024, .f32⟩
  | .local _ .smem, ⟨0, _⟩ => ⟨S16, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S4x4096x512 : Shape := ⟨3, ![4, 4096, 512]⟩
abbrev S32x16 : Shape := ⟨2, ![32, 16]⟩
abbrev S128x384 : Shape := ⟨2, ![128, 384]⟩
abbrev S1x1024 : Shape := ⟨2, ![1, 1024]⟩
abbrev S1024x1024 : Shape := ⟨2, ![1024, 1024]⟩
abbrev S1x16 : Shape := ⟨2, ![1, 16]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x16x64 : Shape := ⟨4, ![4, 4096, 16, 64]⟩
abbrev S4x4096x256 : Shape := ⟨3, ![4, 4096, 256]⟩
abbrev S4x4096x4x64 : Shape := ⟨4, ![4, 4096, 4, 64]⟩
abbrev S4x32x128x4x4x64 : Shape := ⟨6, ![4, 32, 128, 4, 4, 64]⟩
abbrev S4x4352x4x64 : Shape := ⟨4, ![4, 4352, 4, 64]⟩
abbrev S4x34x128x4x64 : Shape := ⟨5, ![4, 34, 128, 4, 64]⟩
abbrev S4x32x128x4x64 : Shape := ⟨5, ![4, 32, 128, 4, 64]⟩
abbrev S4x32x384x4x64 : Shape := ⟨5, ![4, 32, 384, 4, 64]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S128x384x1 : Shape := ⟨3, ![128, 384, 1]⟩
abbrev S128x384x16 : Shape := ⟨3, ![128, 384, 16]⟩
abbrev S16x128x384 : Shape := ⟨3, ![16, 128, 384]⟩
abbrev S4x4x128x384 : Shape := ⟨4, ![4, 4, 128, 384]⟩
abbrev S4x32x4x384x128x4 : Shape := ⟨6, ![4, 32, 4, 384, 128, 4]⟩
abbrev S4x32x4x4x128x384 : Shape := ⟨6, ![4, 32, 4, 4, 128, 384]⟩
abbrev S1x1x4x4x128x384 : Shape := ⟨6, ![1, 1, 4, 4, 128, 384]⟩
abbrev S1x32x1x1x128x384 : Shape := ⟨6, ![1, 32, 1, 1, 128, 384]⟩
abbrev S16 : Shape := ⟨1, ![16]⟩
abbrev S4x4 : Shape := ⟨2, ![4, 4]⟩
abbrev S1x1x4x4x1x1 : Shape := ⟨6, ![1, 1, 4, 4, 1, 1]⟩
abbrev S4x32x4x4x128 : Shape := ⟨5, ![4, 32, 4, 4, 128]⟩
abbrev S4x32x4x4x128x1 : Shape := ⟨6, ![4, 32, 4, 4, 128, 1]⟩
abbrev S4x32x4x64x4x128 : Shape := ⟨6, ![4, 32, 4, 64, 4, 128]⟩

abbrev nBuf : Space → Nat
  | .hbm => 146
  | .vmem => 0
  | .smem => 0
  | _ => 0

abbrev hbmTy0_0 (i : Nat) : BufTy := match i % 128 with
  | 0 => ⟨S4x4096x1024, .bf16⟩
  | 1 => ⟨S4x4096x512, .bf16⟩
  | 2 => ⟨S4x4096x1024, .f32⟩
  | 3 => ⟨S32x16, .f32⟩
  | 4 => ⟨S128x384, .i32⟩
  | 5 => ⟨S1x1024, .f32⟩
  | 6 => ⟨S1024x1024, .bf16⟩
  | 7 => ⟨S1024x1024, .bf16⟩
  | 8 => ⟨S1x16, .f32⟩
  | 9 => ⟨S1024, .f32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x4096x1024, .f32⟩
  | 27 => ⟨S4x4096x16x64, .f32⟩
  | 28 => ⟨S4x4096x256, .bf16⟩
  | 29 => ⟨S4x4096x256, .f32⟩
  | 30 => ⟨S4x4096x4x64, .f32⟩
  | 31 => ⟨S4x4096x256, .bf16⟩
  | 32 => ⟨S4x4096x256, .f32⟩
  | 33 => ⟨S4x4096x4x64, .f32⟩
  | 34 => ⟨S1024x1024, .f32⟩
  | 35 => ⟨S4x4096x1024, .f32⟩
  | 36 => ⟨S4x32x128x4x4x64, .f32⟩
  | 37 => ⟨S_, .i32⟩
  | 38 => ⟨S_, .f32⟩
  | 39 => ⟨S4x4352x4x64, .f32⟩
  | 40 => ⟨S4x34x128x4x64, .f32⟩
  | 41 => ⟨S4x32x128x4x64, .f32⟩
  | 42 => ⟨S4x32x128x4x64, .f32⟩
  | 43 => ⟨S4x32x128x4x64, .f32⟩
  | 44 => ⟨S4x32x384x4x64, .f32⟩
  | 45 => ⟨S_, .i32⟩
  | 46 => ⟨S_, .f32⟩
  | 47 => ⟨S4x4352x4x64, .f32⟩
  | 48 => ⟨S4x34x128x4x64, .f32⟩
  | 49 => ⟨S4x32x128x4x64, .f32⟩
  | 50 => ⟨S4x32x128x4x64, .f32⟩
  | 51 => ⟨S4x32x128x4x64, .f32⟩
  | 52 => ⟨S4x32x384x4x64, .f32⟩
  | 53 => ⟨S128x384, .i32⟩
  | 54 => ⟨S128x384, .i32⟩
  | 55 => ⟨S_, .i32⟩
  | 56 => ⟨S128x384, .i32⟩
  | 57 => ⟨S128x384, .i32⟩
  | 58 => ⟨S128x384, .i32⟩
  | 59 => ⟨S128x384, .i32⟩
  | 60 => ⟨S_, .i32⟩
  | 61 => ⟨S128x384, .i32⟩
  | 62 => ⟨S128x384, .i1⟩
  | 63 => ⟨S32x384, .i32⟩
  | 64 => ⟨S_, .i32⟩
  | 65 => ⟨S32x384, .i32⟩
  | 66 => ⟨S32x384, .i32⟩
  | 67 => ⟨S_, .i32⟩
  | 68 => ⟨S32x384, .i32⟩
  | 69 => ⟨S32x384, .i32⟩
  | 70 => ⟨S32x384, .i32⟩
  | 71 => ⟨S32x384, .i32⟩
  | 72 => ⟨S_, .i32⟩
  | 73 => ⟨S32x384, .i32⟩
  | 74 => ⟨S32x384, .i1⟩
  | 75 => ⟨S_, .i32⟩
  | 76 => ⟨S32x384, .i32⟩
  | 77 => ⟨S32x384, .i1⟩
  | 78 => ⟨S32x384, .i1⟩
  | 79 => ⟨S1x128x384, .i1⟩
  | 80 => ⟨S32x1x384, .i1⟩
  | 81 => ⟨S32x128x384, .i1⟩
  | 82 => ⟨S32x128x384, .i1⟩
  | 83 => ⟨S32x128x384, .i1⟩
  | 84 => ⟨S_, .i32⟩
  | 85 => ⟨S128x384, .i32⟩
  | 86 => ⟨S128x384, .i1⟩
  | 87 => ⟨S_, .i32⟩
  | 88 => ⟨S128x384, .i32⟩
  | 89 => ⟨S128x384, .i32⟩
  | 90 => ⟨S128x384, .i32⟩
  | 91 => ⟨S128x384x1, .i32⟩
  | 92 => ⟨S128x384x16, .f32⟩
  | 93 => ⟨S16x128x384, .f32⟩
  | 94 => ⟨S4x4x128x384, .f32⟩
  | 95 => ⟨S4x32x4x384x128x4, .f32⟩
  | 96 => ⟨S4x32x4x4x128x384, .f32⟩
  | 97 => ⟨S_, .f32⟩
  | 98 => ⟨S_, .f32⟩
  | 99 => ⟨S4x32x4x4x128x384, .f32⟩
  | 100 => ⟨S4x32x4x4x128x384, .f32⟩
  | 101 => ⟨S1x1x4x4x128x384, .f32⟩
  | 102 => ⟨S4x32x4x4x128x384, .f32⟩
  | 103 => ⟨S4x32x4x4x128x384, .f32⟩
  | 104 => ⟨S1x32x1x1x128x384, .i1⟩
  | 105 => ⟨S_, .f32⟩
  | 106 => ⟨S_, .f32⟩
  | 107 => ⟨S4x32x4x4x128x384, .i1⟩
  | 108 => ⟨S4x32x4x4x128x384, .f32⟩
  | 109 => ⟨S4x32x4x4x128x384, .f32⟩
  | 110 => ⟨S16, .f32⟩
  | 111 => ⟨S4x4, .f32⟩
  | 112 => ⟨S1x1x4x4x1x1, .f32⟩
  | 113 => ⟨S_, .f32⟩
  | 114 => ⟨S4x32x4x4x128, .f32⟩
  | 115 => ⟨S4x32x4x4x128x1, .f32⟩
  | 116 => ⟨S4x32x4x4x128x1, .f32⟩
  | 117 => ⟨S4x32x4x4x128x1, .f32⟩
  | 118 => ⟨S4x32x4x4x128x384, .f32⟩
  | 119 => ⟨S4x32x4x4x128x384, .f32⟩
  | 120 => ⟨S4x32x4x4x128x384, .f32⟩
  | 121 => ⟨S_, .f32⟩
  | 122 => ⟨S4x32x4x4x128, .f32⟩
  | 123 => ⟨S4x32x4x4x128x1, .f32⟩
  | 124 => ⟨S4x32x4x4x128x1, .f32⟩
  | 125 => ⟨S4x32x4x4x128x1, .f32⟩
  | 126 => ⟨S4x32x4x4x128x1, .f32⟩
  | 127 => ⟨S4x32x4x4x128x1, .f32⟩
  | _ => ⟨S4x4096x1024, .bf16⟩

abbrev hbmTy0_1 (i : Nat) : BufTy := match i % 128 with
  | 0 => ⟨S4x32x4x4x128x384, .f32⟩
  | 1 => ⟨S4x32x4x4x128x384, .f32⟩
  | 2 => ⟨S4x32x4x64x4x128, .f32⟩
  | 3 => ⟨S4x32x128x4x4x64, .f32⟩
  | 4 => ⟨S4x4096x1024, .f32⟩
  | 5 => ⟨S4x4096x1024, .f32⟩
  | 6 => ⟨S4x4096x1024, .f32⟩
  | 7 => ⟨S_, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | 13 => ⟨S4x4096x1024, .f32⟩
  | 14 => ⟨S4x4096x1024, .f32⟩
  | 15 => ⟨S1024x1024, .f32⟩
  | 16 => ⟨S4x4096x1024, .f32⟩
  | 17 => ⟨S4x4096x1024, .f32⟩
  | _ => ⟨S4x4096x1024, .bf16⟩

abbrev hbmTy (i : Nat) : BufTy := match i / 128 with
  | 0 => hbmTy0_0 i
  | 1 => hbmTy0_1 i
  | _ => ⟨S4x4096x1024, .bf16⟩

abbrev bufTy : (tb : Table) → Fin (tcTables nBuf tb) → BufTy
  | .hbm, ⟨i, _⟩ => hbmTy i
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_2 : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_3 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_5 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_7 : Ref sig .tc := ⟨.hbm, 72, rfl⟩
abbrev main_v52 : Ref sig .tc := ⟨.hbm, 73, rfl⟩
abbrev main_v53 : Ref sig .tc := ⟨.hbm, 74, rfl⟩
abbrev main_c_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_9 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_14 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S16384x512 : Shape := ⟨2, ![16384, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S1024x512, .bf16⟩
  | .hbm, ⟨4, _⟩ => ⟨S16384x1024, .bf16⟩
  | .hbm, ⟨5, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel2Ideal.lean ====
variable {F : FTy → Type} [FloatOps F] [Named F]
def κ : String → Option EReal := fun
  | "scale" => some (((1 / 8) * (Real.log 2)⁻¹ : ℝ) : EReal)
  | _ => none
-- ==== Reference2Ideal.lean ====
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x512 : Shape := ⟨2, ![16384, 512]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S1024x512, .bf16⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1024x512, .f32⟩
  | .hbm, ⟨27, _⟩ => ⟨S16384x512, .f32⟩
  | .hbm, ⟨28, _⟩ => ⟨S_, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S4x2x128x32x1024 : Shape := ⟨5, ![4, 2, 128, 32, 1024]⟩
abbrev S128x32x64 : Shape := ⟨3, ![128, 32, 64]⟩
abbrev S4x32x128x1024 : Shape := ⟨4, ![4, 32, 128, 1024]⟩
abbrev S1x1024 : Shape := ⟨2, ![1, 1024]⟩
abbrev S1024x1024 : Shape := ⟨2, ![1024, 1024]⟩
abbrev S1x2x32x32x1024 : Shape := ⟨5, ![1, 2, 32, 32, 1024]⟩
abbrev S32x32x64 : Shape := ⟨3, ![32, 32, 64]⟩
abbrev S1x32x32x1024 : Shape := ⟨4, ![1, 32, 32, 1024]⟩
abbrev S32x32x1024 : Shape := ⟨3, ![32, 32, 1024]⟩
abbrev S1x1x1x32x1024 : Shape := ⟨5, ![1, 1, 1, 32, 1024]⟩
abbrev S32x1024 : Shape := ⟨2, ![32, 1024]⟩
abbrev S64x1024 : Shape := ⟨2, ![64, 1024]⟩
abbrev S1x32x64 : Shape := ⟨3, ![1, 32, 64]⟩
abbrev S32x64 : Shape := ⟨2, ![32, 64]⟩
abbrev S1x32x1024 : Shape := ⟨3, ![1, 32, 1024]⟩
abbrev S1x16x32x1024 : Shape := ⟨4, ![1, 16, 32, 1024]⟩
abbrev S16x32x1024 : Shape := ⟨3, ![16, 32, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4x2x128x32x1024, .bf16⟩
  | .hbm, ⟨1, _⟩ => ⟨S128x32x64, .bf16⟩
  | .hbm, ⟨2, _⟩ => ⟨S4x32x128x1024, .f32⟩
  | .hbm, ⟨3, _⟩ => ⟨S1x1024, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S4x32x128x1024, .f32⟩
  | .local _ .vmem, ⟨0, _⟩ => ⟨S1x2x32x32x1024, .bf16⟩
  | .local _ .vmem, ⟨1, _⟩ => ⟨S1x2x32x32x1024, .bf16⟩
  | .local _ .vmem, ⟨2, _⟩ => ⟨S32x32x64, .bf16⟩
  | .local _ .vmem, ⟨3, _⟩ => ⟨S32x32x64, .bf16⟩
  | .local _ .vmem, ⟨4, _⟩ => ⟨S1x32x32x1024, .f32⟩
  | .local _ .vmem, ⟨5, _⟩ => ⟨S1x32x32x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x32x32x1024, .f32⟩
  | .local _ .vmem, ⟨11, _⟩ => ⟨S1x32x32x1024, .f32⟩
  | .local _ .vmem, ⟨12, _⟩ => ⟨S32x32x1024, .f32⟩
  | _, _ => ⟨S4x2x128x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x32x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x2x128x32x1024 : Shape := ⟨5, ![4, 2, 128, 32, 1024]⟩
abbrev S128x32x64 : Shape := ⟨3, ![128, 32, 64]⟩
abbrev S4x32x128x1024 : Shape := ⟨4, ![4, 32, 128, 1024]⟩
abbrev S1x1024 : Shape := ⟨2, ![1, 1024]⟩
abbrev S1024x1024 : Shape := ⟨2, ![1024, 1024]⟩
abbrev S128x32x32 : Shape := ⟨3, ![128, 32, 32]⟩
abbrev S4x1x128x32x1024 : Shape := ⟨5, ![4, 1, 128, 32, 1024]⟩
abbrev S4x128x32x1024 : Shape := ⟨4, ![4, 128, 32, 1024]⟩
abbrev S128x4x1024x32 : Shape := ⟨4, ![128, 4, 1024, 32]⟩
abbrev S1024 : Shape := ⟨1, ![1024]⟩
abbrev S_ : Shape := ⟨0, ![]⟩
abbrev S4x32x128 : Shape := ⟨3, ![4, 32, 128]⟩
abbrev S4x32x128x1 : Shape := ⟨4, ![4, 32, 128, 1]⟩
abbrev S1x1x1x1024 : Shape := ⟨4, ![1, 1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x2x128x32x1024, .bf16⟩
  | .hbm, ⟨1, _⟩ => ⟨S128x32x64, .bf16⟩
  | .hbm, ⟨2, _⟩ => ⟨S4x32x128x1024, .f32⟩
  | .hbm, ⟨3, _⟩ => ⟨S1x1024, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S4x2x128x32x1024, .f32⟩
  | .hbm, ⟨8, _⟩ => ⟨S128x32x64, .f32⟩
  | .hbm, ⟨9, _⟩ => ⟨S128x32x32, .f32⟩
  | .hbm, ⟨10, _⟩ => ⟨S4x1x128x32x1024, .f32⟩
  | .hbm, ⟨11, _⟩ => ⟨S4x128x32x1024, .f32⟩
  | .hbm, ⟨12, _⟩ => ⟨S128x4x1024x32, .f32⟩
  | .hbm, ⟨13, _⟩ => ⟨S4x32x128x1024, .f32⟩
  | .hbm, ⟨14, _⟩ => ⟨S128x32x32, .f32⟩
  | .hbm, ⟨15, _⟩ => ⟨S4x1x128x32x1024, .f32⟩
  | .hbm, ⟨16, _⟩ => ⟨S4x128x32x1024, .f32⟩
  | .hbm, ⟨17, _⟩ => ⟨S128x4x1024x32, .f32⟩
  | .hbm, ⟨18, _⟩ => ⟨S4x32x128x1024, .f32⟩
  | .hbm, ⟨19, _⟩ => ⟨S4x32x128x1024, .f32⟩
  | .hbm, ⟨20, _⟩ => ⟨S1024, .f32⟩
  | .hbm, ⟨21, _⟩ => ⟨S4x32x128x1024, .f32⟩
  | .hbm, ⟨22, _⟩ => ⟨S_, .f32⟩
  | .hbm, ⟨23, _⟩ => ⟨S4x32x128, .f32⟩
  | .hbm, ⟨24, _⟩ => ⟨S4x32x128x1, .f32⟩
  | .hbm, ⟨25, _⟩ => ⟨S_, .f32⟩
  | .hbm, ⟨26, _⟩ => ⟨S4x32x128x1, .f32⟩
  | .hbm, ⟨27, _⟩ => ⟨S4x32x128x1, .f32⟩
  | .hbm, ⟨28, _⟩ => ⟨S_, .f32⟩
  | .hbm, ⟨29, _⟩ => ⟨S4x32x128x1, .f32⟩
  | .hbm, ⟨30, _⟩ => ⟨S4x32x128x1, .f32⟩
  | .hbm, ⟨31, _⟩ => ⟨S4x32x128x1, .f32⟩
  | .hbm, ⟨32, _⟩ => ⟨S4x32x128x1024, .f32⟩
  | .hbm, ⟨33, _⟩ => ⟨S4x32x128x1024, .f32⟩
  | .hbm, ⟨34, _⟩ => ⟨S1x1x1x1024, .f32⟩
  | .hbm, ⟨35, _⟩ => ⟨S4x32x128x1024, .f32⟩
  | .hbm, ⟨36, _⟩ => ⟨S4x32x128x1024, .f32⟩
  | .hbm, ⟨37, _⟩ => ⟨S1024x1024, .f32⟩
  | .hbm, ⟨38, _⟩ => ⟨S4x32x128x1024, .f32⟩
  | .hbm, ⟨39, _⟩ => ⟨S4x32x128x1024, .f32⟩
  | .hbm, ⟨40, _⟩ => ⟨S4x32x128x1024, .f32⟩
  | .hbm, ⟨41, _⟩ => ⟨S_, .f32⟩
  | .hbm, ⟨42, _⟩ => ⟨S4x32x128x1024, .f32⟩
  | .hbm, ⟨43, _⟩ => ⟨S4x32x128x1024, .f32⟩
  | .hbm, ⟨44, _⟩ => ⟨S_, .f32⟩
  | .hbm, ⟨45, _⟩ => ⟨S4x32x128x1024, .f32⟩
  | .hbm, ⟨46, _⟩ => ⟨S4x32x128x1024, .f32⟩
  | .hbm, ⟨47, _⟩ => ⟨S4x32x128x1024, .f32⟩
  | .hbm, ⟨48, _⟩ => ⟨S4x32x128x1024, .f32⟩
  | .hbm, ⟨49, _⟩ => ⟨S1024x1024, .f32⟩
  | .hbm, ⟨50, _⟩ => ⟨S4x32x128x1024, .f32⟩
  | .hbm, ⟨51, _⟩ => ⟨S4x32x128x1024, .f32⟩
  | .hbm, ⟨52, _⟩ => ⟨S1024, .f32⟩
  | .hbm, ⟨53, _⟩ => ⟨S4x32x128x1024, .f32⟩
  | .hbm, ⟨54, _⟩ => ⟨S_, .f32⟩
  | .hbm, ⟨55, _⟩ => ⟨S4x32x128, .f32⟩
  | .hbm, ⟨56, _⟩ => ⟨S4x32x128x1, .f32⟩
  | .hbm, ⟨57, _⟩ => ⟨S_, .f32⟩
  | .hbm, ⟨58, _⟩ => ⟨S4x32x128x1, .f32⟩
  | .hbm, ⟨59, _⟩ => ⟨S4x32x128x1, .f32⟩
  | .hbm, ⟨60, _⟩ => ⟨S_, .f32⟩
  | .hbm, ⟨61, _⟩ => ⟨S4x32x128x1, .f32⟩
  | .hbm, ⟨62, _⟩ => ⟨S4x32x128x1, .f32⟩
  | .hbm, ⟨63, _⟩ => ⟨S4x32x128x1, .f32⟩
  | .hbm, ⟨64, _⟩ => ⟨S4x32x128x1024, .f32⟩
  | .hbm, ⟨65, _⟩ => ⟨S4x32x128x1024, .f32⟩
  | .hbm, ⟨66, _⟩ => ⟨S1x1x1x1024, .f32⟩
  | .hbm, ⟨67, _⟩ => ⟨S4x32x128x1024, .f32⟩
  | .hbm, ⟨68, _⟩ => ⟨S4x32x128x1024, .f32⟩
  | _, _ => ⟨S4x2x128x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Kernel4.lean ====
abbrev S256x256 : Shape := ⟨2, ![256, 256]⟩
abbrev S256x512 : Shape := ⟨2, ![256, 512]⟩
abbrev S1x1024 : Shape := ⟨2, ![1, 1024]⟩
abbrev S4x128x32x1024 : Shape := ⟨4, ![4, 128, 32, 1024]⟩
abbrev S4x2x128x32x1024 : Shape := ⟨5, ![4, 2, 128, 32, 1024]⟩
abbrev S1x128x16x1024 : Shape := ⟨4, ![1, 128, 16, 1024]⟩
abbrev S1x2x128x16x1024 : Shape := ⟨5, ![1, 2, 128, 16, 1024]⟩
abbrev S128x16x1024 : Shape := ⟨3, ![128, 16, 1024]⟩
abbrev S2048x1024 : Shape := ⟨2, ![2048, 1024]⟩
abbrev S2048 : Shape := ⟨1, ![2048]⟩
abbrev S2048x1 : Shape := ⟨2, ![2048, 1]⟩
abbrev S16x128x1024 : Shape := ⟨3, ![16, 128, 1024]⟩
abbrev S2048x256 : Shape := ⟨2, ![2048, 256]⟩
abbrev S2048x512 : Shape := ⟨2, ![2048, 512]⟩
abbrev S128x512 : Shape := ⟨2, ![128, 512]⟩
abbrev S128x256 : Shape := ⟨2, ![128, 256]⟩
abbrev S1x256x256 : Shape := ⟨3, ![1, 256, 256]⟩
abbrev S8x256x256 : Shape := ⟨3, ![8, 256, 256]⟩
abbrev S256x8x256 : Shape := ⟨3, ![256, 8, 256]⟩
abbrev S256x16x256 : Shape := ⟨3, ![256, 16, 256]⟩
abbrev S2x128x16x256 : Shape := ⟨4, ![2, 128, 16, 256]⟩
abbrev S1x2x128x16x256 : Shape := ⟨5, ![1, 2, 128, 16, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S1x1024, .f32⟩
  | .hbm, ⟨3, _⟩ => ⟨S4x128x32x1024, .f32⟩
  | .hbm, ⟨4, _⟩ => ⟨S4x2x128x32x1024, .bf16⟩
  | .local _ .vmem, ⟨0, _⟩ => ⟨S256x256, .bf16⟩
  | .local _ .vmem, ⟨1, _⟩ => ⟨S256x512, .bf16⟩
  | .local _ .vmem, ⟨2, _⟩ => ⟨S1x1024, .f32⟩
  | .local _ .vmem, ⟨3, _⟩ => ⟨S1x128x16x1024, .f32⟩
  | .local _ .vmem, ⟨4, _⟩ => ⟨S1x128x16x1024, .f32⟩
  | .local _ .vmem, ⟨5, _⟩ => ⟨S1x2x128x16x1024, .bf16⟩
  | .local _ .vmem, ⟨6, _⟩ => ⟨S1x2x128x16x1024, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F]
-- ==== Reference4Ideal.lean ====
abbrev S256x256 : Shape := ⟨2, ![256, 256]⟩
abbrev S256x512 : Shape := ⟨2, ![256, 512]⟩
abbrev S1x1024 : Shape := ⟨2, ![1, 1024]⟩
abbrev S4x128x32x1024 : Shape := ⟨4, ![4, 128, 32, 1024]⟩
abbrev S1024 : Shape := ⟨1, ![1024]⟩
abbrev S_ : Shape := ⟨0, ![]⟩
abbrev S4x128x32 : Shape := ⟨3, ![4, 128, 32]⟩
abbrev S4x128x32x1 : Shape := ⟨4, ![4, 128, 32, 1]⟩
abbrev S1x1x1x1024 : Shape := ⟨4, ![1, 1, 1, 1024]⟩
abbrev S4x128x32x4x256 : Shape := ⟨5, ![4, 128, 32, 4, 256]⟩
abbrev S128x256 : Shape := ⟨2, ![128, 256]⟩
abbrev S128x128 : Shape := ⟨2, ![128, 128]⟩
abbrev S4x32x1024x128 : Shape := ⟨4, ![4, 32, 1024, 128]⟩
abbrev S4x1x128x32x1024 : Shape := ⟨5, ![4, 1, 128, 32, 1024]⟩
abbrev S4x2x128x32x1024 : Shape := ⟨5, ![4, 2, 128, 32, 1024]⟩

abbrev nBuf : Space → Nat
  | .hbm => 50
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S1x1024, .f32⟩
  | .hbm, ⟨3, _⟩ => ⟨S4x128x32x1024, .f32⟩
  | .hbm, ⟨4, _⟩ => ⟨S256x256, .f32⟩
  | .hbm, ⟨5, _⟩ => ⟨S256x512, .f32⟩
  | .hbm, ⟨6, _⟩ => ⟨S1024, .f32⟩
  | .hbm, ⟨7, _⟩ => ⟨S4x128x32x1024, .f32⟩
  | .hbm, ⟨8, _⟩ => ⟨S_, .f32⟩
  | .hbm, ⟨9, _⟩ => ⟨S4x128x32, .f32⟩
  | .hbm, ⟨10, _⟩ => ⟨S4x128x32x1, .f32⟩
  | .hbm, ⟨11, _⟩ => ⟨S_, .f32⟩
  | .hbm, ⟨12, _⟩ => ⟨S4x128x32x1, .f32⟩
  | .hbm, ⟨13, _⟩ => ⟨S4x128x32x1, .f32⟩
  | .hbm, ⟨14, _⟩ => ⟨S_, .f32⟩
  | .hbm, ⟨15, _⟩ => ⟨S4x128x32x1, .f32⟩
  | .hbm, ⟨16, _⟩ => ⟨S4x128x32x1, .f32⟩
  | .hbm, ⟨17, _⟩ => ⟨S4x128x32x1, .f32⟩
  | .hbm, ⟨18, _⟩ => ⟨S4x128x32x1024, .f32⟩
  | .hbm, ⟨19, _⟩ => ⟨S4x128x32x1024, .f32⟩
  | .hbm, ⟨20, _⟩ => ⟨S1x1x1x1024, .f32⟩
  | .hbm, ⟨21, _⟩ => ⟨S4x128x32x1024, .f32⟩
  | .hbm, ⟨22, _⟩ => ⟨S4x128x32x1024, .f32⟩
  | .hbm, ⟨23, _⟩ => ⟨S4x128x32x4x256, .f32⟩
  | .hbm, ⟨24, _⟩ => ⟨S256x256, .f32⟩
  | .hbm, ⟨25, _⟩ => ⟨S4x128x32x4x256, .f32⟩
  | .hbm, ⟨26, _⟩ => ⟨S4x128x32x1024, .f32⟩
  | .hbm, ⟨27, _⟩ => ⟨S256x256, .f32⟩
  | .hbm, ⟨28, _⟩ => ⟨S4x128x32x4x256, .f32⟩
  | .hbm, ⟨29, _⟩ => ⟨S4x128x32x1024, .f32⟩
  | .hbm, ⟨30, _⟩ => ⟨S128x256, .f32⟩
  | .hbm, ⟨31, _⟩ => ⟨S128x128, .f32⟩
  | .hbm, ⟨32, _⟩ => ⟨S4x32x1024x128, .f32⟩
  | .hbm, ⟨33, _⟩ => ⟨S4x128x32x1024, .f32⟩
  | .hbm, ⟨34, _⟩ => ⟨S128x128, .f32⟩
  | .hbm, ⟨35, _⟩ => ⟨S4x32x1024x128, .f32⟩
  | .hbm, ⟨36, _⟩ => ⟨S4x128x32x1024, .f32⟩
  | .hbm, ⟨37, _⟩ => ⟨S4x128x32x1024, .f32⟩
  | .hbm, ⟨38, _⟩ => ⟨S128x256, .f32⟩
  | .hbm, ⟨39, _⟩ => ⟨S128x128, .f32⟩
  | .hbm, ⟨40, _⟩ => ⟨S4x32x1024x128, .f32⟩
  | .hbm, ⟨41, _⟩ => ⟨S4x128x32x1024, .f32⟩
  | .hbm, ⟨42, _⟩ => ⟨S128x128, .f32⟩
  | .hbm, ⟨43, _⟩ => ⟨S4x32x1024x128, .f32⟩
  | .hbm, ⟨44, _⟩ => ⟨S4x128x32x1024, .f32⟩
  | .hbm, ⟨45, _⟩ => ⟨S4x128x32x1024, .f32⟩
  | .hbm, ⟨46, _⟩ => ⟨S4x1x128x32x1024, .f32⟩
  | .hbm, ⟨47, _⟩ => ⟨S4x1x128x32x1024, .f32⟩
  | .hbm, ⟨48, _⟩ => ⟨S4x2x128x32x1024, .f32⟩
  | .hbm, ⟨49, _⟩ => ⟨S4x2x128x32x1024, .bf16⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== Kernel5.lean ====
abbrev S2x2x128x128x1024 : Shape := ⟨5, ![2, 2, 128, 128, 1024]⟩
abbrev S128x128x256 : Shape := ⟨3, ![128, 128, 256]⟩
abbrev S2x128x128x1024 : Shape := ⟨4, ![2, 128, 128, 1024]⟩
abbrev S1x1024 : Shape := ⟨2, ![1, 1024]⟩
abbrev S1024x1024 : Shape := ⟨2, ![1024, 1024]⟩
abbrev S1x2x8x128x1024 : Shape := ⟨5, ![1, 2, 8, 128, 1024]⟩
abbrev S8x128x256 : Shape := ⟨3, ![8, 128, 256]⟩
abbrev S1x128x8x1024 : Shape := ⟨4, ![1, 128, 8, 1024]⟩
abbrev S128x8x1024 : Shape := ⟨3, ![128, 8, 1024]⟩
abbrev S1x1x1x128x1024 : Shape := ⟨5, ![1, 1, 1, 128, 1024]⟩
abbrev S128x1024 : Shape := ⟨2, ![128, 1024]⟩
abbrev S256x1024 : Shape := ⟨2, ![256, 1024]⟩
abbrev S1x128x256 : Shape := ⟨3, ![1, 128, 256]⟩
abbrev S128x256 : Shape := ⟨2, ![128, 256]⟩
abbrev S1x128x1024 : Shape := ⟨3, ![1, 128, 1024]⟩
abbrev S8x128x1024 : Shape := ⟨3, ![8, 128, 1024]⟩
abbrev S1x64x8x1024 : Shape := ⟨4, ![1, 64, 8, 1024]⟩
abbrev S64x8x1024 : Shape := ⟨3, ![64, 8, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x2x128x128x1024, .bf16⟩
  | .hbm, ⟨1, _⟩ => ⟨S128x128x256, .bf16⟩
  | .hbm, ⟨2, _⟩ => ⟨S2x128x128x1024, .f32⟩
  | .hbm, ⟨3, _⟩ => ⟨S1x1024, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S2x128x128x1024, .f32⟩
  | .local _ .vmem, ⟨0, _⟩ => ⟨S1x2x8x128x1024, .bf16⟩
  | .local _ .vmem, ⟨1, _⟩ => ⟨S1x2x8x128x1024, .bf16⟩
  | .local _ .vmem, ⟨2, _⟩ => ⟨S8x128x256, .bf16⟩
  | .local _ .vmem, ⟨3, _⟩ => ⟨S8x128x256, .bf16⟩
  | .local _ .vmem, ⟨4, _⟩ => ⟨S1x128x8x1024, .f32⟩
  | .local _ .vmem, ⟨5, _⟩ => ⟨S1x128x8x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x128x8x1024, .f32⟩
  | .local _ .vmem, ⟨11, _⟩ => ⟨S1x128x8x1024, .f32⟩
  | .local _ .vmem, ⟨12, _⟩ => ⟨S128x8x1024, .f32⟩
  | _, _ => ⟨S2x2x128x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x2x128x128x1024 : Shape := ⟨5, ![2, 2, 128, 128, 1024]⟩
abbrev S128x128x256 : Shape := ⟨3, ![128, 128, 256]⟩
abbrev S2x128x128x1024 : Shape := ⟨4, ![2, 128, 128, 1024]⟩
abbrev S1x1024 : Shape := ⟨2, ![1, 1024]⟩
abbrev S1024x1024 : Shape := ⟨2, ![1024, 1024]⟩
abbrev S128x128x128 : Shape := ⟨3, ![128, 128, 128]⟩
abbrev S2x1x128x128x1024 : Shape := ⟨5, ![2, 1, 128, 128, 1024]⟩
abbrev S128x2x1024x128 : Shape := ⟨4, ![128, 2, 1024, 128]⟩
abbrev S1024 : Shape := ⟨1, ![1024]⟩
abbrev S_ : Shape := ⟨0, ![]⟩
abbrev S2x128x128 : Shape := ⟨3, ![2, 128, 128]⟩
abbrev S2x128x128x1 : Shape := ⟨4, ![2, 128, 128, 1]⟩
abbrev S1x1x1x1024 : Shape := ⟨4, ![1, 1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x2x128x128x1024, .bf16⟩
  | .hbm, ⟨1, _⟩ => ⟨S128x128x256, .bf16⟩
  | .hbm, ⟨2, _⟩ => ⟨S2x128x128x1024, .f32⟩
  | .hbm, ⟨3, _⟩ => ⟨S1x1024, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S2x2x128x128x1024, .f32⟩
  | .hbm, ⟨8, _⟩ => ⟨S128x128x256, .f32⟩
  | .hbm, ⟨9, _⟩ => ⟨S128x128x128, .f32⟩
  | .hbm, ⟨10, _⟩ => ⟨S2x1x128x128x1024, .f32⟩
  | .hbm, ⟨11, _⟩ => ⟨S2x128x128x1024, .f32⟩
  | .hbm, ⟨12, _⟩ => ⟨S128x2x1024x128, .f32⟩
  | .hbm, ⟨13, _⟩ => ⟨S2x128x128x1024, .f32⟩
  | .hbm, ⟨14, _⟩ => ⟨S128x128x128, .f32⟩
  | .hbm, ⟨15, _⟩ => ⟨S2x1x128x128x1024, .f32⟩
  | .hbm, ⟨16, _⟩ => ⟨S2x128x128x1024, .f32⟩
  | .hbm, ⟨17, _⟩ => ⟨S128x2x1024x128, .f32⟩
  | .hbm, ⟨18, _⟩ => ⟨S2x128x128x1024, .f32⟩
  | .hbm, ⟨19, _⟩ => ⟨S2x128x128x1024, .f32⟩
  | .hbm, ⟨20, _⟩ => ⟨S1024, .f32⟩
  | .hbm, ⟨21, _⟩ => ⟨S2x128x128x1024, .f32⟩
  | .hbm, ⟨22, _⟩ => ⟨S_, .f32⟩
  | .hbm, ⟨23, _⟩ => ⟨S2x128x128, .f32⟩
  | .hbm, ⟨24, _⟩ => ⟨S2x128x128x1, .f32⟩
  | .hbm, ⟨25, _⟩ => ⟨S_, .f32⟩
  | .hbm, ⟨26, _⟩ => ⟨S2x128x128x1, .f32⟩
  | .hbm, ⟨27, _⟩ => ⟨S2x128x128x1, .f32⟩
  | .hbm, ⟨28, _⟩ => ⟨S_, .f32⟩
  | .hbm, ⟨29, _⟩ => ⟨S2x128x128x1, .f32⟩
  | .hbm, ⟨30, _⟩ => ⟨S2x128x128x1, .f32⟩
  | .hbm, ⟨31, _⟩ => ⟨S2x128x128x1, .f32⟩
  | .hbm, ⟨32, _⟩ => ⟨S2x128x128x1024, .f32⟩
  | .hbm, ⟨33, _⟩ => ⟨S2x128x128x1024, .f32⟩
  | .hbm, ⟨34, _⟩ => ⟨S1x1x1x1024, .f32⟩
  | .hbm, ⟨35, _⟩ => ⟨S2x128x128x1024, .f32⟩
  | .hbm, ⟨36, _⟩ => ⟨S2x128x128x1024, .f32⟩
  | .hbm, ⟨37, _⟩ => ⟨S1024x1024, .f32⟩
  | .hbm, ⟨38, _⟩ => ⟨S2x128x128x1024, .f32⟩
  | .hbm, ⟨39, _⟩ => ⟨S2x128x128x1024, .f32⟩
  | .hbm, ⟨40, _⟩ => ⟨S2x128x128x1024, .f32⟩
  | .hbm, ⟨41, _⟩ => ⟨S_, .f32⟩
  | .hbm, ⟨42, _⟩ => ⟨S2x128x128x1024, .f32⟩
  | .hbm, ⟨43, _⟩ => ⟨S2x128x128x1024, .f32⟩
  | .hbm, ⟨44, _⟩ => ⟨S_, .f32⟩
  | .hbm, ⟨45, _⟩ => ⟨S2x128x128x1024, .f32⟩
  | .hbm, ⟨46, _⟩ => ⟨S2x128x128x1024, .f32⟩
  | .hbm, ⟨47, _⟩ => ⟨S2x128x128x1024, .f32⟩
  | .hbm, ⟨48, _⟩ => ⟨S2x128x128x1024, .f32⟩
  | .hbm, ⟨49, _⟩ => ⟨S1024x1024, .f32⟩
  | .hbm, ⟨50, _⟩ => ⟨S2x128x128x1024, .f32⟩
  | .hbm, ⟨51, _⟩ => ⟨S2x128x128x1024, .f32⟩
  | .hbm, ⟨52, _⟩ => ⟨S1024, .f32⟩
  | .hbm, ⟨53, _⟩ => ⟨S2x128x128x1024, .f32⟩
  | .hbm, ⟨54, _⟩ => ⟨S_, .f32⟩
  | .hbm, ⟨55, _⟩ => ⟨S2x128x128, .f32⟩
  | .hbm, ⟨56, _⟩ => ⟨S2x128x128x1, .f32⟩
  | .hbm, ⟨57, _⟩ => ⟨S_, .f32⟩
  | .hbm, ⟨58, _⟩ => ⟨S2x128x128x1, .f32⟩
  | .hbm, ⟨59, _⟩ => ⟨S2x128x128x1, .f32⟩
  | .hbm, ⟨60, _⟩ => ⟨S_, .f32⟩
  | .hbm, ⟨61, _⟩ => ⟨S2x128x128x1, .f32⟩
  | .hbm, ⟨62, _⟩ => ⟨S2x128x128x1, .f32⟩
  | .hbm, ⟨63, _⟩ => ⟨S2x128x128x1, .f32⟩
  | .hbm, ⟨64, _⟩ => ⟨S2x128x128x1024, .f32⟩
  | .hbm, ⟨65, _⟩ => ⟨S2x128x128x1024, .f32⟩
  | .hbm, ⟨66, _⟩ => ⟨S1x1x1x1024, .f32⟩
  | .hbm, ⟨67, _⟩ => ⟨S2x128x128x1024, .f32⟩
  | .hbm, ⟨68, _⟩ => ⟨S2x128x128x1024, .f32⟩
  | _, _ => ⟨S2x2x128x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Kernel6.lean ====
abbrev S256x256 : Shape := ⟨2, ![256, 256]⟩
abbrev S256x512 : Shape := ⟨2, ![256, 512]⟩
abbrev S128x32x64 : Shape := ⟨3, ![128, 32, 64]⟩
abbrev S4x4096x1024 : Shape := ⟨3, ![4, 4096, 1024]⟩
abbrev S1x1024 : Shape := ⟨2, ![1, 1024]⟩
abbrev S1024x1024 : Shape := ⟨2, ![1024, 1024]⟩
abbrev S4x128x32x1024 : Shape := ⟨4, ![4, 128, 32, 1024]⟩
abbrev S4x2x128x32x1024 : Shape := ⟨5, ![4, 2, 128, 32, 1024]⟩
abbrev S1x128x16x1024 : Shape := ⟨4, ![1, 128, 16, 1024]⟩
abbrev S1x2x128x16x1024 : Shape := ⟨5, ![1, 2, 128, 16, 1024]⟩
abbrev S128x16x1024 : Shape := ⟨3, ![128, 16, 1024]⟩
abbrev S2048x1024 : Shape := ⟨2, ![2048, 1024]⟩
abbrev S2048 : Shape := ⟨1, ![2048]⟩
abbrev S2048x1 : Shape := ⟨2, ![2048, 1]⟩
abbrev S16x128x1024 : Shape := ⟨3, ![16, 128, 1024]⟩
abbrev S2048x256 : Shape := ⟨2, ![2048, 256]⟩
abbrev S2048x512 : Shape := ⟨2, ![2048, 512]⟩
abbrev S128x512 : Shape := ⟨2, ![128, 512]⟩
abbrev S128x256 : Shape := ⟨2, ![128, 256]⟩
abbrev S1x256x256 : Shape := ⟨3, ![1, 256, 256]⟩
abbrev S8x256x256 : Shape := ⟨3, ![8, 256, 256]⟩
abbrev S256x8x256 : Shape := ⟨3, ![256, 8, 256]⟩
abbrev S256x16x256 : Shape := ⟨3, ![256, 16, 256]⟩
abbrev S2x128x16x256 : Shape := ⟨4, ![2, 128, 16, 256]⟩
abbrev S1x2x128x16x256 : Shape := ⟨5, ![1, 2, 128, 16, 256]⟩
abbrev S4x32x128x1024 : Shape := ⟨4, ![4, 32, 128, 1024]⟩
abbrev S1x2x32x32x1024 : Shape := ⟨5, ![1, 2, 32, 32, 1024]⟩
abbrev S32x32x64 : Shape := ⟨3, ![32, 32, 64]⟩
abbrev S1x32x32x1024 : Shape := ⟨4, ![1, 32, 32, 1024]⟩
abbrev S32x32x1024 : Shape := ⟨3, ![32, 32, 1024]⟩
abbrev S1x1x1x32x1024 : Shape := ⟨5, ![1, 1, 1, 32, 1024]⟩
abbrev S32x1024 : Shape := ⟨2, ![32, 1024]⟩
abbrev S64x1024 : Shape := ⟨2, ![64, 1024]⟩
abbrev S1x32x64 : Shape := ⟨3, ![1, 32, 64]⟩
abbrev S32x64 : Shape := ⟨2, ![32, 64]⟩
abbrev S1x32x1024 : Shape := ⟨3, ![1, 32, 1024]⟩
abbrev S1x16x32x1024 : Shape := ⟨4, ![1, 16, 32, 1024]⟩
abbrev S16x32x1024 : Shape := ⟨3, ![16, 32, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S128x32x64, .bf16⟩
  | .hbm, ⟨3, _⟩ => ⟨S4x4096x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S4x128x32x1024, .f32⟩
  | .hbm, ⟨9, _⟩ => ⟨S4x2x128x32x1024, .bf16⟩
  | .hbm, ⟨10, _⟩ => ⟨S4x32x128x1024, .f32⟩
  | .hbm, ⟨11, _⟩ => ⟨S4x32x128x1024, .f32⟩
  | .hbm, ⟨12, _⟩ => ⟨S4x4096x1024, .f32⟩
  | .local _ .vmem, ⟨0, _⟩ => ⟨S256x256, .bf16⟩
  | .local _ .vmem, ⟨1, _⟩ => ⟨S256x512, .bf16⟩
  | .local _ .vmem, ⟨2, _⟩ => ⟨S1x1024, .f32⟩
  | .local _ .vmem, ⟨3, _⟩ => ⟨S1x128x16x1024, .f32⟩
  | .local _ .vmem, ⟨4, _⟩ => ⟨S1x128x16x1024, .f32⟩
  | .local _ .vmem, ⟨5, _⟩ => ⟨S1x2x128x16x1024, .bf16⟩
  | .local _ .vmem, ⟨6, _⟩ => ⟨S1x2x128x16x1024, .bf16⟩
  | .local _ .vmem, ⟨7, _⟩ => ⟨S1x2x32x32x1024, .bf16⟩
  | .local _ .vmem, ⟨8, _⟩ => ⟨S1x2x32x32x1024, .bf16⟩
  | .local _ .vmem, ⟨9, _⟩ => ⟨S32x32x64, .bf16⟩
  | .local _ .vmem, ⟨10, _⟩ => ⟨S32x32x64, .bf16⟩
  | .local _ .vmem, ⟨11, _⟩ => ⟨S1x32x32x1024, .f32⟩
  | .local _ .vmem, ⟨12, _⟩ => ⟨S1x32x32x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x32x32x1024, .f32⟩
  | .local _ .vmem, ⟨18, _⟩ => ⟨S1x32x32x1024, .f32⟩
  | .local _ .vmem, ⟨19, _⟩ => ⟨S32x32x1024, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [BitOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x2x32x32x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x32x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x32x32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x32x32x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== Kernel6Ideal.lean ====
variable {F : FTy → Type} [FloatOps F]
-- ==== Reference6Ideal.lean ====
abbrev S256x256 : Shape := ⟨2, ![256, 256]⟩
abbrev S256x512 : Shape := ⟨2, ![256, 512]⟩
abbrev S128x32x64 : Shape := ⟨3, ![128, 32, 64]⟩
abbrev S4x4096x1024 : Shape := ⟨3, ![4, 4096, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x128x32x4x256 : Shape := ⟨5, ![4, 128, 32, 4, 256]⟩
abbrev S4x128x32x1024 : Shape := ⟨4, ![4, 128, 32, 1024]⟩
abbrev S128x32x32 : Shape := ⟨3, ![128, 32, 32]⟩
abbrev S128x256 : Shape := ⟨2, ![128, 256]⟩
abbrev S128x128 : Shape := ⟨2, ![128, 128]⟩
abbrev S4x32x1024x128 : Shape := ⟨4, ![4, 32, 1024, 128]⟩
abbrev S128x4x1024x32 : Shape := ⟨4, ![128, 4, 1024, 32]⟩
abbrev S4x32x128x1024 : Shape := ⟨4, ![4, 32, 128, 1024]⟩

abbrev nBuf : Space → Nat
  | .hbm => 91
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S128x32x64, .bf16⟩
  | .hbm, ⟨3, _⟩ => ⟨S4x4096x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S256x256, .f32⟩
  | .hbm, ⟨9, _⟩ => ⟨S256x512, .f32⟩
  | .hbm, ⟨10, _⟩ => ⟨S128x32x64, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x128x32x4x256, .f32⟩
  | .hbm, ⟨29, _⟩ => ⟨S256x256, .f32⟩
  | .hbm, ⟨30, _⟩ => ⟨S4x128x32x4x256, .f32⟩
  | .hbm, ⟨31, _⟩ => ⟨S4x128x32x1024, .f32⟩
  | .hbm, ⟨32, _⟩ => ⟨S256x256, .f32⟩
  | .hbm, ⟨33, _⟩ => ⟨S4x128x32x4x256, .f32⟩
  | .hbm, ⟨34, _⟩ => ⟨S4x128x32x1024, .f32⟩
  | .hbm, ⟨35, _⟩ => ⟨S128x32x32, .f32⟩
  | .hbm, ⟨36, _⟩ => ⟨S128x256, .f32⟩
  | .hbm, ⟨37, _⟩ => ⟨S128x128, .f32⟩
  | .hbm, ⟨38, _⟩ => ⟨S4x32x1024x128, .f32⟩
  | .hbm, ⟨39, _⟩ => ⟨S4x128x32x1024, .f32⟩
  | .hbm, ⟨40, _⟩ => ⟨S128x128, .f32⟩
  | .hbm, ⟨41, _⟩ => ⟨S4x32x1024x128, .f32⟩
  | .hbm, ⟨42, _⟩ => ⟨S4x128x32x1024, .f32⟩
  | .hbm, ⟨43, _⟩ => ⟨S4x128x32x1024, .f32⟩
  | .hbm, ⟨44, _⟩ => ⟨S128x4x1024x32, .f32⟩
  | .hbm, ⟨45, _⟩ => ⟨S4x32x128x1024, .f32⟩
  | .hbm, ⟨46, _⟩ => ⟨S128x32x32, .f32⟩
  | .hbm, ⟨47, _⟩ => ⟨S128x256, .f32⟩
  | .hbm, ⟨48, _⟩ => ⟨S128x128, .f32⟩
  | .hbm, ⟨49, _⟩ => ⟨S4x32x1024x128, .f32⟩
  | .hbm, ⟨50, _⟩ => ⟨S4x128x32x1024, .f32⟩
  | .hbm, ⟨51, _⟩ => ⟨S128x128, .f32⟩
  | .hbm, ⟨52, _⟩ => ⟨S4x32x1024x128, .f32⟩
  | .hbm, ⟨53, _⟩ => ⟨S4x128x32x1024, .f32⟩
  | .hbm, ⟨54, _⟩ => ⟨S4x128x32x1024, .f32⟩
  | .hbm, ⟨55, _⟩ => ⟨S128x4x1024x32, .f32⟩
  | .hbm, ⟨56, _⟩ => ⟨S4x32x128x1024, .f32⟩
  | .hbm, ⟨57, _⟩ => ⟨S4x32x128x1024, .f32⟩
  | .hbm, ⟨58, _⟩ => ⟨S1024x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S1024x1024, .f32⟩
  | .hbm, ⟨72, _⟩ => ⟨S4x4096x1024, .f32⟩
  | .hbm, ⟨73, _⟩ => ⟨S4x4096x1024, .f32⟩
  | .hbm, ⟨74, _⟩ => ⟨S1024, .f32⟩
  | .hbm, ⟨75, _⟩ => ⟨S4x4096x1024, .f32⟩
  | .hbm, ⟨76, _⟩ => ⟨S_, .f32⟩
  | .hbm, ⟨77, _⟩ => ⟨S4x4096, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S4x4096x1, .f32⟩
  | .hbm, ⟨86, _⟩ => ⟨S4x4096x1024, .f32⟩
  | .hbm, ⟨87, _⟩ => ⟨S4x4096x1024, .f32⟩
  | .hbm, ⟨88, _⟩ => ⟨S1x1x1024, .f32⟩
  | .hbm, ⟨89, _⟩ => ⟨S4x4096x1024, .f32⟩
  | .hbm, ⟨90, _⟩ => ⟨S4x4096x1024, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_2 : Ref sig .tc := ⟨.hbm, 76, rfl⟩
abbrev main_v57 : Ref sig .tc := ⟨.hbm, 77, rfl⟩
abbrev main_v58 : Ref sig .tc := ⟨.hbm, 78, rfl⟩
abbrev main_cst_3 : Ref sig .tc := ⟨.hbm, 79, rfl⟩
abbrev main_v59 : Ref sig .tc := ⟨.hbm, 80, rfl⟩
abbrev main_v60 : Ref sig .tc := ⟨.hbm, 81, rfl⟩
abbrev main_cst_4 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Kernel7.lean ====
abbrev S256x256 : Shape := ⟨2, ![256, 256]⟩
abbrev S256x512 : Shape := ⟨2, ![256, 512]⟩
abbrev S128x128x256 : Shape := ⟨3, ![128, 128, 256]⟩
abbrev S2x16384x1024 : Shape := ⟨3, ![2, 16384, 1024]⟩
abbrev S1x1024 : Shape := ⟨2, ![1, 1024]⟩
abbrev S1024x1024 : Shape := ⟨2, ![1024, 1024]⟩
abbrev S2x128x128x1024 : Shape := ⟨4, ![2, 128, 128, 1024]⟩
abbrev S2x2x128x128x1024 : Shape := ⟨5, ![2, 2, 128, 128, 1024]⟩
abbrev S1x128x16x1024 : Shape := ⟨4, ![1, 128, 16, 1024]⟩
abbrev S1x2x128x16x1024 : Shape := ⟨5, ![1, 2, 128, 16, 1024]⟩
abbrev S128x16x1024 : Shape := ⟨3, ![128, 16, 1024]⟩
abbrev S2048x1024 : Shape := ⟨2, ![2048, 1024]⟩
abbrev S2048 : Shape := ⟨1, ![2048]⟩
abbrev S2048x1 : Shape := ⟨2, ![2048, 1]⟩
abbrev S16x128x1024 : Shape := ⟨3, ![16, 128, 1024]⟩
abbrev S2048x256 : Shape := ⟨2, ![2048, 256]⟩
abbrev S2048x512 : Shape := ⟨2, ![2048, 512]⟩
abbrev S128x512 : Shape := ⟨2, ![128, 512]⟩
abbrev S128x256 : Shape := ⟨2, ![128, 256]⟩
abbrev S1x256x256 : Shape := ⟨3, ![1, 256, 256]⟩
abbrev S8x256x256 : Shape := ⟨3, ![8, 256, 256]⟩
abbrev S256x8x256 : Shape := ⟨3, ![256, 8, 256]⟩
abbrev S256x16x256 : Shape := ⟨3, ![256, 16, 256]⟩
abbrev S2x128x16x256 : Shape := ⟨4, ![2, 128, 16, 256]⟩
abbrev S1x2x128x16x256 : Shape := ⟨5, ![1, 2, 128, 16, 256]⟩
abbrev S1x2x8x128x1024 : Shape := ⟨5, ![1, 2, 8, 128, 1024]⟩
abbrev S8x128x256 : Shape := ⟨3, ![8, 128, 256]⟩
abbrev S1x128x8x1024 : Shape := ⟨4, ![1, 128, 8, 1024]⟩
abbrev S128x8x1024 : Shape := ⟨3, ![128, 8, 1024]⟩
abbrev S1x1x1x128x1024 : Shape := ⟨5, ![1, 1, 1, 128, 1024]⟩
abbrev S128x1024 : Shape := ⟨2, ![128, 1024]⟩
abbrev S256x1024 : Shape := ⟨2, ![256, 1024]⟩
abbrev S1x128x256 : Shape := ⟨3, ![1, 128, 256]⟩
abbrev S1x128x1024 : Shape := ⟨3, ![1, 128, 1024]⟩
abbrev S8x128x1024 : Shape := ⟨3, ![8, 128, 1024]⟩
abbrev S1x64x8x1024 : Shape := ⟨4, ![1, 64, 8, 1024]⟩
abbrev S64x8x1024 : Shape := ⟨3, ![64, 8, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S128x128x256, .bf16⟩
  | .hbm, ⟨3, _⟩ => ⟨S2x16384x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S2x128x128x1024, .f32⟩
  | .hbm, ⟨9, _⟩ => ⟨S2x2x128x128x1024, .bf16⟩
  | .hbm, ⟨10, _⟩ => ⟨S2x128x128x1024, .f32⟩
  | .hbm, ⟨11, _⟩ => ⟨S2x128x128x1024, .f32⟩
  | .hbm, ⟨12, _⟩ => ⟨S2x16384x1024, .f32⟩
  | .local _ .vmem, ⟨0, _⟩ => ⟨S256x256, .bf16⟩
  | .local _ .vmem, ⟨1, _⟩ => ⟨S256x512, .bf16⟩
  | .local _ .vmem, ⟨2, _⟩ => ⟨S1x1024, .f32⟩
  | .local _ .vmem, ⟨3, _⟩ => ⟨S1x128x16x1024, .f32⟩
  | .local _ .vmem, ⟨4, _⟩ => ⟨S1x128x16x1024, .f32⟩
  | .local _ .vmem, ⟨5, _⟩ => ⟨S1x2x128x16x1024, .bf16⟩
  | .local _ .vmem, ⟨6, _⟩ => ⟨S1x2x128x16x1024, .bf16⟩
  | .local _ .vmem, ⟨7, _⟩ => ⟨S1x2x8x128x1024, .bf16⟩
  | .local _ .vmem, ⟨8, _⟩ => ⟨S1x2x8x128x1024, .bf16⟩
  | .local _ .vmem, ⟨9, _⟩ => ⟨S8x128x256, .bf16⟩
  | .local _ .vmem, ⟨10, _⟩ => ⟨S8x128x256, .bf16⟩
  | .local _ .vmem, ⟨11, _⟩ => ⟨S1x128x8x1024, .f32⟩
  | .local _ .vmem, ⟨12, _⟩ => ⟨S1x128x8x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x128x8x1024, .f32⟩
  | .local _ .vmem, ⟨18, _⟩ => ⟨S1x128x8x1024, .f32⟩
  | .local _ .vmem, ⟨19, _⟩ => ⟨S128x8x1024, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [BitOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x2x8x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x128x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== Kernel7Ideal.lean ====
variable {F : FTy → Type} [FloatOps F]
-- ==== Reference7Ideal.lean ====
abbrev S256x256 : Shape := ⟨2, ![256, 256]⟩
abbrev S256x512 : Shape := ⟨2, ![256, 512]⟩
abbrev S128x128x256 : Shape := ⟨3, ![128, 128, 256]⟩
abbrev S2x16384x1024 : Shape := ⟨3, ![2, 16384, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x128x128x4x256 : Shape := ⟨5, ![2, 128, 128, 4, 256]⟩
abbrev S2x128x128x1024 : Shape := ⟨4, ![2, 128, 128, 1024]⟩
abbrev S128x128x128 : Shape := ⟨3, ![128, 128, 128]⟩
abbrev S128x256 : Shape := ⟨2, ![128, 256]⟩
abbrev S128x128 : Shape := ⟨2, ![128, 128]⟩
abbrev S2x128x1024x128 : Shape := ⟨4, ![2, 128, 1024, 128]⟩
abbrev S128x2x1024x128 : Shape := ⟨4, ![128, 2, 1024, 128]⟩

abbrev nBuf : Space → Nat
  | .hbm => 91
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S128x128x256, .bf16⟩
  | .hbm, ⟨3, _⟩ => ⟨S2x16384x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S256x256, .f32⟩
  | .hbm, ⟨9, _⟩ => ⟨S256x512, .f32⟩
  | .hbm, ⟨10, _⟩ => ⟨S128x128x256, .f32⟩
  | .hbm, ⟨11, _⟩ => ⟨S1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x128x128x4x256, .f32⟩
  | .hbm, ⟨29, _⟩ => ⟨S256x256, .f32⟩
  | .hbm, ⟨30, _⟩ => ⟨S2x128x128x4x256, .f32⟩
  | .hbm, ⟨31, _⟩ => ⟨S2x128x128x1024, .f32⟩
  | .hbm, ⟨32, _⟩ => ⟨S256x256, .f32⟩
  | .hbm, ⟨33, _⟩ => ⟨S2x128x128x4x256, .f32⟩
  | .hbm, ⟨34, _⟩ => ⟨S2x128x128x1024, .f32⟩
  | .hbm, ⟨35, _⟩ => ⟨S128x128x128, .f32⟩
  | .hbm, ⟨36, _⟩ => ⟨S128x256, .f32⟩
  | .hbm, ⟨37, _⟩ => ⟨S128x128, .f32⟩
  | .hbm, ⟨38, _⟩ => ⟨S2x128x1024x128, .f32⟩
  | .hbm, ⟨39, _⟩ => ⟨S2x128x128x1024, .f32⟩
  | .hbm, ⟨40, _⟩ => ⟨S128x128, .f32⟩
  | .hbm, ⟨41, _⟩ => ⟨S2x128x1024x128, .f32⟩
  | .hbm, ⟨42, _⟩ => ⟨S2x128x128x1024, .f32⟩
  | .hbm, ⟨43, _⟩ => ⟨S2x128x128x1024, .f32⟩
  | .hbm, ⟨44, _⟩ => ⟨S128x2x1024x128, .f32⟩
  | .hbm, ⟨45, _⟩ => ⟨S2x128x128x1024, .f32⟩
  | .hbm, ⟨46, _⟩ => ⟨S128x128x128, .f32⟩
  | .hbm, ⟨47, _⟩ => ⟨S128x256, .f32⟩
  | .hbm, ⟨48, _⟩ => ⟨S128x128, .f32⟩
  | .hbm, ⟨49, _⟩ => ⟨S2x128x1024x128, .f32⟩
  | .hbm, ⟨50, _⟩ => ⟨S2x128x128x1024, .f32⟩
  | .hbm, ⟨51, _⟩ => ⟨S128x128, .f32⟩
  | .hbm, ⟨52, _⟩ => ⟨S2x128x1024x128, .f32⟩
  | .hbm, ⟨53, _⟩ => ⟨S2x128x128x1024, .f32⟩
  | .hbm, ⟨54, _⟩ => ⟨S2x128x128x1024, .f32⟩
  | .hbm, ⟨55, _⟩ => ⟨S128x2x1024x128, .f32⟩
  | .hbm, ⟨56, _⟩ => ⟨S2x128x128x1024, .f32⟩
  | .hbm, ⟨57, _⟩ => ⟨S2x128x128x1024, .f32⟩
  | .hbm, ⟨58, _⟩ => ⟨S1024x1024, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S_, .f32⟩
  | .hbm, ⟨64, _⟩ => ⟨S2x16384x1024, .f32⟩
  | .hbm, ⟨65, _⟩ => ⟨S2x16384x1024, .f32⟩
  | .hbm, ⟨66, _⟩ => ⟨S_, .f32⟩
  | .hbm, ⟨67, _⟩ => ⟨S2x16384x1024, .f32⟩
  | .hbm, ⟨68, _⟩ => ⟨S2x16384x1024, .f32⟩
  | .hbm, ⟨69, _⟩ => ⟨S2x16384x1024, .f32⟩
  | .hbm, ⟨70, _⟩ => ⟨S2x16384x1024, .f32⟩
  | .hbm, ⟨71, _⟩ => ⟨S1024x1024, .f32⟩
  | .hbm, ⟨72, _⟩ => ⟨S2x16384x1024, .f32⟩
  | .hbm, ⟨73, _⟩ => ⟨S2x16384x1024, .f32⟩
  | .hbm, ⟨74, _⟩ => ⟨S1024, .f32⟩
  | .hbm, ⟨75, _⟩ => ⟨S2x16384x1024, .f32⟩
  | .hbm, ⟨76, _⟩ => ⟨S_, .f32⟩
  | .hbm, ⟨77, _⟩ => ⟨S2x16384, .f32⟩
  | .hbm, ⟨78, _⟩ => ⟨S2x16384x1, .f32⟩
  | .hbm, ⟨79, _⟩ => ⟨S_, .f32⟩
  | .hbm, ⟨80, _⟩ => ⟨S2x16384x1, .f32⟩
  | .hbm, ⟨81, _⟩ => ⟨S2x16384x1, .f32⟩
  | .hbm, ⟨82, _⟩ => ⟨S_, .f32⟩
  | .hbm, ⟨83, _⟩ => ⟨S2x16384x1, .f32⟩
  | .hbm, ⟨84, _⟩ => ⟨S2x16384x1, .f32⟩
  | .hbm, ⟨85, _⟩ => ⟨S2x16384x1, .f32⟩
  | .hbm, ⟨86, _⟩ => ⟨S2x16384x1024, .f32⟩
  | .hbm, ⟨87, _⟩ => ⟨S2x16384x1024, .f32⟩
  | .hbm, ⟨88, _⟩ => ⟨S1x1x1024, .f32⟩
  | .hbm, ⟨89, _⟩ => ⟨S2x16384x1024, .f32⟩
  | .hbm, ⟨90, _⟩ => ⟨S2x16384x1024, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_2 : Ref sig .tc := ⟨.hbm, 76, rfl⟩
abbrev main_v57 : Ref sig .tc := ⟨.hbm, 77, rfl⟩
abbrev main_v58 : Ref sig .tc := ⟨.hbm, 78, rfl⟩
abbrev main_cst_3 : Ref sig .tc := ⟨.hbm, 79, rfl⟩
abbrev main_v59 : Ref sig .tc := ⟨.hbm, 80, rfl⟩
abbrev main_v60 : Ref sig .tc := ⟨.hbm, 81, rfl⟩
abbrev main_cst_4 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Proof.Softmax.lean ====
/-
  The mathematics of the certificate that mentions no program: over extended reals, the softmax with a sink in its
  normaliser does not depend on the number it is shifted by, nor on whether it is taken to base two or to base e, and
  the two spellings of the SiLU gate agree at real numbers.
-/
module

public import Idealize.ShloMosaic.PureOps.Ideal.Laws
public import Mathlib.Analysis.SpecialFunctions.Pow.Real
public import Mathlib.Analysis.SpecialFunctions.Trigonometric.DerivHyp

@[expose] public section

noncomputable section

namespace Cert.Proof.Softmax

open Idealize.ShloMosaic

/-- A finite sum of real numbers, summed as extended reals, is the real sum. -/
theorem coe_sum {ι : Type} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-- The weight of a key: `e` to its score in nats, or zero where the key is masked. -/
def wt (M : Prop) [Decidable M] (x : ℝ) : ℝ := if M then Real.exp x else 0

theorem wt_nonneg (M : Prop) [Decidable M] (x : ℝ) : 0 ≤ wt M x := by
  unfold wt; split
  · exact (Real.exp_pos x).le
  · exact le_refl 0

/-- A score in nats, or −∞ where the key is masked, shifted by a real `m` and exponentiated: the weight times `e⁻ᵐ`. -/
theorem exp_shift (M : Prop) [Decidable M] (x m : ℝ) :
    Ideal.exp ((if M then (x : EReal) else ⊥) - (m : EReal)) = ((wt M x * Real.exp (-m) : ℝ) : EReal) := by
  unfold wt
  by_cases h : M
  · rw [if_pos h, if_pos h, ← EReal.coe_sub, Ideal.exp_coe, sub_eq_add_neg, Real.exp_add]
  · rw [if_neg h, if_neg h, EReal.bot_sub, Ideal.exp_bot, zero_mul, EReal.coe_zero]

/-- Two to the power `x / log 2` is `e` to the power `x`. -/
theorem rpow_two (x : ℝ) : Real.rpow 2 (x * (1 / Real.log 2)) = Real.exp x := by
  have h2 : Real.log 2 ≠ 0 := (Real.log_pos (by norm_num)).ne'
  show (2 : ℝ) ^ (x * (1 / Real.log 2)) = _
  rw [Real.rpow_def_of_pos (by norm_num)]
  congr 1
  field_simp

/-- The same in bits: a score divided by `log 2`, shifted by `m` and raised to base two. -/
theorem exp2_shift (M : Prop) [Decidable M] (x m : ℝ) :
    Ideal.exp2 ((if M then ((x * (1 / Real.log 2) : ℝ) : EReal) else ⊥) - (m : EReal))
      = ((wt M x * Real.rpow 2 (-m) : ℝ) : EReal) := by
  unfold wt
  by_cases h : M
  · rw [if_pos h, if_pos h, ← EReal.coe_sub, Ideal.exp2_coe, ← rpow_two x]
    congr 1
    rw [sub_eq_add_neg]
    exact Real.rpow_add (by norm_num) _ _
  · rw [if_neg h, if_neg h, EReal.bot_sub, Ideal.exp2_bot, zero_mul, EReal.coe_zero]

theorem exp2_sink (x m : ℝ) :
    Ideal.exp2 (((x * (1 / Real.log 2) : ℝ) : EReal) - (m : EReal)) = ((Real.exp x * Real.rpow 2 (-m) : ℝ) : EReal) := by
  have h := exp2_shift True x m
  simpa [wt] using h

theorem exp_sink (x m : ℝ) : Ideal.exp ((x : EReal) - (m : EReal)) = ((Real.exp x * Real.exp (-m) : ℝ) : EReal) := by
  have h := exp_shift True x m
  simpa [wt] using h

/-- What the attention of one query returns in one channel: the weighted mean of the values over the unmasked keys,
    with the sink's weight in the normaliser. -/
def mean {n : Nat} (M : Fin n → Prop) [∀ k, Decidable (M k)] (x v : Fin n → ℝ) (sk : ℝ) : ℝ :=
  (∑ k, v k * wt (M k) (x k)) / (∑ k, wt (M k) (x k) + Real.exp sk)

theorem den_pos {n : Nat} (M : Fin n → Prop) [∀ k, Decidable (M k)] (x : Fin n → ℝ) (sk : ℝ) :
    0 < ∑ k, wt (M k) (x k) + Real.exp sk :=
  add_pos_of_nonneg_of_pos (Finset.sum_nonneg fun k _ => wt_nonneg _ _) (Real.exp_pos sk)

/-- The kernel's spelling of the mean: base two, the values first, the reciprocal of the normaliser last, whatever real
    number `m` shifts the scores. -/
theorem mean_base_two {n : Nat} (M : Fin n → Prop) [∀ k, Decidable (M k)] (x v : Fin n → ℝ) (sk m : ℝ)
    (s : Fin n → EReal) (hs : ∀ k, s k = if M k then ((x k * (1 / Real.log 2) : ℝ) : EReal) else ⊥) :
    (∑ k, (v k : EReal) * Ideal.exp2 (s k - (m : EReal)))
        * Ideal.div 1 ((∑ k, 1 * Ideal.exp2 (s k - (m : EReal)))
            + Ideal.exp2 (((sk * (1 / Real.log 2) : ℝ) : EReal) - (m : EReal)))
      = ((mean M x v sk : ℝ) : EReal) := by
  have hc : 0 < Real.rpow 2 (-m) := Real.rpow_pos_of_pos (by norm_num) _
  have hd := den_pos M x sk
  simp only [hs, exp2_shift, exp2_sink, one_mul, ← EReal.coe_mul, coe_sum, ← EReal.coe_add]
  have hne : (∑ k, wt (M k) (x k) * Real.rpow 2 (-m)) + Real.exp sk * Real.rpow 2 (-m) ≠ 0 := by
    rw [← Finset.sum_mul, ← add_mul]; exact (mul_pos hd hc).ne'
  rw [Ideal.div_coe hne, one_mul, ← EReal.coe_mul]
  congr 1
  simp only [← mul_assoc]
  rw [← Finset.sum_mul, ← Finset.sum_mul, ← add_mul]
  unfold mean
  generalize Real.rpow 2 (-m) = c at *
  generalize (∑ k, wt (M k) (x k) + Real.exp sk) = d at *
  field_simp

/-- The reference's spelling: base e, each weight divided by the normaliser before it meets its value. -/
theorem mean_base_e {n : Nat} (M : Fin n → Prop) [∀ k, Decidable (M k)] (x v : Fin n → ℝ) (sk m : ℝ)
    (s : Fin n → EReal) (hs : ∀ k, s k = if M k then (x k : EReal) else ⊥) :
    (∑ k, Ideal.div (Ideal.exp (s k - (m : EReal)))
        ((∑ k, Ideal.exp (s k - (m : EReal))) + Ideal.exp ((sk : EReal) - (m : EReal))) * (v k : EReal))
      = ((mean M x v sk : ℝ) : EReal) := by
  have hc : 0 < Real.exp (-m) := Real.exp_pos _
  have hd := den_pos M x sk
  have hne : (∑ k, wt (M k) (x k) * Real.exp (-m)) + Real.exp sk * Real.exp (-m) ≠ 0 := by
    rw [← Finset.sum_mul, ← add_mul]; exact (mul_pos hd hc).ne'
  simp only [hs, exp_shift, exp_sink, coe_sum, ← EReal.coe_add, Ideal.div_coe hne, ← EReal.coe_mul]
  congr 1
  unfold mean
  rw [← Finset.sum_mul, ← add_mul, Finset.sum_div]
  refine Finset.sum_congr rfl fun k _ => ?_
  generalize Real.exp (-m) = c at *
  generalize (∑ k, wt (M k) (x k) + Real.exp sk) = d at *
  field_simp

/-- The mean sees the values of unmasked keys only. -/
theorem mean_congr {n : Nat} (M : Fin n → Prop) [∀ k, Decidable (M k)] (x x' v v' : Fin n → ℝ) (sk : ℝ)
    (hx : ∀ k, M k → x k = x' k) (hv : ∀ k, M k → v k = v' k) : mean M x v sk = mean M x' v' sk := by
  have h1 : ∀ k, wt (M k) (x k) = wt (M k) (x' k) := fun k => by
    unfold wt; split
    · next h => rw [hx k h]
    · rfl
  have h2 : ∀ k, v k * wt (M k) (x k) = v' k * wt (M k) (x' k) := fun k => by
    by_cases h : M k
    · rw [hv k h, h1]
    · simp [wt, h]
  unfold mean
  rw [Finset.sum_congr rfl fun k _ => h2 k, Finset.sum_congr rfl fun k _ => h1 k]

/-- The largest of scores none of which is +∞ and of a real sink is a real number. -/
theorem max_real {a : EReal} (ha : a ≠ ⊤) (sk : ℝ) : ∃ m : ℝ, max a (sk : EReal) = (m : EReal) := by
  refine ⟨(max a (sk : EReal)).toReal, (EReal.coe_toReal ?_ ?_).symm⟩
  · exact (max_lt (lt_top_iff_ne_top.2 ha) (EReal.coe_lt_top sk)).ne
  · exact (lt_of_lt_of_le (EReal.bot_lt_coe sk) (le_max_right _ _)).ne'

/-- The two spellings of the gate: `z/2 + z/2 · tanh (z/2)` is `z` times the logistic of `z`. -/
theorem silu_eq (z : ℝ) :
    ((1 / 2 : ℝ) : EReal) * (z : EReal) + ((1 / 2 : ℝ) : EReal) * (z : EReal) * Ideal.tanh (((1 / 2 : ℝ) : EReal) * (z : EReal))
      = (z : EReal) * Ideal.logistic (z : EReal) := by
  simp only [← EReal.coe_mul, Ideal.tanh_coe, Ideal.logistic_coe, ← EReal.coe_add]
  congr 1
  rw [Real.tanh_eq_sinh_div_cosh, Real.sinh_eq, Real.cosh_eq]
  have e1 : Real.exp (-z) = Real.exp (-(1 / 2 * z)) * Real.exp (-(1 / 2 * z)) := by rw [← Real.exp_add]; ring_nf
  have e2 : Real.exp (1 / 2 * z) * Real.exp (-(1 / 2 * z)) = 1 := by rw [← Real.exp_add]; simp
  rw [e1]
  have hp := Real.exp_pos (1 / 2 * z)
  have hq := Real.exp_pos (-(1 / 2 * z))
  generalize Real.exp (1 / 2 * z) = a at *
  generalize Real.exp (-(1 / 2 * z)) = b at *
  have ha : a = 1 / b := by field_simp; linarith
  subst ha
  field_simp
  ring

/-- The reciprocal of the square root of a positive real is a real number. -/
theorem rsqrt_real {r : ℝ} (h : 0 < r) : ∃ t : ℝ, Ideal.rsqrt (r : EReal) = (t : EReal) :=
  ⟨(Real.sqrt r)⁻¹, by rw [Ideal.rsqrt_coe, if_neg (not_lt.2 h.le), if_neg h.ne']⟩

end Cert.Proof.Softmax

end
-- ==== Proof.Consts.lean ====
/- THE PROGRAMS' CONSTANTS as extended reals. -/
module

public import Idealize.ShloMosaic.Lib.Pointwise
public import Idealize.ShloMosaic.Lib.IdealHost

@[expose] public section

noncomputable section

namespace Cert.Proof.Consts

open Idealize.ShloMosaic

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

/-- The constant added before the reciprocal root is a positive real. -/
theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem neg_inf : Ideal.ofBits .f32 0xFF800000#32 = (⊥ : EReal) := by
  simp [Ideal.ofBits, Ideal.ieee]

theorem pos_inf : Ideal.ofBits .f32 0x7F800000#32 = (⊤ : EReal) := by
  simp [Ideal.ofBits, Ideal.ieee]

end Cert.Proof.Consts

end
-- ==== Proof.Words.lean ====
/- THE PROGRAMS' 32-BIT WORDS: comparisons of positions, read as comparisons of natural numbers. -/
module

public import Idealize.ShloMosaic.Lib.Pointwise

@[expose] public section

noncomputable section

namespace Cert.Proof.Words

open Idealize.ShloMosaic

/-- A small natural's word, read signed. -/
theorem toInt_small {a : ℕ} (ha : a < 2147483648) : (BitVec.ofNat 32 a).toInt = a := by
  rw [BitVec.toInt_eq_toNat_of_lt] <;> simp <;> omega

/-- A signed comparison of two small naturals. -/
theorem sle_small {a b : ℕ} (ha : a < 2147483648) (hb : b < 2147483648) :
    IntOp.cmpi .sle (BitVec.ofNat 32 a) (BitVec.ofNat 32 b) = BitVec.ofBool (decide (a ≤ b)) := by
  have h1 : (BitVec.ofNat 32 a).toInt = a := by rw [BitVec.toInt_eq_toNat_of_lt] <;> simp <;> omega
  have h2 : (BitVec.ofNat 32 b).toInt = b := by rw [BitVec.toInt_eq_toNat_of_lt] <;> simp <;> omega
  simp [IntOp.cmpi, BitVec.sle, h1, h2]

/-- The band: a key at most 128 away from the query. -/
theorem band {k i : ℕ} (hk : k < 384) (hi : i < 128) :
    IntOp.cmpi .sle (IntOp.absi (IntOp.subi (IntOp.subi (BitVec.ofNat 32 k) 128#32) (BitVec.ofNat 32 i))) 128#32
      = BitVec.ofBool (decide (i ≤ k ∧ k ≤ i + 256)) := by
  have hc : ∀ d : ℕ, d < 384 → (d ≤ 128 ↔ (i ≤ k ∧ k ≤ i + 256)) → IntOp.absi (IntOp.subi (IntOp.subi (BitVec.ofNat 32 k) 128#32) (BitVec.ofNat 32 i)) = BitVec.ofNat 32 d →
      IntOp.cmpi .sle (IntOp.absi (IntOp.subi (IntOp.subi (BitVec.ofNat 32 k) 128#32) (BitVec.ofNat 32 i))) 128#32
        = BitVec.ofBool (decide (i ≤ k ∧ k ≤ i + 256)) := by
    intro d hd h1 h2
    rw [h2, sle_small (by omega) (by omega)]
    simp only [h1]
  by_cases h : 128 + i ≤ k
  · refine hc (k - 128 - i) (by omega) (by omega) ?_
    have e : IntOp.subi (IntOp.subi (BitVec.ofNat 32 k) 128#32) (BitVec.ofNat 32 i) = BitVec.ofNat 32 (k - 128 - i) := by
      apply BitVec.eq_of_toNat_eq
      simp [IntOp.subi]
      omega
    rw [e, IntOp.absi, if_neg]
    rw [BitVec.msb_eq_decide]
    simp
    omega
  · refine hc (128 + i - k) (by omega) (by omega) ?_
    have e : IntOp.subi (IntOp.subi (BitVec.ofNat 32 k) 128#32) (BitVec.ofNat 32 i) = BitVec.ofNat 32 (4294967296 - (128 + i - k)) := by
      apply BitVec.eq_of_toNat_eq
      simp [IntOp.subi]
      omega
    rw [e, IntOp.absi, if_pos]
    · apply BitVec.eq_of_toNat_eq
      simp
      omega
    · rw [BitVec.msb_eq_decide]
      simp
      omega

/-- A small natural's word is not negative. -/
theorem not_neg {a : ℕ} (ha : a < 2147483648) : IntOp.cmpi .slt (BitVec.ofNat 32 a) 0#32 = 0#1 := by
  have h1 : (BitVec.ofNat 32 a).toInt = a := by rw [BitVec.toInt_eq_toNat_of_lt] <;> simp <;> omega
  simp only [IntOp.cmpi, BitVec.slt, h1]
  have h2 : ¬((a : ℤ) < (0#32 : BitVec 32).toInt) := by simp
  rw [decide_eq_false h2]
  rfl

/-- The word of a key's position in the sequence, counted from a block before it. -/
def pos (n k : ℕ) : BitVec 32 := IntOp.addi (IntOp.muli (IntOp.subi (BitVec.ofNat 32 n) 1#32) 128#32) (BitVec.ofNat 32 k)

theorem pos_toInt {n k : ℕ} (hn : n < 32) (hk : k < 384) : (pos n k).toInt = 128 * (n : ℤ) + k - 128 := by
  by_cases h : 128 ≤ 128 * n + k
  · have e : pos n k = BitVec.ofNat 32 (128 * n + k - 128) := by
      apply BitVec.eq_of_toNat_eq
      simp [pos, IntOp.addi, IntOp.muli, IntOp.subi]
      omega
    rw [e, toInt_small (by omega)]
    omega
  · have hn0 : n = 0 := by omega
    subst hn0
    have e : pos 0 k = BitVec.ofNat 32 (4294967168 + k) := by
      apply BitVec.eq_of_toNat_eq
      simp [pos, IntOp.addi, IntOp.muli, IntOp.subi]
    rw [e, BitVec.toInt_eq_toNat_cond, BitVec.toNat_ofNat]
    simp
    omega

/-- A key inside the sequence. -/
theorem inside {n k : ℕ} (hn : n < 32) (hk : k < 384) :
    IntOp.andi (IntOp.cmpi .sge (pos n k) 0#32) (IntOp.cmpi .slt (pos n k) 4096#32) = BitVec.ofBool (decide (128 ≤ 128 * n + k ∧ 128 * n + k < 4224)) := by
  have z0 : (0#32 : BitVec 32).toInt = 0 := by decide
  have z1 : (4096#32 : BitVec 32).toInt = 4096 := by decide
  simp only [IntOp.cmpi, BitVec.sle, BitVec.slt, pos_toInt hn hk, z0, z1, IntOp.andi]
  by_cases h1 : 128 ≤ 128 * n + k <;> by_cases h2 : 128 * n + k < 4224
  · rw [decide_eq_true (show (0 : ℤ) ≤ _ by omega), decide_eq_true (show 128 * (n : ℤ) + k - 128 < 4096 by omega), decide_eq_true ⟨h1, h2⟩]; rfl
  · rw [decide_eq_true (show (0 : ℤ) ≤ _ by omega), decide_eq_false (show ¬ (128 * (n : ℤ) + k - 128 < 4096) by omega), decide_eq_false (fun h => h2 h.2)]; rfl
  · rw [decide_eq_false (show ¬ (0 : ℤ) ≤ _ by omega), decide_eq_true (show 128 * (n : ℤ) + k - 128 < 4096 by omega), decide_eq_false (fun h => h1 h.1)]; rfl
  · exact absurd h1 (by omega)

/-- The conjunction of two truth values. -/
theorem andi_ofBool (p q : Bool) : IntOp.andi (BitVec.ofBool p) (BitVec.ofBool q) = BitVec.ofBool (p && q) := by
  cases p <;> cases q <;> rfl

end Cert.Proof.Words

end
-- ==== Proof.Lists.lean ====
/- WHAT ONE GRID POINT STORES, WRITTEN ONCE PER SCRATCH BUFFER. The run of the kernel's body leaves, for every buffer, a list
   of stores, newest first. The body is unrolled over eight blocks of 128 query rows, four key heads and two parities, so each
   list is long; here the n-th store of each list is one function of n, and `run_eq` says the run's lists are these. -/
module

public import proofs.«01_k».proof.Proof.Gen.KernelIdeal.Value

@[expose] public section

noncomputable section

namespace Cert.Proof.Lists

open Cert.KernelIdeal Cert.KernelIdeal.Gen Idealize.ShloMosaic Idealize.ShloMosaic.TcCoe Idealize.SL.Sem

variable {F : FTy → Type} [FloatOps F] [Named F]

/-! ## The vector computations -/

/-- The rows of one parity of the joined score product, with the bias of that parity's two query heads. -/
def raw (par : ℕ) (q : Vec F S1x128x256 .bf16) (k0 k1 : Vec F S384x128 .bf16) (b0 b1 : Vec F S1x384x128 .f32) : FVec F S384x256 .f32 :=
  addf (if par = 0 then extractStridedSlice S384x256 ![0, 0] (k0_pay190 q k0 k1) slices_S768x256_o0_0_S384x256
      else extractStridedSlice S384x256 ![384, 0] (k0_pay190 q k0 k1) slices_S768x256_o384_0_S384x256)
    (concatenate S384x256 1 [⟨S384x128, shapeCast S384x128 b0 shapeCasts_S1x384x128_S384x128⟩,
      ⟨S384x128, shapeCast S384x128 b1 shapeCasts_S1x384x128_S384x128⟩] concatenates_S384x128_S384x128_S384x256_d1)

/-- The mask where the tile number `w` is `e`, else zero. -/
def edge (w e : BitVec 32) : F .f32 :=
  Scalar.select (Scalar.cmpi .eq w e) (Named.named κ "mask" 0xF149F2CA#32) (Scalar.ofBits .f32 0x00000000#32)

/-- The scores of block `j`: the first block of a tile masks its first 128 keys on the first tile, the last block its last 128
    keys on the last tile. -/
def scores (w : BitVec 32) (j par : ℕ) (q : Vec F S1x128x256 .bf16) (k0 k1 : Vec F S384x128 .bf16) (b0 b1 : Vec F S1x384x128 .f32) :
    FVec F S384x256 .f32 :=
  if j = 0 then concatenate S384x256 0 [⟨S128x256, addf (extractStridedSlice S128x256 ![0, 0] (raw par q k0 k1 b0 b1) slices_S384x256_o0_0_S128x256)
      (broadcast S128x256 (edge w 0#32))⟩,
      ⟨S256x256, extractStridedSlice S256x256 ![128, 0] (raw par q k0 k1 b0 b1) slices_S384x256_o128_0_S256x256⟩] concatenates_S128x256_S256x256_S384x256_d0
  else if j = 7 then concatenate S384x256 0 [⟨S256x256, extractStridedSlice S256x256 ![0, 0] (raw par q k0 k1 b0 b1) slices_S384x256_o0_0_S256x256⟩,
      ⟨S128x256, addf (extractStridedSlice S128x256 ![256, 0] (raw par q k0 k1 b0 b1) slices_S384x256_o256_0_S128x256)
      (broadcast S128x256 (edge w 3#32))⟩] concatenates_S256x256_S128x256_S384x256_d0
  else raw par q k0 k1 b0 b1

/-- Two query heads' outputs, both parities, laid side by side and transposed. -/
def pair (t : ℕ) (a b : FVec F S64x256 .f32) : FVec F S128x128 .f32 :=
  shapeCast S128x128 (transpose S128x128 [1, 0] (if t = 0 then
    concatenate S128x128 0 [⟨S64x128, extractStridedSlice S64x128 ![0, 0] a slices_S64x256_o0_0_S64x128⟩,
      ⟨S64x128, extractStridedSlice S64x128 ![0, 0] b slices_S64x256_o0_0_S64x128⟩] concatenates_S64x128_S64x128_S128x128_d0
    else concatenate S128x128 0 [⟨S64x128, extractStridedSlice S64x128 ![0, 128] a slices_S64x256_o0_128_S64x128⟩,
      ⟨S64x128, extractStridedSlice S64x128 ![0, 128] b slices_S64x256_o0_128_S64x128⟩] concatenates_S64x128_S64x128_S128x128_d0)
    transposes_S128x128_p1_0_S128x128) shapeCasts_S128x128_S128x128

/-- A key head's columns as the score product reads them: the two halves of a pair of heads, each once in the lower and once in
    the upper 64 columns, zero elsewhere. -/
def keys (u : ℕ) (kc : Vec F S1280x128 .bf16) : FVec F S1280x128 .bf16 :=
  if u % 4 = 0 then k0_pay11 (k0_pay7 kc) else if u % 4 = 1 then k0_pay12 (k0_pay8 kc)
  else if u % 4 = 2 then k0_pay13 (k0_pay9 kc) else k0_pay14 (k0_pay10 kc)

/-- The values of one head, transposed. -/
def vals (hh : ℕ) (v : Vec F S1280x256 .bf16) : FVec F S64x1280 .bf16 :=
  if hh = 0 then k0_pay23 v else if hh = 1 then k0_pay25 v else if hh = 2 then k0_pay27 v else k0_pay30 (k0_pay29 v)

/-! ## The stores -/

section
variable (arg5 : Memref sig .tc .vmem S1x128x512 .bf16) (harg5 : arg5.IsWhole) (arg6 : Memref sig .tc .vmem S1x1024x512 .bf16) (harg6 : arg6.IsWhole)
  (arg7 : Memref sig .tc .vmem S1x128x512 .bf16) (harg7 : arg7.IsWhole)
  (x3 : Vec F S1x128x512 .bf16) (x4 : Vec F S1x1024x512 .bf16) (x5 : Vec F S1x128x512 .bf16)

/-- The tile's keys and values with the block before and the block after. -/
def kvL : List (View.Piece (Elt F) S1280x512 .bf16) :=
  [⟨Rect.unit (s := S1280x512) ![1152, 0] S128x512.size (by decide), k0_pay3 (View.readAt (Elt F) arg7.view (Rect.unit (s := S1x128x512) ![0, 0, 0] S1x128x512.size (by decide)).toLoadRect (harg7.unread x5))⟩,
   ⟨Rect.unit (s := S1280x512) ![128, 0] S1024x512.size (by decide), k0_pay2 (View.readAt (Elt F) arg6.view (Rect.unit (s := S1x1024x512) ![0, 0, 0] S1x1024x512.size (by decide)).toLoadRect (harg6.unread x4))⟩,
   ⟨Rect.unit (s := S1280x512) ![0, 0] S128x512.size (by decide), k0_pay1 (View.readAt (Elt F) arg5.view (Rect.unit (s := S1x128x512) ![0, 0, 0] S1x128x512.size (by decide)).toLoadRect (harg5.unread x3))⟩]
end

section
variable (arg13 : Memref sig .tc .vmem S1280x512 .bf16) (KV : List (View.Piece (Elt F) S1280x512 .bf16))

/-- The n-th store of padded keys. -/
def kzP (n : ℕ) : View.Piece (Elt F) S1280x1024 .bf16 :=
  ⟨Rect.unit (s := S1280x1024) ![0, 128 * (n % 8)] S1280x128.size (by intro a; fin_cases a <;> simp [Shape.size] <;> omega),
   keys n (arg13.view.readCov KV (Rect.unit (s := S1280x512) ![0, 128 * (n % 8 / 4)] S1280x128.size (by intro a; fin_cases a <;> simp [Shape.size] <;> omega)).toLoadRect)⟩

/-- The first n stores of padded keys, newest first. -/
def kzL : ℕ → List (View.Piece (Elt F) S1280x1024 .bf16)
  | 0 => []
  | n + 1 => kzP arg13 KV n :: kzL n

/-- The n-th pair of stores of transposed values: sixteen rows of ones under each head's 64 rows. -/
def vtL : ℕ → List (View.Piece (Elt F) S320x1280 .bf16)
  | 0 => []
  | n + 1 => ⟨Rect.unit (s := S320x1280) ![80 * (n % 4) + 64, 0] S16x1280.size (by intro a; fin_cases a <;> simp [Shape.size] <;> omega), k0_pay24⟩ ::
      ⟨Rect.unit (s := S320x1280) ![80 * (n % 4), 0] S64x1280.size (by intro a; fin_cases a <;> simp [Shape.size] <;> omega),
        vals (n % 4) (arg13.view.readCov KV (Rect.unit (s := S1280x512) ![0, 256] S1280x256.size (by decide)).toLoadRect)⟩ :: vtL n
end

section
variable (w : BitVec 32) (arg2 : Memref sig .tc .smem S16 .f32) (harg2 : arg2.IsWhole) (arg3 : Memref sig .tc .vmem S1x1024x1024 .bf16) (harg3 : arg3.IsWhole)
  (arg8 : Memref sig .tc .vmem S16x384x128 .f32) (harg8 : arg8.IsWhole) (arg14 : Memref sig .tc .vmem S1280x1024 .bf16)
  (x0 : Vec F S16 .f32) (x1 : Vec F S1x1024x1024 .bf16) (x6 : Vec F S16x384x128 .f32) (KZ : List (View.Piece (Elt F) S1280x1024 .bf16))

/-- One head's sink. -/
def sinkAt (h : ℕ) : Elt F .f32 :=
  View.readAt (Elt F) arg2.view (Rect.unit (s := S16) ![h % 16] S1.size (by intro a; fin_cases a; simp [Shape.size]; omega)).toLoadRect (harg2.unread x0) (Shape.Idx.first (by show 0 < S1.numel; decide))

/-- One head's bias. -/
def biasAt (h : ℕ) : Vec F S1x384x128 .f32 :=
  View.readAt (Elt F) arg8.view (Rect.unit (s := S16x384x128) ![h % 16, 0, 0] S1x384x128.size (by intro a; fin_cases a <;> simp [Shape.size]; omega)).toLoadRect (harg8.unread x6)

/-- Block `j`'s queries of the four heads of key head `hh`. -/
def queryAt (j hh : ℕ) : Vec F S1x128x256 .bf16 :=
  View.readAt (Elt F) arg3.view (Rect.unit (s := S1x1024x1024) ![0, 128 * (j % 8), 256 * (hh % 4)] S1x128x256.size (by intro a; fin_cases a <;> simp [Shape.size] <;> omega)).toLoadRect (harg3.unread x1)

/-- Block `j`'s window of padded keys. -/
def keyAt (j u : ℕ) : Vec F S384x128 .bf16 :=
  arg14.view.readCov KZ (Rect.unit (s := S1280x1024) ![128 * (j % 8), 128 * (u % 8)] S384x128.size (by intro a; fin_cases a <;> simp [Shape.size] <;> omega)).toLoadRect

/-- The scores of store `n` = 8 · block + 2 · key head + parity. -/
def scoreN (n : ℕ) : FVec F S384x256 .f32 :=
  scores w (n / 8 % 8) (n % 2) (queryAt arg3 harg3 x1 (n / 8) (n % 8 / 2)) (keyAt arg14 KZ (n / 8) (n % 8 / 2 * 2)) (keyAt arg14 KZ (n / 8) (n % 8 / 2 * 2 + 1))
    (biasAt arg8 harg8 x6 (n % 8 / 2 * 4 + n % 2)) (biasAt arg8 harg8 x6 (n % 8 / 2 * 4 + 2 + n % 2))

/-- The first n score stores, newest first. -/
def sL : ℕ → List (View.Piece (Elt F) S2x8x384x256 .f32)
  | 0 => []
  | n + 1 => ⟨Rect.unit (s := S2x8x384x256) ![n / 8 % 2, n % 8, 0, 0] S1x1x384x256.size (by intro a; fin_cases a <;> simp [Shape.size] <;> omega),
      k0_pay35 (scoreN w arg3 harg3 arg8 harg8 arg14 x1 x6 KZ n)⟩ :: sL n

/-- The first n stores of the column maxima, newest first. -/
def mL : ℕ → List (View.Piece (Elt F) S2x8x8x256 .f32)
  | 0 => []
  | n + 1 => ⟨Rect.unit (s := S2x8x8x256) ![n / 8 % 2, n % 8, 0, 0] S1x1x8x256.size (by intro a; fin_cases a <;> simp [Shape.size] <;> omega),
      k0_pay36 k0_pay32 (scoreN w arg3 harg3 arg8 harg8 arg14 x1 x6 KZ n) (sinkAt arg2 harg2 x0 (n % 8 / 2 * 4 + n % 2)) (sinkAt arg2 harg2 x0 (n % 8 / 2 * 4 + 2 + n % 2))⟩ :: mL n
end

section
variable (arg2 : Memref sig .tc .smem S16 .f32) (harg2 : arg2.IsWhole) (arg15 : Memref sig .tc .vmem S320x1280 .bf16)
  (arg16 : Memref sig .tc .vmem S2x8x384x256 .f32) (arg17 : Memref sig .tc .vmem S2x8x8x256 .f32) (x0 : Vec F S16 .f32)
  (VT : List (View.Piece (Elt F) S320x1280 .bf16)) (SS : ℕ → List (View.Piece (Elt F) S2x8x384x256 .f32)) (MM : ℕ → List (View.Piece (Elt F) S2x8x8x256 .f32))

/-- How many score stores precede the finish of block `j`, key head `hh`. -/
def before (j hh : ℕ) : ℕ := if j = 7 then 64 else 8 * j + 8 + 2 * hh + 2

/-- The finished output of block `j`, key head `hh`, parity `par`. -/
def finN (j hh par : ℕ) : FVec F S64x256 .f32 :=
  k0_pay198 k0_pay32
    (arg15.view.readCov VT (Rect.unit (s := S320x1280) ![80 * (hh % 4), 128 * (j % 8)] S80x384.size (by intro a; fin_cases a <;> simp [Shape.size] <;> omega)).toLoadRect)
    (arg17.view.readCov (MM (before j hh)) (Rect.unit (s := S2x8x8x256) ![j % 2, (2 * hh + par) % 8, 0, 0] S1x1x8x256.size (by intro a; fin_cases a <;> simp [Shape.size] <;> omega)).toLoadRect)
    (arg16.view.readCov (SS (before j hh)) (Rect.unit (s := S2x8x384x256) ![j % 2, (2 * hh + par) % 8, 0, 0] S1x1x384x256.size (by intro a; fin_cases a <;> simp [Shape.size] <;> omega)).toLoadRect)
    (sinkAt arg2 harg2 x0 (hh * 4 + par)) (sinkAt arg2 harg2 x0 (hh * 4 + 2 + par))

/-- The first n stores of finished outputs, newest first; store `n` = 8 · block + 2 · key head + pair. -/
def oL : ℕ → List (View.Piece (Elt F) S1024x1024 .f32)
  | 0 => []
  | n + 1 => ⟨Rect.unit (s := S1024x1024) ![128 * (n / 8 % 8), 128 * (n % 8)] S128x128.size (by intro a; fin_cases a <;> simp [Shape.size] <;> omega),
      pair (n % 2) (finN arg2 harg2 arg15 arg16 arg17 x0 VT SS MM (n / 8 % 8) (n % 8 / 2) 0)
        (finN arg2 harg2 arg15 arg16 arg17 x0 VT SS MM (n / 8 % 8) (n % 8 / 2) 1)⟩ :: oL n
end

section
variable (arg4 : Memref sig .tc .vmem S1x1024x1024 .f32) (harg4 : arg4.IsWhole) (arg9 : Memref sig .tc .vmem S1x1024 .f32) (harg9 : arg9.IsWhole)
  (arg10 : Memref sig .tc .vmem S1024x1024 .bf16) (harg10 : arg10.IsWhole) (arg11 : Memref sig .tc .vmem S1024x1024 .bf16) (harg11 : arg11.IsWhole)
  (arg18 : Memref sig .tc .vmem S1024x1024 .f32) (arg19 : Memref sig .tc .vmem S1024x1024 .f32)
  (x2 : Vec F S1x1024x1024 .f32) (x7 : Vec F S1x1024 .f32) (x8 : Vec F S1024x1024 .bf16) (x9 : Vec F S1024x1024 .bf16)
  (O : ℕ → List (View.Piece (Elt F) S1024x1024 .f32)) (G : ℕ → List (View.Piece (Elt F) S1024x1024 .f32))

/-- 256 rows of the layer's input. -/
def xAt (n : ℕ) : Vec F S1x256x1024 .f32 :=
  View.readAt (Elt F) arg4.view (Rect.unit (s := S1x1024x1024) ![0, 256 * (n % 4), 0] S1x256x1024.size (by intro a; fin_cases a <;> simp [Shape.size]; omega)).toLoadRect (harg4.unread x2)

/-- The first n stores of gates, newest first. -/
def gL : ℕ → List (View.Piece (Elt F) S1024x1024 .f32)
  | 0 => []
  | n + 1 => ⟨Rect.unit (s := S1024x1024) ![256 * (n % 4), 0] S256x1024.size (by intro a; fin_cases a <;> simp [Shape.size]; omega),
      k0_pay439 (xAt arg4 harg4 x2 n) (View.readAt (Elt F) arg9.view (Rect.unit (s := S1x1024) ![0, 0] S1x1024.size (by decide)).toLoadRect (harg9.unread x7))
        (View.readAt (Elt F) arg10.view (Rect.unit (s := S1024x1024) ![0, 0] S1024x1024.size (by decide)).toLoadRect (harg10.unread x8))⟩ :: gL n

/-- The first n stores of the output, newest first. -/
def outL : ℕ → List (View.Piece (Elt F) S1x1024x1024 .f32)
  | 0 => []
  | n + 1 => ⟨Rect.unit (s := S1x1024x1024) ![0, 256 * (n % 4), 0] S1x256x1024.size (by intro a; fin_cases a <;> simp [Shape.size]; omega),
      k0_pay186 (arg18.view.readCov (O (16 * (n + 1))) (Rect.unit (s := S1024x1024) ![256 * (n % 4), 0] S256x1024.size (by intro a; fin_cases a <;> simp [Shape.size]; omega)).toLoadRect)
        (arg19.view.readCov (G (n + 1)) (Rect.unit (s := S1024x1024) ![256 * (n % 4), 0] S256x1024.size (by intro a; fin_cases a <;> simp [Shape.size]; omega)).toLoadRect)
        (xAt arg4 harg4 x2 n) (View.readAt (Elt F) arg11.view (Rect.unit (s := S1024x1024) ![0, 0] S1024x1024.size (by decide)).toLoadRect (harg11.unread x9))⟩ :: outL n
end

/-! ## The run's lists -/

section
variable (c : Dev nD) (i : grid0.Coords) (arg2 : Memref sig .tc .smem S16 .f32) (harg2 : arg2.IsWhole) (arg3 : Memref sig .tc .vmem S1x1024x1024 .bf16) (harg3 : arg3.IsWhole) (arg4 : Memref sig .tc .vmem S1x1024x1024 .f32) (harg4 : arg4.IsWhole) (arg5 : Memref sig .tc .vmem S1x128x512 .bf16) (harg5 : arg5.IsWhole) (arg6 : Memref sig .tc .vmem S1x1024x512 .bf16) (harg6 : arg6.IsWhole) (arg7 : Memref sig .tc .vmem S1x128x512 .bf16) (harg7 : arg7.IsWhole) (arg8 : Memref sig .tc .vmem S16x384x128 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024x1024 .f32) (harg12 : arg12.IsWhole) (arg13 : Memref sig .tc .vmem S1280x512 .bf16) (harg13 : arg13.IsWhole) (arg14 : Memref sig .tc .vmem S1280x1024 .bf16) (harg14 : arg14.IsWhole) (arg15 : Memref sig .tc .vmem S320x1280 .bf16) (harg15 : arg15.IsWhole) (arg16 : Memref sig .tc .vmem S2x8x384x256 .f32) (harg16 : arg16.IsWhole) (arg17 : Memref sig .tc .vmem S2x8x8x256 .f32) (harg17 : arg17.IsWhole) (arg18 : Memref sig .tc .vmem S1024x1024 .f32) (harg18 : arg18.IsWhole) (arg19 : Memref sig .tc .vmem S1024x1024 .f32) (harg19 : arg19.IsWhole)
    (x0 : Vec F S16 .f32) (x1 : Vec F S1x1024x1024 .bf16) (x2 : Vec F S1x1024x1024 .f32) (x3 : Vec F S1x128x512 .bf16) (x4 : Vec F S1x1024x512 .bf16) (x5 : Vec F S1x128x512 .bf16) (x6 : Vec F S16x384x128 .f32) (x7 : Vec F S1x1024 .f32) (x8 : Vec F S1024x1024 .bf16) (x9 : Vec F S1024x1024 .bf16)

/-- The run's key and value list. -/
abbrev KV := kvL (F := F) arg5 harg5 arg6 harg6 arg7 harg7 x3 x4 x5

/-- The run's list of padded keys. -/
abbrev KZ := kzL (F := F) arg13 (KV arg5 harg5 arg6 harg6 arg7 harg7 x3 x4 x5) 8

/-- The run's list of transposed values. -/
abbrev VT := vtL (F := F) arg13 (KV arg5 harg5 arg6 harg6 arg7 harg7 x3 x4 x5) 4

/-- The run's score lists. -/
abbrev SS := sL (F := F) (BitVec.ofNat 32 ↑(i 1)) arg3 harg3 arg8 harg8 arg14 x1 x6 (KZ arg5 harg5 arg6 harg6 arg7 harg7 arg13 x3 x4 x5)

/-- The run's lists of column maxima. -/
abbrev MM := mL (F := F) (BitVec.ofNat 32 ↑(i 1)) arg2 harg2 arg3 harg3 arg8 harg8 arg14 x0 x1 x6 (KZ arg5 harg5 arg6 harg6 arg7 harg7 arg13 x3 x4 x5)

/-- The run's lists of finished outputs. -/
abbrev OO := oL (F := F) arg2 harg2 arg15 arg16 arg17 x0 (VT arg5 harg5 arg6 harg6 arg7 harg7 arg13 x3 x4 x5)
  (SS i arg3 harg3 arg5 harg5 arg6 harg6 arg7 harg7 arg8 harg8 arg13 arg14 x1 x3 x4 x5 x6)
  (MM i arg2 harg2 arg3 harg3 arg5 harg5 arg6 harg6 arg7 harg7 arg8 harg8 arg13 arg14 x0 x1 x3 x4 x5 x6)

/-- The run's lists of gates. -/
abbrev GG := gL (F := F) arg4 harg4 arg9 harg9 arg10 harg10 x2 x7 x8

/-- The run's list of output stores. -/
abbrev OUT := outL (F := F) arg4 harg4 arg11 harg11 arg18 arg19 x2 x9
  (OO i arg2 harg2 arg3 harg3 arg5 harg5 arg6 harg6 arg7 harg7 arg8 harg8 arg13 arg14 arg15 arg16 arg17 x0 x1 x3 x4 x5 x6)
  (GG arg4 harg4 arg9 harg9 arg10 harg10 x2 x7 x8) 4

/-- The output stores of the kernel's body are those of the lists above. -/
theorem run_eq : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9).1
    = OUT i arg2 harg2 arg3 harg3 arg4 harg4 arg5 harg5 arg6 harg6 arg7 harg7 arg8 harg8 arg9 harg9 arg10 harg10 arg11 harg11 arg13 arg14 arg15 arg16
      arg17 arg18 arg19 x0 x1 x2 x3 x4 x5 x6 x7 x8 x9 := by
  sl_kernel_rfl
end

end Cert.Proof.Lists

end
-- ==== Proof.Reads.lean ====
/- ARRAYS BY NATURAL-NUMBER COORDINATES. A store's position, a block's position and a coordinate are sums and quotients of
   natural numbers; here an array is read at natural numbers, zero outside, and a list of stores is read through the one
   function all its stores are blocks of. -/
module

public import proofs.«01_k».proof.Proof.Lists
public import Idealize.ShloMosaic.Lib.Pointwise
public import Idealize.ShloMosaic.Lib.Pipeline.ReadBack

@[expose] public section

noncomputable section

namespace Cert.Proof.Reads

open Cert.KernelIdeal Cert.KernelIdeal.Gen Idealize.ShloMosaic Idealize.ShloMosaic.TcCoe Idealize.SL.Sem

/-- A vector at a natural number. -/
def at1 {a : ℕ} (X : (⟨1, ![a]⟩ : Shape).Idx → EReal) (r : ℕ) : EReal := if h : r < a then X (ix1 ⟨r, h⟩) else 0

/-- A matrix at two natural numbers. -/
def at2 {a b : ℕ} (X : (⟨2, ![a, b]⟩ : Shape).Idx → EReal) (r c : ℕ) : EReal := if h : r < a ∧ c < b then X (ix2 ⟨r, h.1⟩ ⟨c, h.2⟩) else 0

/-- A rank-three array at three natural numbers. -/
def at3 {a b c : ℕ} (X : (⟨3, ![a, b, c]⟩ : Shape).Idx → EReal) (p q r : ℕ) : EReal :=
  if h : p < a ∧ q < b ∧ r < c then X (ix3 ⟨p, h.1⟩ ⟨q, h.2.1⟩ ⟨r, h.2.2⟩) else 0

theorem to1 {a : ℕ} (X : (⟨1, ![a]⟩ : Shape).Idx → EReal) (r : Fin a) : X (ix1 r) = at1 X r.val := by
  rw [at1, dif_pos r.isLt]

theorem to2 {a b : ℕ} (X : (⟨2, ![a, b]⟩ : Shape).Idx → EReal) (r : Fin a) (c : Fin b) : X (ix2 r c) = at2 X r.val c.val := by
  rw [at2, dif_pos ⟨r.isLt, c.isLt⟩]

theorem to3 {a b c : ℕ} (X : (⟨3, ![a, b, c]⟩ : Shape).Idx → EReal) (p : Fin a) (q : Fin b) (r : Fin c) :
    X (ix3 p q r) = at3 X p.val q.val r.val := by
  rw [at3, dif_pos ⟨p.isLt, q.isLt, r.isLt⟩]

theorem idx1 {a : ℕ} (X : (⟨1, ![a]⟩ : Shape).Idx → EReal) (y : (⟨1, ![a]⟩ : Shape).Idx) : X y = at1 X (y 0).val := by
  conv_lhs => rw [eq_ix1 y]
  exact to1 X _

theorem idx2 {a b : ℕ} (X : (⟨2, ![a, b]⟩ : Shape).Idx → EReal) (y : (⟨2, ![a, b]⟩ : Shape).Idx) : X y = at2 X (y 0).val (y 1).val := by
  conv_lhs => rw [eq_ix2 y]
  exact to2 X _ _

theorem idx3 {a b c : ℕ} (X : (⟨3, ![a, b, c]⟩ : Shape).Idx → EReal) (y : (⟨3, ![a, b, c]⟩ : Shape).Idx) :
    X y = at3 X (y 0).val (y 1).val (y 2).val := by
  conv_lhs => rw [eq_ix3 y]
  exact to3 X _ _ _

/-- A matrix given by a function of its coordinates, at coordinates within it. -/
theorem at2_of {a b : ℕ} {X : (⟨2, ![a, b]⟩ : Shape).Idx → EReal} {g : ℕ → ℕ → EReal} (h : ∀ r c, X (ix2 r c) = g r.val c.val) {r c : ℕ}
    (hr : r < a) (hc : c < b) : at2 X r c = g r c := by
  rw [at2, dif_pos ⟨hr, hc⟩, h]

/-- A rank-three array with a leading axis of size one, likewise. -/
theorem at3_of {a b c : ℕ} {X : (⟨3, ![a, b, c]⟩ : Shape).Idx → EReal} {g : ℕ → ℕ → EReal} (h : ∀ p q r, X (ix3 p q r) = g q.val r.val) {p q r : ℕ}
    (hp : p < a) (hq : q < b) (hr : r < c) : at3 X p q r = g q r := by
  rw [at3, dif_pos ⟨hp, hq, hr⟩, h]

/-- A block of a matrix at natural-number coordinates within the block. -/
theorem at2_block {a b a' b' o0 o1 : ℕ} {X : (⟨2, ![a, b]⟩ : Shape).Idx → EReal} {R : (⟨2, ![a', b']⟩ : Shape).Idx → EReal}
    {inb : ∀ i, (![o0, o1] : Fin 2 → ℕ) i + (![a', b'] : Fin 2 → ℕ) i ≤ (⟨2, ![a, b]⟩ : Shape).size i}
    (h : ∀ j, R j = X ((Rect.unit (s := ⟨2, ![a, b]⟩) ![o0, o1] ![a', b'] inb).emb j)) {r c : ℕ} (hr : r < a') (hc : c < b') :
    at2 R r c = at2 X (o0 + r) (o1 + c) := by
  rw [at2, dif_pos ⟨hr, hc⟩, h, idx2 X]
  show at2 X (o0 + 1 * r) (o1 + 1 * c) = _
  rw [Nat.one_mul, Nat.one_mul]

/-- A block of a rank-three array at natural-number coordinates within the block. -/
theorem at3_block {a b c a' b' c' o0 o1 o2 : ℕ} {X : (⟨3, ![a, b, c]⟩ : Shape).Idx → EReal} {R : (⟨3, ![a', b', c']⟩ : Shape).Idx → EReal}
    {inb : ∀ i, (![o0, o1, o2] : Fin 3 → ℕ) i + (![a', b', c'] : Fin 3 → ℕ) i ≤ (⟨3, ![a, b, c]⟩ : Shape).size i}
    (h : ∀ j, R j = X ((Rect.unit (s := ⟨3, ![a, b, c]⟩) ![o0, o1, o2] ![a', b', c'] inb).emb j)) {p q r : ℕ} (hp : p < a') (hq : q < b') (hr : r < c') :
    at3 R p q r = at3 X (o0 + p) (o1 + q) (o2 + r) := by
  rw [at3, dif_pos ⟨hp, hq, hr⟩, h, idx3 X]
  show at3 X (o0 + 1 * p) (o1 + 1 * q) (o2 + 1 * r) = _
  rw [Nat.one_mul, Nat.one_mul, Nat.one_mul]

/-- A block of a matrix that is a function `g` of its coordinates. -/
theorem at2_blockG {a b a' b' o0 o1 : ℕ} {g : ℕ → ℕ → EReal} {R : (⟨2, ![a', b']⟩ : Shape).Idx → EReal} {C : (⟨2, ![a, b]⟩ : Shape).Idx → EReal}
    (hC : ∀ y, C y = g (y 0).val (y 1).val)
    {inb : ∀ i, (![o0, o1] : Fin 2 → ℕ) i + (![a', b'] : Fin 2 → ℕ) i ≤ (⟨2, ![a, b]⟩ : Shape).size i}
    (h : ∀ j, R j = C ((Rect.unit (s := ⟨2, ![a, b]⟩) ![o0, o1] ![a', b'] inb).emb j)) {r c : ℕ} (hr : r < a') (hc : c < b') :
    at2 R r c = g (o0 + r) (o1 + c) := by
  rw [at2, dif_pos ⟨hr, hc⟩, h, hC]
  show g (o0 + 1 * r) (o1 + 1 * c) = _
  rw [Nat.one_mul, Nat.one_mul]

/-- A store into a matrix whose payload is a block of the function `g`. -/
theorem piece2 {a b a' b' o0 o1 : ℕ} {g : ℕ → ℕ → EReal} {w : (⟨2, ![a', b']⟩ : Shape).Idx → EReal}
    (inb : ∀ i, (![o0, o1] : Fin 2 → ℕ) i + (![a', b'] : Fin 2 → ℕ) i ≤ (⟨2, ![a, b]⟩ : Shape).size i)
    (h : ∀ (r : Fin a') (c : Fin b'), w (ix2 r c) = g (o0 + r.val) (o1 + c.val)) (x : (⟨2, ![a', b']⟩ : Shape).Idx) :
    w x = g ((Rect.unit (s := ⟨2, ![a, b]⟩) ![o0, o1] ![a', b'] inb).emb x 0).val ((Rect.unit (s := ⟨2, ![a, b]⟩) ![o0, o1] ![a', b'] inb).emb x 1).val := by
  conv_lhs => rw [eq_ix2 x]
  refine (h _ _).trans ?_
  show _ = g (o0 + 1 * _) (o1 + 1 * _)
  rw [Nat.one_mul, Nat.one_mul]

/-- A store into an array with a leading axis of size one whose payload is a block of the function `g` of the other two. -/
theorem piece3 {a b c a' b' c' o0 o1 o2 : ℕ} {g : ℕ → ℕ → EReal} {w : (⟨3, ![a', b', c']⟩ : Shape).Idx → EReal}
    (inb : ∀ i, (![o0, o1, o2] : Fin 3 → ℕ) i + (![a', b', c'] : Fin 3 → ℕ) i ≤ (⟨3, ![a, b, c]⟩ : Shape).size i)
    (h : ∀ (p : Fin a') (q : Fin b') (r : Fin c'), w (ix3 p q r) = g (o1 + q.val) (o2 + r.val)) (x : (⟨3, ![a', b', c']⟩ : Shape).Idx) :
    w x = g ((Rect.unit (s := ⟨3, ![a, b, c]⟩) ![o0, o1, o2] ![a', b', c'] inb).emb x 1).val ((Rect.unit (s := ⟨3, ![a, b, c]⟩) ![o0, o1, o2] ![a', b', c'] inb).emb x 2).val := by
  conv_lhs => rw [eq_ix3 x]
  refine (h _ _ _).trans ?_
  show _ = g (o1 + 1 * _) (o2 + 1 * _)
  rw [Nat.one_mul, Nat.one_mul]

/-- A sum over 128 lanes is a sum over its two halves. -/
theorem sum_halves (f : ℕ → EReal) : ∑ x : Fin 128, f x.val = ∑ e : Fin 64, f e.val + ∑ e : Fin 64, f (64 + e.val) :=
  Fin.sum_univ_add (a := 64) (b := 64) fun x => f x.val

section
variable {sp : Space} {s : Shape} {e : EltTy}

/-- A list all of whose stores are blocks of `G` reads as `G` where some store covers. -/
theorem canon_eq [∀ e, Nonempty (Elt Ideal e)] (G : s.Idx → Elt Ideal e) (L : List (View.Piece (Elt Ideal) s e))
    (h : ∀ p ∈ L, ∀ x : p.1.shape.Idx, p.2 x = G (p.1.emb x)) (y : s.Idx) (hy : ∃ p ∈ L, y ∈ p.1.set) : View.canon L y = G y := by
  simpa using View.canon_append_of_pieces G [] L h y hy

/-- A covered read of a list at an index is the list's value there. -/
theorem readCov_at [∀ e, Nonempty (Elt Ideal e)] (v : View sig .tc sp s e) (L : List (View.Piece (Elt Ideal) s e)) (r : Rect s) (j : r.shape.Idx) :
    v.readCov L r.toLoadRect j = View.canon L (r.emb j) := by
  rw [View.readCov_eq_canon']; rfl

/-- A read of a whole buffer's contents at an index. -/
theorem readAt_whole (m : Memref sig .tc sp s e) (hm : m.IsWhole) (X : s.Idx → Elt Ideal e) (r : Rect s) (j : r.shape.Idx) :
    View.readAt (Elt Ideal) m.view r.toLoadRect (hm.unread X) j = X (r.emb j) := by
  rw [View.readAt_eq_ld]
  show (m.view.read (Elt Ideal) (hm.unread X)) _ = _
  rw [hm.read_unread]; rfl
end

/-- A read of a block of a whole bf16 matrix. -/
theorem readAt2_bf16 {sp : Space} {a b a' b' o0 o1 : ℕ} (m : Memref sig .tc sp ⟨2, ![a, b]⟩ .bf16) (hm : m.IsWhole) (X : Vec Ideal ⟨2, ![a, b]⟩ .bf16)
    (inb : ∀ i, (![o0, o1] : Fin 2 → ℕ) i + (![a', b'] : Fin 2 → ℕ) i ≤ (⟨2, ![a, b]⟩ : Shape).size i) {p q : ℕ} (hp : p < a') (hq : q < b') :
    at2 (a := a') (b := b') (View.readAt (Elt Ideal) m.view (Rect.unit (s := ⟨2, ![a, b]⟩) ![o0, o1] ![a', b'] inb).toLoadRect (hm.unread X)) p q
      = at2 (a := a) (b := b) X (o0 + p) (o1 + q) :=
  at2_block (X := X) (inb := inb) (fun j => readAt_whole m hm X (Rect.unit (s := ⟨2, ![a, b]⟩) ![o0, o1] ![a', b'] inb) j) hp hq

/-- A read of a block of a whole rank-three bf16 array. -/
theorem readAt3_bf16 {sp : Space} {a b c a' b' c' o0 o1 o2 : ℕ} (m : Memref sig .tc sp ⟨3, ![a, b, c]⟩ .bf16) (hm : m.IsWhole) (X : Vec Ideal ⟨3, ![a, b, c]⟩ .bf16)
    (inb : ∀ i, (![o0, o1, o2] : Fin 3 → ℕ) i + (![a', b', c'] : Fin 3 → ℕ) i ≤ (⟨3, ![a, b, c]⟩ : Shape).size i) {p q r : ℕ}
    (hp : p < a') (hq : q < b') (hr : r < c') :
    at3 (a := a') (b := b') (c := c') (View.readAt (Elt Ideal) m.view (Rect.unit (s := ⟨3, ![a, b, c]⟩) ![o0, o1, o2] ![a', b', c'] inb).toLoadRect (hm.unread X)) p q r
      = at3 (a := a) (b := b) (c := c) X (o0 + p) (o1 + q) (o2 + r) :=
  at3_block (X := X) (inb := inb) (fun j => readAt_whole m hm X (Rect.unit (s := ⟨3, ![a, b, c]⟩) ![o0, o1, o2] ![a', b', c'] inb) j) hp hq hr

/-- A covered read of a block of a bf16 list that is the function `g`. -/
theorem readCov2_bf16 {sp : Space} {a b a' b' o0 o1 : ℕ} (v : View sig .tc sp ⟨2, ![a, b]⟩ .bf16) (L : List (View.Piece (Elt Ideal) ⟨2, ![a, b]⟩ .bf16))
    {g : ℕ → ℕ → EReal} (hL : ∀ y, View.canon L y = g (y 0).val (y 1).val)
    (inb : ∀ i, (![o0, o1] : Fin 2 → ℕ) i + (![a', b'] : Fin 2 → ℕ) i ≤ (⟨2, ![a, b]⟩ : Shape).size i) {p q : ℕ} (hp : p < a') (hq : q < b') :
    at2 (a := a') (b := b') (v.readCov L (Rect.unit (s := ⟨2, ![a, b]⟩) ![o0, o1] ![a', b'] inb).toLoadRect) p q = g (o0 + p) (o1 + q) :=
  at2_blockG (C := View.canon L) hL (inb := inb) (fun j => readCov_at v L (Rect.unit (s := ⟨2, ![a, b]⟩) ![o0, o1] ![a', b'] inb) j) hp hq

/-- A read of a block of a whole f32 matrix. -/
theorem readAt2_f32 {sp : Space} {a b a' b' o0 o1 : ℕ} (m : Memref sig .tc sp ⟨2, ![a, b]⟩ .f32) (hm : m.IsWhole) (X : Vec Ideal ⟨2, ![a, b]⟩ .f32)
    (inb : ∀ i, (![o0, o1] : Fin 2 → ℕ) i + (![a', b'] : Fin 2 → ℕ) i ≤ (⟨2, ![a, b]⟩ : Shape).size i) {p q : ℕ} (hp : p < a') (hq : q < b') :
    at2 (a := a') (b := b') (View.readAt (Elt Ideal) m.view (Rect.unit (s := ⟨2, ![a, b]⟩) ![o0, o1] ![a', b'] inb).toLoadRect (hm.unread X)) p q
      = at2 (a := a) (b := b) X (o0 + p) (o1 + q) :=
  at2_block (X := X) (inb := inb) (fun j => readAt_whole m hm X (Rect.unit (s := ⟨2, ![a, b]⟩) ![o0, o1] ![a', b'] inb) j) hp hq

/-- A read of a block of a whole rank-three f32 array. -/
theorem readAt3_f32 {sp : Space} {a b c a' b' c' o0 o1 o2 : ℕ} (m : Memref sig .tc sp ⟨3, ![a, b, c]⟩ .f32) (hm : m.IsWhole) (X : Vec Ideal ⟨3, ![a, b, c]⟩ .f32)
    (inb : ∀ i, (![o0, o1, o2] : Fin 3 → ℕ) i + (![a', b', c'] : Fin 3 → ℕ) i ≤ (⟨3, ![a, b, c]⟩ : Shape).size i) {p q r : ℕ}
    (hp : p < a') (hq : q < b') (hr : r < c') :
    at3 (a := a') (b := b') (c := c') (View.readAt (Elt Ideal) m.view (Rect.unit (s := ⟨3, ![a, b, c]⟩) ![o0, o1, o2] ![a', b', c'] inb).toLoadRect (hm.unread X)) p q r
      = at3 (a := a) (b := b) (c := c) X (o0 + p) (o1 + q) (o2 + r) :=
  at3_block (X := X) (inb := inb) (fun j => readAt_whole m hm X (Rect.unit (s := ⟨3, ![a, b, c]⟩) ![o0, o1, o2] ![a', b', c'] inb) j) hp hq hr

/-- A covered read of a block of a f32 list that is the function `g`. -/
theorem readCov2_f32 {sp : Space} {a b a' b' o0 o1 : ℕ} (v : View sig .tc sp ⟨2, ![a, b]⟩ .f32) (L : List (View.Piece (Elt Ideal) ⟨2, ![a, b]⟩ .f32))
    {g : ℕ → ℕ → EReal} (hL : ∀ y, View.canon L y = g (y 0).val (y 1).val)
    (inb : ∀ i, (![o0, o1] : Fin 2 → ℕ) i + (![a', b'] : Fin 2 → ℕ) i ≤ (⟨2, ![a, b]⟩ : Shape).size i) {p q : ℕ} (hp : p < a') (hq : q < b') :
    at2 (a := a') (b := b') (v.readCov L (Rect.unit (s := ⟨2, ![a, b]⟩) ![o0, o1] ![a', b'] inb).toLoadRect) p q = g (o0 + p) (o1 + q) :=
  at2_blockG (C := View.canon L) hL (inb := inb) (fun j => readCov_at v L (Rect.unit (s := ⟨2, ![a, b]⟩) ![o0, o1] ![a', b'] inb) j) hp hq

end Cert.Proof.Reads

end
-- ==== Proof.Values.lean ====
/- WHAT ONE GRID POINT COMPUTES. Each list of stores read as one function of natural-number coordinates: the keys and values with
   their neighbouring blocks, the padded keys, the transposed values over rows of ones. -/
module

public import proofs.«01_k».proof.Proof.Reads

@[expose] public section

noncomputable section

namespace Cert.Proof.Values

open Cert.KernelIdeal Cert.KernelIdeal.Gen Idealize.ShloMosaic Idealize.ShloMosaic.TcCoe Idealize.SL.Sem Cert.Proof.Lists Cert.Proof.Reads

/-! ## Lane masks -/

/-- The test that a lane lies below a bound. -/
theorem lane_lt (d n : ℕ) (hd : d < 2 ^ 31) (hn : n < 2 ^ 31) {α : Type} (a b : α) :
    Scalar.select (IntOp.cmpi .slt (BitVec.ofNat 32 d) (BitVec.ofNat 32 n)) a b = if d < n then a else b := by
  have h : IntOp.cmpi .slt (BitVec.ofNat 32 d) (BitVec.ofNat 32 n) = BitVec.ofBool (decide (d < n)) := by
    simp only [IntOp.cmpi]
    congr 1
    rw [BitVec.slt, BitVec.toInt_ofNat', BitVec.toInt_ofNat']
    simp only [Int.bmod_def]
    apply decide_eq_decide.2
    omega
  rw [h]
  by_cases hlt : d < n <;> simp [hlt, Scalar.select]

/-! ## The payloads at an index -/

theorem pay1 (X : Vec Ideal S1x128x512 .bf16) (r : Fin 128) (c : Fin 512) : k0_pay1 X (ix2 r c) = at3 X 0 r.val c.val := by
  pointwise [k0_pay1]
  exact to3 X _ _ _

theorem pay2 (X : Vec Ideal S1x1024x512 .bf16) (r : Fin 1024) (c : Fin 512) : k0_pay2 X (ix2 r c) = at3 X 0 r.val c.val := by
  pointwise [k0_pay2]
  exact to3 X _ _ _

theorem pay3 (X : Vec Ideal S1x128x512 .bf16) (r : Fin 128) (c : Fin 512) : k0_pay3 X (ix2 r c) = at3 X 0 r.val c.val := by
  pointwise [k0_pay3]
  exact to3 X _ _ _

/-- A padded key head: even and odd heads of a pair, each once in the lower and once in the upper 64 lanes, zero elsewhere. -/
def padF (X : ℕ → ℕ → EReal) (u r e : ℕ) : EReal :=
  if u % 2 = 0 then if e < 64 then X r (64 * (u % 4 / 2) + e) else 0
  else if e < 64 then 0 else X r (64 * (u % 4 / 2) + (e - 64))

theorem keys_apply (u : ℕ) (X : Vec Ideal S1280x128 .bf16) (r : Fin 1280) (e : Fin 128) :
    keys u X (ix2 r e) = padF (at2 X) u r.val e.val := by
  have hu : u % 4 = 0 ∨ u % 4 = 1 ∨ u % 4 = 2 ∨ u % 4 = 3 := by omega
  have he := e.isLt
  rcases hu with h | h | h | h
  · have h2 : u % 2 = 0 := by omega
    have h4 : u % 4 / 2 = 0 := by omega
    simp only [keys, h, padF, h2, h4, ↓reduceIte, Nat.reduceEqDiff, OfNat.ofNat_ne_zero, OfNat.ofNat_ne_one, one_ne_zero]
    pointwise [k0_pay11, k0_pay7, k0_pay6, k0_pay5, k0_pay4]
    rw [lane_lt _ 64 (by omega) (by omega)]
    split_ifs with h1
    all_goals first
      | rfl
      | (refine (to2 X _ _).trans ?_
         congr 1 <;> (try dsimp only) <;> omega)
  · have h2 : u % 2 = 1 := by omega
    have h4 : u % 4 / 2 = 0 := by omega
    simp only [keys, h, padF, h2, h4, ↓reduceIte, Nat.reduceEqDiff, OfNat.ofNat_ne_zero, OfNat.ofNat_ne_one, one_ne_zero]
    pointwise [k0_pay12, k0_pay8, k0_pay6, k0_pay5, k0_pay4]
    rw [lane_lt _ 64 (by omega) (by omega)]
    split_ifs with h1
    all_goals first
      | rfl
      | (refine (to2 X _ _).trans ?_
         congr 1 <;> (try dsimp only) <;> omega)
  · have h2 : u % 2 = 0 := by omega
    have h4 : u % 4 / 2 = 1 := by omega
    simp only [keys, h, padF, h2, h4, ↓reduceIte, Nat.reduceEqDiff, OfNat.ofNat_ne_zero, OfNat.ofNat_ne_one, one_ne_zero]
    pointwise [k0_pay13, k0_pay9, k0_pay6, k0_pay5, k0_pay4]
    rw [lane_lt _ 64 (by omega) (by omega)]
    split_ifs with h1
    all_goals first
      | rfl
      | (refine (to2 X _ _).trans ?_
         congr 1 <;> (try dsimp only) <;> omega)
  · have h2 : u % 2 = 1 := by omega
    have h4 : u % 4 / 2 = 1 := by omega
    simp only [keys, h, padF, h2, h4, ↓reduceIte, Nat.reduceEqDiff, OfNat.ofNat_ne_zero, OfNat.ofNat_ne_one, one_ne_zero]
    pointwise [k0_pay14, k0_pay10, k0_pay6, k0_pay5, k0_pay4]
    rw [lane_lt _ 64 (by omega) (by omega)]
    split_ifs with h1
    all_goals first
      | rfl
      | (refine (to2 X _ _).trans ?_
         congr 1 <;> (try dsimp only) <;> omega)

theorem vals_apply (hh : ℕ) (hhh : hh < 4) (X : Vec Ideal S1280x256 .bf16) (d : Fin 64) (r : Fin 1280) :
    vals hh X (ix2 d r) = at2 X r.val (64 * hh + d.val) := by
  have hu : hh = 0 ∨ hh = 1 ∨ hh = 2 ∨ hh = 3 := by omega
  rcases hu with rfl | rfl | rfl | rfl <;>
  simp only [vals, ↓reduceIte, Nat.reduceEqDiff, OfNat.ofNat_ne_zero, OfNat.ofNat_ne_one, one_ne_zero] <;>
  · pointwise [k0_pay23, k0_pay25, k0_pay27, k0_pay30, k0_pay29, k0_pay22]
    refine (to2 X _ _).trans ?_
    congr 1 <;> (try dsimp only) <;> omega

theorem ones_apply (d : Fin 16) (r : Fin 1280) : k0_pay24 (F := Ideal) (ix2 d r) = 1 := by
  pointwise [k0_pay24]

/-! ## Keys and values with their neighbours -/

section
variable (arg5 : Memref sig .tc .vmem S1x128x512 .bf16) (harg5 : arg5.IsWhole) (arg6 : Memref sig .tc .vmem S1x1024x512 .bf16) (harg6 : arg6.IsWhole)
  (arg7 : Memref sig .tc .vmem S1x128x512 .bf16) (harg7 : arg7.IsWhole) (arg13 : Memref sig .tc .vmem S1280x512 .bf16)
  (x3 : Vec Ideal S1x128x512 .bf16) (x4 : Vec Ideal S1x1024x512 .bf16) (x5 : Vec Ideal S1x128x512 .bf16)

/-- Row `r` of the tile's keys and values: 128 rows before it, its 1024 rows, 128 rows after it. -/
def kvF (r c : ℕ) : EReal :=
  if r < 128 then at3 x3 0 r c else if r < 1152 then at3 x4 0 (r - 128) c else at3 x5 0 (r - 1152) c

/-- The keys and values' list of stores. -/
theorem kv_canon (y : S1280x512.Idx) : View.canon (KV (F := Ideal) arg5 harg5 arg6 harg6 arg7 harg7 x3 x4 x5) y = kvF x3 x4 x5 (y 0).val (y 1).val := by
  refine canon_eq (e := .bf16) (fun y => kvF x3 x4 x5 (y 0).val (y 1).val) _ ?_ y ?_
  · intro p hp
    simp only [KV, kvL, List.mem_cons, List.not_mem_nil, or_false] at hp
    rcases hp with rfl | rfl | rfl
    · refine piece2 (g := kvF x3 x4 x5) (by decide) fun r c => ?_
      dsimp only
      rw [pay3]
      rw [readAt3_bf16 arg7 harg7 x5 _ (by omega) (by omega) (by omega), kvF, if_neg (by omega), if_neg (by omega)]
      congr 1 <;> simp
    · refine piece2 (g := kvF x3 x4 x5) (by decide) fun r c => ?_
      dsimp only
      rw [pay2]
      rw [readAt3_bf16 arg6 harg6 x4 _ (by omega) (by omega) (by omega), kvF, if_neg (by omega), if_pos (by omega)]
      congr 1 <;> simp
    · refine piece2 (g := kvF x3 x4 x5) (by decide) fun r c => ?_
      dsimp only
      rw [pay1]
      rw [readAt3_bf16 arg5 harg5 x3 _ (by omega) (by omega) (by omega), kvF, if_pos (by omega)]
  · have h0 : (y 0).val < 1280 := (y 0).isLt
    have h1 : (y 1).val < 512 := (y 1).isLt
    simp only [KV, kvL, List.exists_mem_cons_iff]
    by_cases ha : (y 0).val < 128
    · right; right; left
      rw [Rect.mem_set_unit]
      exact Fin.forall_fin_two.2 ⟨⟨by simp, by simpa using ha⟩, ⟨by simp, by simpa using h1⟩⟩
    by_cases hb : (y 0).val < 1152
    · right; left
      rw [Rect.mem_set_unit]
      exact Fin.forall_fin_two.2 ⟨⟨by simp; omega, by simp [Shape.size]; omega⟩, ⟨by simp, by simpa using h1⟩⟩
    · left
      rw [Rect.mem_set_unit]
      exact Fin.forall_fin_two.2 ⟨⟨by simp; omega, by simp [Shape.size]; omega⟩, ⟨by simp, by simpa using h1⟩⟩
end

/-! ## Padded keys and transposed values -/

section
variable (arg13 : Memref sig .tc .vmem S1280x512 .bf16) (L : List (View.Piece (Elt Ideal) S1280x512 .bf16)) (kv : ℕ → ℕ → EReal)
  (hL : ∀ y, View.canon L y = kv (y 0).val (y 1).val)

/-- Padded keys by row and column: column `128 u + e` is lane `e` of the padded head `u`. -/
def kzF (r c : ℕ) : EReal :=
  if c / 128 % 2 = 0 then if c % 128 < 64 then kv r (64 * (c / 256) + c % 128) else 0
  else if c % 128 < 64 then 0 else kv r (64 * (c / 256) + (c % 128 - 64))

include hL in
theorem kz_piece (n : ℕ) (r : Fin 1280) (e : Fin 128) :
    keys n (arg13.view.readCov L (Rect.unit (s := S1280x512) ![0, 128 * (n % 8 / 4)] S1280x128.size (by intro a; fin_cases a <;> simp [Shape.size] <;> omega)).toLoadRect)
      (ix2 r e) = kzF kv (0 + r.val) (128 * (n % 8) + e.val) := by
  have he := e.isLt
  have hr := r.isLt
  have h1 : (128 * (n % 8) + e.val) / 128 = n % 8 := by omega
  have h2 : (128 * (n % 8) + e.val) % 128 = e.val := by omega
  have h3 : (128 * (n % 8) + e.val) / 256 = n % 8 / 2 := by omega
  rw [keys_apply, padF, kzF, h1, h2, h3]
  have h4 : n % 8 % 2 = n % 2 := by omega
  rw [h4]
  split_ifs
  · rw [readCov2_bf16 arg13.view L hL _ hr (by omega)]
    congr 1; omega
  · rfl
  · rfl
  · rw [readCov2_bf16 arg13.view L hL _ hr (by omega)]
    congr 1; omega

include hL in
/-- The list of padded keys after `n ≤ 8` stores reads as `kzF` in its first `128 n` columns. -/
theorem kz_canon : ∀ (n : ℕ) (y : S1280x1024.Idx), n ≤ 8 → (y 1).val < 128 * n →
    View.canon (kzL arg13 L n) y = kzF kv (y 0).val (y 1).val := by
  intro n y hn hy
  refine canon_eq (e := .bf16) (fun y => kzF kv (y 0).val (y 1).val) _ ?_ y ?_
  · clear hy hn
    induction n with
    | zero => intro p hp; simp [kzL] at hp
    | succ n ih =>
      intro p hp
      rcases List.mem_cons.1 hp with rfl | hp
      · exact piece2 (g := kzF kv) (by intro a; fin_cases a <;> simp [Shape.size] <;> omega) fun r c => kz_piece arg13 L kv hL n r c
      · exact ih p hp
  · have h0 : (y 0).val < 1280 := (y 0).isLt
    induction n with
    | zero => omega
    | succ n ih =>
      rw [kzL, List.exists_mem_cons_iff]
      by_cases hc : (y 1).val < 128 * n
      · exact .inr (ih (by omega) hc)
      · left
        rw [kzP, Rect.mem_set_unit]
        exact Fin.forall_fin_two.2 ⟨⟨by simp, by simpa using h0⟩, ⟨by simp; omega, by simp [Shape.size]; omega⟩⟩

/-- Transposed values by row and column: head `hh`'s rows begin at `80 hh`, with sixteen rows of ones under its 64. -/
def vtF (r c : ℕ) : EReal := if r % 80 < 64 then kv c (256 + (64 * (r / 80) + r % 80)) else 1

include hL in
/-- The list of transposed values after `n ≤ 4` pairs of stores reads as `vtF` in its first `80 n` rows. -/
theorem vt_canon : ∀ (n : ℕ) (y : S320x1280.Idx), n ≤ 4 → (y 0).val < 80 * n →
    View.canon (vtL arg13 L n) y = vtF kv (y 0).val (y 1).val := by
  intro n y hn hy
  refine canon_eq (e := .bf16) (fun y => vtF kv (y 0).val (y 1).val) _ ?_ y ?_
  · clear hy hn
    induction n with
    | zero => intro p hp; simp [vtL] at hp
    | succ n ih =>
      intro p hp
      rw [vtL] at hp
      rcases List.mem_cons.1 hp with rfl | hp
      · refine piece2 (g := vtF kv) (by intro a; fin_cases a <;> simp [Shape.size] <;> omega) fun r c => ?_
        dsimp only
        rw [ones_apply, vtF, if_neg (by omega)]
      rcases List.mem_cons.1 hp with rfl | hp
      · refine piece2 (g := vtF kv) (by intro a; fin_cases a <;> simp [Shape.size] <;> omega) fun r c => ?_
        dsimp only
        rw [vals_apply _ (by omega), readCov2_bf16 arg13.view L hL _ c.isLt (by omega), vtF, if_pos (by omega)]
        congr 1 <;> omega
      · exact ih p hp
  · have h1 : (y 1).val < 1280 := (y 1).isLt
    induction n with
    | zero => omega
    | succ n ih =>
      rw [vtL, List.exists_mem_cons_iff, List.exists_mem_cons_iff]
      by_cases hc : (y 0).val < 80 * n
      · exact .inr (.inr (ih (by omega) hc))
      by_cases hd : (y 0).val < 80 * n + 64
      · right; left
        rw [Rect.mem_set_unit]
        exact Fin.forall_fin_two.2 ⟨⟨by simp; omega, by simp [Shape.size]; omega⟩, ⟨by simp, by simpa using h1⟩⟩
      · left
        rw [Rect.mem_set_unit]
        exact Fin.forall_fin_two.2 ⟨⟨by simp; omega, by simp [Shape.size]; omega⟩, ⟨by simp, by simpa using h1⟩⟩
end

end Cert.Proof.Values

end
-- ==== Proof.Scores.lean ====
/- THE SCORES OF ONE GRID POINT and the slots they pass through. -/
module

public import proofs.«01_k».proof.Proof.Values

@[expose] public section

noncomputable section

namespace Cert.Proof.Values

open Cert.KernelIdeal Cert.KernelIdeal.Gen Idealize.ShloMosaic Idealize.ShloMosaic.TcCoe Idealize.SL.Sem Cert.Proof.Lists Cert.Proof.Reads

/-- The joined score product of one parity with its bias. -/
def rawF (kp q b0 b1 : ℕ → ℕ → EReal) (r d : ℕ) : EReal :=
  (∑ x : Fin 128, kp r x.val * q (d % 128) (128 * (d / 128) + x.val)) + if d < 128 then b0 r d else b1 r (d - 128)

theorem raw_apply (par : ℕ) (q : Vec Ideal S1x128x256 .bf16) (k0 k1 : Vec Ideal S384x128 .bf16) (b0 b1 : Vec Ideal S1x384x128 .f32)
    (r : Fin 384) (d : Fin 256) :
    raw par q k0 k1 b0 b1 (ix2 r d) = rawF (if par = 0 then at2 (a := 384) (b := 128) k0 else at2 (a := 384) (b := 128) k1)
      (at3 (a := 1) (b := 128) (c := 256) q 0) (at3 (a := 1) (b := 384) (c := 128) b0 0) (at3 (a := 1) (b := 384) (c := 128) b1 0) r.val d.val := by
  have hd := d.isLt
  by_cases hp : par = 0
  all_goals
    simp only [raw, hp, ↓reduceIte, rawF]
    pointwise [k0_pay190]
    congr 1
    · refine Finset.sum_congr rfl fun x _ => ?_
      have hx := x.isLt
      congr 1
      · first | exact to2 k0 _ _ | exact to2 k1 _ _ | (refine (to2 k1 _ _).trans ?_; congr 1 <;> (try dsimp only) <;> omega)
      · split_ifs <;> first
          | exact absurd rfl ‹¬ _›
          | (refine (to3 q _ _ _).trans ?_
             congr 1 <;> (try dsimp only) <;> omega)
    · split_ifs <;> first
        | exact absurd rfl ‹¬ _›
        | exact to3 b0 _ _ _
        | exact to3 b1 _ _ _

/-- The mask of a tile's edge added where block `j` and row `r` are at it. -/
def edgeF (w : BitVec 32) (j r : ℕ) (z : EReal) : EReal :=
  if j = 0 ∧ r < 128 then z + edge (F := Ideal) w 0#32 else if j = 7 ∧ 256 ≤ r then z + edge (F := Ideal) w 3#32 else z

theorem scores_apply (w : BitVec 32) (j par : ℕ) (q : Vec Ideal S1x128x256 .bf16) (k0 k1 : Vec Ideal S384x128 .bf16) (b0 b1 : Vec Ideal S1x384x128 .f32)
    (r : Fin 384) (d : Fin 256) :
    scores w j par q k0 k1 b0 b1 (ix2 r d) = edgeF w j r.val (raw par q k0 k1 b0 b1 (ix2 r d)) := by
  have hr := r.isLt
  by_cases hj : j = 0
  · rw [scores, if_pos hj]
    generalize raw par q k0 k1 b0 b1 = R
    by_cases h : r.val < 128
    · rw [edgeF, if_pos ⟨hj, h⟩]
      pointwise
      simp only [h, ↓reduceDIte]
    · rw [edgeF, if_neg (by omega), if_neg (by omega)]
      have e : (⟨128 + (r.val - 128), by omega⟩ : Fin 384) = r := Fin.ext (by dsimp only; omega)
      pointwise
      simp only [h, ↓reduceDIte, e]
  by_cases hj7 : j = 7
  · rw [scores, if_neg hj, if_pos hj7]
    generalize raw par q k0 k1 b0 b1 = R
    by_cases h : r.val < 256
    · rw [edgeF, if_neg (by omega), if_neg (by omega)]
      pointwise
      simp only [h, ↓reduceDIte]
    · rw [edgeF, if_neg (by omega), if_pos ⟨hj7, by omega⟩]
      have e : (⟨256 + (r.val - 256), by omega⟩ : Fin 384) = r := Fin.ext (by dsimp only; omega)
      pointwise
      simp only [h, ↓reduceDIte, e]
  · rw [scores, if_neg hj, if_neg hj7, edgeF, if_neg (by omega), if_neg (by omega)]

theorem pay35_apply (S : FVec Ideal S384x256 .f32) (u v : Fin 1) (r : Fin 384) (d : Fin 256) : k0_pay35 S (ix4 u v r d) = S (ix2 r d) := by
  pointwise [k0_pay35]

theorem pay36_apply (S : FVec Ideal S384x256 .f32) (a b : EReal) (u v : Fin 1) (r : Fin 8) (d : Fin 256) :
    k0_pay36 k0_pay32 S a b (ix4 u v r d)
      = max (Finset.univ.fold max (Ideal.ofBits .f32 0xFF800000#32) fun k : Fin 384 => S (ix2 k d)) (if d.val < 128 then a else b) := by
  pointwise [k0_pay36, k0_pay32]
  rw [lane_lt _ 128 (by omega) (by omega)]

theorem pay198_apply (vt : Vec Ideal S80x384 .bf16) (mm : Vec Ideal S1x1x8x256 .f32) (s : Vec Ideal S1x1x384x256 .f32) (a b : EReal) (r : Fin 64) (d : Fin 256) :
    k0_pay198 k0_pay32 vt mm s a b (ix2 r d)
      = (∑ k : Fin 384, at2 (a := 80) (b := 384) vt r.val k.val * Ideal.exp2 (s (ix4 0 0 k d) - mm (ix4 0 0 0 d)))
        * Ideal.div 1 ((∑ k : Fin 384, at2 (a := 80) (b := 384) vt 64 k.val * Ideal.exp2 (s (ix4 0 0 k d) - mm (ix4 0 0 0 d)))
            + Ideal.exp2 ((if d.val < 128 then a else b) - mm (ix4 0 0 0 d))) := by
  pointwise [k0_pay198, k0_pay32]
  rw [lane_lt _ 128 (by omega) (by omega)]
  simp only [to2 (a := 80) (b := 384) vt]
  rfl

theorem pair_apply (t : ℕ) (ht : t < 2) (A B : FVec Ideal S64x256 .f32) (a b : Fin 128) :
    pair t A B (ix2 a b) = if b.val < 64 then at2 (a := 64) (b := 256) A b.val (128 * t + a.val) else at2 (a := 64) (b := 256) B (b.val - 64) (128 * t + a.val) := by
  have h : t = 0 ∨ t = 1 := by omega
  rcases h with rfl | rfl <;>
  · simp only [pair, ↓reduceIte, one_ne_zero]
    pointwise
    split_ifs <;> first
      | exact absurd rfl ‹¬ _›
      | (refine (to2 A _ _).trans ?_
         congr 1 <;> (try dsimp only) <;> omega)
      | (refine (to2 B _ _).trans ?_
         congr 1 <;> (try dsimp only) <;> omega)

end Cert.Proof.Values

end
-- ==== Proof.Tile.lean ====
/- THE OUTPUT OF ONE GRID POINT as a function of its blocks: the scores through their reused slots, the finished outputs, the
   gates, the projected result. -/
module

public import proofs.«01_k».proof.Proof.Scores

@[expose] public section

noncomputable section

namespace Cert.Proof.Values

open Cert.KernelIdeal Cert.KernelIdeal.Gen Idealize.ShloMosaic Idealize.ShloMosaic.TcCoe Idealize.SL.Sem Cert.Proof.Lists Cert.Proof.Reads

/-! ## The functions -/

section
variable (w : BitVec 32) (kv q : ℕ → ℕ → EReal) (bf : ℕ → ℕ → ℕ → EReal) (sk : ℕ → EReal)

/-- The score of head `h`, block `j`, key `k` and query `i`. -/
def scF (h j k i : ℕ) : EReal :=
  edgeF w j k ((∑ e : Fin 64, kv (128 * j + k) (64 * (h / 4) + e.val) * q (128 * j + i) (64 * h + e.val)) + bf h k i)

/-- The largest score of a query, its head's sink included. -/
def mxF (h j i : ℕ) : EReal :=
  max (Finset.univ.fold max (Ideal.ofBits .f32 0xFF800000#32) fun k : Fin 384 => scF w kv q bf h j k.val i) (sk h)

/-- The attention's output of head `h`, block `j`, query `i`, column `d`. -/
def atF (h j i d : ℕ) : EReal :=
  (∑ k : Fin 384, kv (128 * j + k.val) (256 + (64 * (h / 4) + d)) * Ideal.exp2 (scF w kv q bf h j k.val i - mxF w kv q bf sk h j i))
    * Ideal.div 1 ((∑ k : Fin 384, 1 * Ideal.exp2 (scF w kv q bf h j k.val i - mxF w kv q bf sk h j i)) + Ideal.exp2 (sk h - mxF w kv q bf sk h j i))

/-- The attention's output by row and column of the tile. -/
def oF (r c : ℕ) : EReal := atF w kv q bf sk (c / 64) (r / 128) (r % 128) (c % 64)
end

section
variable (x g : ℕ → ℕ → EReal) (wg wo : ℕ → ℕ → EReal)

/-- The gate's argument: the normalised input times the gate's weights. -/
def zF (r d : ℕ) : EReal :=
  ∑ e : Fin 1024, x r e.val * Ideal.rsqrt (Ideal.div (∑ e' : Fin 1024, x r e'.val * x r e'.val) (Ideal.ofBits .f32 0x44800000#32) + Ideal.ofBits .f32 0x358637BD#32)
    * g 0 e.val * wg e.val d

/-- The gate by row and column of the tile. -/
def gF (r d : ℕ) : EReal :=
  Ideal.ofBits .f32 0x3F000000#32 * zF x g wg r d
    + Ideal.ofBits .f32 0x3F000000#32 * zF x g wg r d * Ideal.tanh (Ideal.ofBits .f32 0x3F000000#32 * zF x g wg r d)

/-- The output by row and column of the tile. -/
def outF (o : ℕ → ℕ → EReal) (r c : ℕ) : EReal := x r c + ∑ d : Fin 1024, o r d.val * gF x g wg r d.val * wo d.val c
end

/-! ## The scores in their slots -/

section
variable (w : BitVec 32) (arg2 : Memref sig .tc .smem S16 .f32) (harg2 : arg2.IsWhole) (arg3 : Memref sig .tc .vmem S1x1024x1024 .bf16) (harg3 : arg3.IsWhole)
  (arg8 : Memref sig .tc .vmem S16x384x128 .f32) (harg8 : arg8.IsWhole) (arg14 : Memref sig .tc .vmem S1280x1024 .bf16)
  (x0 : Vec Ideal S16 .f32) (x1 : Vec Ideal S1x1024x1024 .bf16) (x6 : Vec Ideal S16x384x128 .f32) (L : List (View.Piece (Elt Ideal) S1280x1024 .bf16))
  (kv : ℕ → ℕ → EReal) (hL : ∀ y, View.canon L y = kzF kv (y 0).val (y 1).val)

theorem sinkAt_eq (h : ℕ) (hh : h < 16) : sinkAt arg2 harg2 x0 h = at1 (a := 16) x0 h := by
  rw [sinkAt, readAt_whole, at1, dif_pos hh]
  congr 1
  funext a
  apply Fin.ext
  have : a = 0 := Subsingleton.elim _ _
  subst this
  show h % 16 + 1 * 0 = h
  omega

include hL in
theorem scoreN_apply (n : ℕ) (hn : n < 64) (r : Fin 384) (d : Fin 256) :
    scoreN w arg3 harg3 arg8 harg8 arg14 x1 x6 L n (ix2 r d)
      = scF w kv (at3 (a := 1) (b := 1024) (c := 1024) x1 0) (at3 (a := 16) (b := 384) (c := 128) x6) (4 * (n % 8 / 2) + 2 * (d.val / 128) + n % 2) (n / 8) r.val (d.val % 128) := by
  have hd := d.isLt
  have hr := r.isLt
  have hj : n / 8 % 8 = n / 8 := by omega
  rw [scoreN, scores_apply, raw_apply, scF, hj]
  congr 1
  rw [rawF]
  congr 1
  · set u := n % 8 / 2 * 2 + n % 2 with hu
    have key : ∀ x : Fin 128, (if n % 2 = 0 then at2 (a := 384) (b := 128) (keyAt arg14 L (n / 8) (n % 8 / 2 * 2))
        else at2 (a := 384) (b := 128) (keyAt arg14 L (n / 8) (n % 8 / 2 * 2 + 1))) r.val x.val = kzF kv (128 * (n / 8) + r.val) (128 * u + x.val) := by
      intro x
      split_ifs with hp
      · rw [keyAt, readCov2_bf16 arg14.view L hL _ hr x.isLt]
        congr 1 <;> omega
      · rw [keyAt, readCov2_bf16 arg14.view L hL _ hr x.isLt]
        congr 1 <;> omega
    have hq : ∀ x : Fin 128, at3 (a := 1) (b := 128) (c := 256) (queryAt arg3 harg3 x1 (n / 8) (n % 8 / 2)) 0 (d.val % 128) (128 * (d.val / 128) + x.val)
        = at3 (a := 1) (b := 1024) (c := 1024) x1 0 (128 * (n / 8) + d.val % 128) (256 * (n % 8 / 2) + 128 * (d.val / 128) + x.val) := by
      intro x
      rw [queryAt, readAt3_bf16 arg3 harg3 x1 _ (by omega) (by omega) (by omega)]
      congr 1 <;> omega
    simp only [key, hq]
    rw [sum_halves fun x => kzF kv (128 * (n / 8) + r.val) (128 * u + x)
      * at3 (a := 1) (b := 1024) (c := 1024) x1 0 (128 * (n / 8) + d.val % 128) (256 * (n % 8 / 2) + 128 * (d.val / 128) + x)]
    have h1 : ∀ x : ℕ, x < 128 → (128 * u + x) / 128 % 2 = n % 2 := by intro x hx; omega
    have h2 : ∀ x : ℕ, x < 128 → (128 * u + x) % 128 = x := by intro x hx; omega
    have h3 : ∀ x : ℕ, x < 128 → (128 * u + x) / 256 = n % 8 / 2 := by intro x hx; omega
    by_cases hp : n % 2 = 0
    · rw [Finset.sum_eq_zero (s := Finset.univ) (f := fun e : Fin 64 => kzF kv (128 * (n / 8) + r.val) (128 * u + (64 + e.val))
          * at3 (a := 1) (b := 1024) (c := 1024) x1 0 (128 * (n / 8) + d.val % 128) (256 * (n % 8 / 2) + 128 * (d.val / 128) + (64 + e.val))), add_zero]
      · refine Finset.sum_congr rfl fun e _ => ?_
        have he := e.isLt
        rw [kzF, h1 _ (by omega), h2 _ (by omega), h3 _ (by omega), if_pos hp, if_pos he]
        congr 2 <;> omega
      · intro e _
        rw [kzF, h1 _ (by omega), h2 _ (by omega), if_pos hp, if_neg (by omega), zero_mul]
    · rw [Finset.sum_eq_zero (s := Finset.univ) (f := fun e : Fin 64 => kzF kv (128 * (n / 8) + r.val) (128 * u + e.val)
          * at3 (a := 1) (b := 1024) (c := 1024) x1 0 (128 * (n / 8) + d.val % 128) (256 * (n % 8 / 2) + 128 * (d.val / 128) + e.val)), zero_add]
      · refine Finset.sum_congr rfl fun e _ => ?_
        have he := e.isLt
        rw [kzF, h1 _ (by omega), h2 _ (by omega), h3 _ (by omega), if_neg hp, if_neg (by omega)]
        congr 2 <;> omega
      · intro e _
        have he := e.isLt
        rw [kzF, h1 _ (by omega), h2 _ (by omega), if_neg hp, if_pos (by omega), zero_mul]
  · split_ifs with h
    · rw [biasAt, readAt3_f32 arg8 harg8 x6 _ (by omega) hr (by omega)]
      congr 1 <;> omega
    · rw [biasAt, readAt3_f32 arg8 harg8 x6 _ (by omega) hr (by omega)]
      congr 1 <;> omega

/-- A slot of the scores holds its last store until sixteen more have been made. -/
theorem s_slot (n i : ℕ) (hi : i < 16) (o0 o1 : ℕ) (h0 : n / 8 % 2 = o0) (h1 : n % 8 = o1)
    (inb : ∀ a, (![o0, o1, 0, 0] : Fin 4 → ℕ) a + S1x1x384x256.size a ≤ S2x8x384x256.size a) (x : S1x1x384x256.Idx) :
    View.canon (sL w arg3 harg3 arg8 harg8 arg14 x1 x6 L (n + 1 + i)) ((Rect.unit (s := S2x8x384x256) ![o0, o1, 0, 0] S1x1x384x256.size inb).emb x)
      = k0_pay35 (scoreN w arg3 harg3 arg8 harg8 arg14 x1 x6 L n) x := by
  subst h0 h1
  induction i with
  | zero => rw [Nat.add_zero, sL, View.canon_cons_emb]
  | succ i ih =>
    rw [show n + 1 + (i + 1) = (n + 1 + i) + 1 by omega, sL, View.canon_cons_of_not_mem, ih (by omega)]
    rw [Rect.mem_set_unit]
    intro h
    have a0 := h 0
    have a1 := h 1
    have e0 : ((Rect.unit (s := S2x8x384x256) ![n / 8 % 2, n % 8, 0, 0] S1x1x384x256.size inb).emb x 0).val = n / 8 % 2 + 1 * (x 0).val := rfl
    have e1 : ((Rect.unit (s := S2x8x384x256) ![n / 8 % 2, n % 8, 0, 0] S1x1x384x256.size inb).emb x 1).val = n % 8 + 1 * (x 1).val := rfl
    have l0 : (x 0).val < 1 := (x 0).isLt
    have l1 : (x 1).val < 1 := (x 1).isLt
    rw [e0] at a0
    rw [e1] at a1
    have b0 : (n + 1 + i) / 8 % 2 ≤ n / 8 % 2 + 1 * (x 0).val ∧ n / 8 % 2 + 1 * (x 0).val < (n + 1 + i) / 8 % 2 + 1 := a0
    have b1 : (n + 1 + i) % 8 ≤ n % 8 + 1 * (x 1).val ∧ n % 8 + 1 * (x 1).val < (n + 1 + i) % 8 + 1 := a1
    omega

/-- A slot of the column maxima likewise. -/
theorem m_slot (n i : ℕ) (hi : i < 16) (o0 o1 : ℕ) (h0 : n / 8 % 2 = o0) (h1 : n % 8 = o1)
    (inb : ∀ a, (![o0, o1, 0, 0] : Fin 4 → ℕ) a + S1x1x8x256.size a ≤ S2x8x8x256.size a) (x : S1x1x8x256.Idx) :
    View.canon (mL w arg2 harg2 arg3 harg3 arg8 harg8 arg14 x0 x1 x6 L (n + 1 + i)) ((Rect.unit (s := S2x8x8x256) ![o0, o1, 0, 0] S1x1x8x256.size inb).emb x)
      = k0_pay36 k0_pay32 (scoreN w arg3 harg3 arg8 harg8 arg14 x1 x6 L n) (sinkAt arg2 harg2 x0 (n % 8 / 2 * 4 + n % 2)) (sinkAt arg2 harg2 x0 (n % 8 / 2 * 4 + 2 + n % 2)) x := by
  subst h0 h1
  induction i with
  | zero => rw [Nat.add_zero, mL, View.canon_cons_emb]
  | succ i ih =>
    rw [show n + 1 + (i + 1) = (n + 1 + i) + 1 by omega, mL, View.canon_cons_of_not_mem, ih (by omega)]
    rw [Rect.mem_set_unit]
    intro h
    have a0 := h 0
    have a1 := h 1
    have e0 : ((Rect.unit (s := S2x8x8x256) ![n / 8 % 2, n % 8, 0, 0] S1x1x8x256.size inb).emb x 0).val = n / 8 % 2 + 1 * (x 0).val := rfl
    have e1 : ((Rect.unit (s := S2x8x8x256) ![n / 8 % 2, n % 8, 0, 0] S1x1x8x256.size inb).emb x 1).val = n % 8 + 1 * (x 1).val := rfl
    have l0 : (x 0).val < 1 := (x 0).isLt
    have l1 : (x 1).val < 1 := (x 1).isLt
    rw [e0] at a0
    rw [e1] at a1
    have b0 : (n + 1 + i) / 8 % 2 ≤ n / 8 % 2 + 1 * (x 0).val ∧ n / 8 % 2 + 1 * (x 0).val < (n + 1 + i) / 8 % 2 + 1 := a0
    have b1 : (n + 1 + i) % 8 ≤ n % 8 + 1 * (x 1).val ∧ n % 8 + 1 * (x 1).val < (n + 1 + i) % 8 + 1 := a1
    omega

/-! ## The finished outputs -/

section
variable (arg15 : Memref sig .tc .vmem S320x1280 .bf16) (arg16 : Memref sig .tc .vmem S2x8x384x256 .f32) (arg17 : Memref sig .tc .vmem S2x8x8x256 .f32)
  (V : List (View.Piece (Elt Ideal) S320x1280 .bf16)) (hV : ∀ y, View.canon V y = vtF kv (y 0).val (y 1).val)

include hL hV in
theorem finN_apply (j hh par : ℕ) (hj : j < 8) (hhh : hh < 4) (hpar : par < 2) (d : Fin 64) (c : Fin 256) :
    finN arg2 harg2 arg15 arg16 arg17 x0 V (sL w arg3 harg3 arg8 harg8 arg14 x1 x6 L) (mL w arg2 harg2 arg3 harg3 arg8 harg8 arg14 x0 x1 x6 L) j hh par (ix2 d c)
      = atF w kv (at3 (a := 1) (b := 1024) (c := 1024) x1 0) (at3 (a := 16) (b := 384) (c := 128) x6) (at1 (a := 16) x0) (4 * hh + 2 * (c.val / 128) + par) j (c.val % 128) d.val := by
  have hc := c.isLt
  have hd := d.isLt
  obtain ⟨i, hi, hb⟩ : ∃ i, i < 16 ∧ before j hh = (8 * j + 2 * hh + par) + 1 + i := by
    refine ⟨before j hh - (8 * j + 2 * hh + par + 1), ?_, ?_⟩ <;> unfold before <;> split_ifs <;> omega
  set n := 8 * j + 2 * hh + par with hn
  have hn64 : n < 64 := by omega
  have n1 : n / 8 = j := by omega
  have n2 : n % 8 / 2 = hh := by omega
  have n3 : n % 2 = par := by omega
  rw [finN, pay198_apply]
  have hs : ∀ k : Fin 384, (arg16.view.readCov (sL w arg3 harg3 arg8 harg8 arg14 x1 x6 L (before j hh)) (Rect.unit (s := S2x8x384x256) ![j % 2, (2 * hh + par) % 8, 0, 0] S1x1x384x256.size (by intro a; fin_cases a <;> simp [Shape.size] <;> omega)).toLoadRect) (ix4 0 0 k c)
      = scF w kv (at3 (a := 1) (b := 1024) (c := 1024) x1 0) (at3 (a := 16) (b := 384) (c := 128) x6) (4 * hh + 2 * (c.val / 128) + par) j k.val (c.val % 128) := by
    intro k
    rw [readCov_at, hb, s_slot w arg3 harg3 arg8 harg8 arg14 x1 x6 L n i hi _ _ (by omega) (by omega), pay35_apply,
      scoreN_apply w arg3 harg3 arg8 harg8 arg14 x1 x6 L kv hL n hn64, n1, n2, n3]
  have hm : (arg17.view.readCov (mL w arg2 harg2 arg3 harg3 arg8 harg8 arg14 x0 x1 x6 L (before j hh)) (Rect.unit (s := S2x8x8x256) ![j % 2, (2 * hh + par) % 8, 0, 0] S1x1x8x256.size (by intro a; fin_cases a <;> simp [Shape.size] <;> omega)).toLoadRect) (ix4 0 0 0 c)
      = mxF w kv (at3 (a := 1) (b := 1024) (c := 1024) x1 0) (at3 (a := 16) (b := 384) (c := 128) x6) (at1 (a := 16) x0) (4 * hh + 2 * (c.val / 128) + par) j (c.val % 128) := by
    rw [readCov_at, hb, m_slot w arg2 harg2 arg3 harg3 arg8 harg8 arg14 x0 x1 x6 L n i hi _ _ (by omega) (by omega), pay36_apply, mxF]
    congr 1
    · congr 1
      funext k
      rw [scoreN_apply w arg3 harg3 arg8 harg8 arg14 x1 x6 L kv hL n hn64, n1, n2, n3]
    · split_ifs with h
      · rw [sinkAt_eq _ _ _ _ (by omega)]
        congr 1; omega
      · rw [sinkAt_eq _ _ _ _ (by omega)]
        congr 1; omega
  have hsk : (if c.val < 128 then sinkAt arg2 harg2 x0 (hh * 4 + par) else sinkAt arg2 harg2 x0 (hh * 4 + 2 + par)) = at1 (a := 16) x0 (4 * hh + 2 * (c.val / 128) + par) := by
    split_ifs with h
    · rw [sinkAt_eq _ _ _ _ (by omega)]
      congr 1; omega
    · rw [sinkAt_eq _ _ _ _ (by omega)]
      congr 1; omega
  have hv : ∀ (r : ℕ) (hr : r < 80) (k : Fin 384), at2 (a := 80) (b := 384) (arg15.view.readCov V (Rect.unit (s := S320x1280) ![80 * (hh % 4), 128 * (j % 8)] S80x384.size (by intro a; fin_cases a <;> simp [Shape.size] <;> omega)).toLoadRect) r k.val
      = if r < 64 then kv (128 * j + k.val) (256 + (64 * hh + r)) else 1 := by
    intro r hr k
    rw [readCov2_bf16 arg15.view V hV _ hr k.isLt, vtF]
    have e1 : (80 * (hh % 4) + r) % 80 = r := by omega
    have e2 : (80 * (hh % 4) + r) / 80 = hh := by omega
    have e3 : 128 * (j % 8) + k.val = 128 * j + k.val := by omega
    rw [e1, e2, e3]
  simp only [hs, hm, hsk]
  rw [atF]
  have e4 : (4 * hh + 2 * (c.val / 128) + par) / 4 = hh := by omega
  simp only [hv d.val (by omega), hv 64 (by omega), if_pos hd, if_neg (show ¬ (64 < 64) by omega), e4]

include hL hV in
/-- The list of finished outputs after `n` stores reads as `oF` where it covers. -/
theorem o_canon (n : ℕ) (y : S1024x1024.Idx) (hn : n ≤ 64) (hy : 8 * ((y 0).val / 128) + (y 1).val / 128 < n) :
    View.canon (oL arg2 harg2 arg15 arg16 arg17 x0 V (sL w arg3 harg3 arg8 harg8 arg14 x1 x6 L) (mL w arg2 harg2 arg3 harg3 arg8 harg8 arg14 x0 x1 x6 L) n) y
      = oF w kv (at3 (a := 1) (b := 1024) (c := 1024) x1 0) (at3 (a := 16) (b := 384) (c := 128) x6) (at1 (a := 16) x0) (y 0).val (y 1).val := by
  refine canon_eq (e := .f32) (fun y => oF w kv (at3 (a := 1) (b := 1024) (c := 1024) x1 0) (at3 (a := 16) (b := 384) (c := 128) x6) (at1 (a := 16) x0) (y 0).val (y 1).val) _ ?_ y ?_
  · clear hy hn
    induction n with
    | zero => intro p hp; simp [oL] at hp
    | succ n ih =>
      intro p hp
      rcases List.mem_cons.1 hp with rfl | hp
      · refine piece2 (g := oF w kv (at3 (a := 1) (b := 1024) (c := 1024) x1 0) (at3 (a := 16) (b := 384) (c := 128) x6) (at1 (a := 16) x0)) (by intro a; fin_cases a <;> simp [Shape.size] <;> omega) fun r c => ?_
        dsimp only
        have hr := r.isLt
        have hc := c.isLt
        rw [pair_apply _ (by omega), oF]
        have e1 : (128 * (n / 8 % 8) + r.val) / 128 = n / 8 % 8 := by omega
        have e2 : (128 * (n / 8 % 8) + r.val) % 128 = r.val := by omega
        rw [e1, e2]
        split_ifs with h
        · rw [at2, dif_pos ⟨h, by omega⟩, finN_apply w arg2 harg2 arg3 harg3 arg8 harg8 arg14 x0 x1 x6 L kv hL arg15 arg16 arg17 V hV _ _ _ (by omega) (by omega) (by omega)]
          congr 1 <;> (try dsimp only) <;> omega
        · rw [at2, dif_pos ⟨by omega, by omega⟩, finN_apply w arg2 harg2 arg3 harg3 arg8 harg8 arg14 x0 x1 x6 L kv hL arg15 arg16 arg17 V hV _ _ _ (by omega) (by omega) (by omega)]
          congr 1 <;> (try dsimp only) <;> omega
      · exact ih p hp
  · have h0 : (y 0).val < 1024 := (y 0).isLt
    have h1 : (y 1).val < 1024 := (y 1).isLt
    induction n with
    | zero => omega
    | succ n ih =>
      rw [oL, List.exists_mem_cons_iff]
      by_cases hc : 8 * ((y 0).val / 128) + (y 1).val / 128 < n
      · exact .inr (ih (by omega) hc)
      · left
        rw [Rect.mem_set_unit]
        exact Fin.forall_fin_two.2 ⟨⟨by simp; omega, by simp [Shape.size]; omega⟩, ⟨by simp; omega, by simp [Shape.size]; omega⟩⟩
end
end

/-! ## Gates and the projected result -/

section
variable (arg4 : Memref sig .tc .vmem S1x1024x1024 .f32) (harg4 : arg4.IsWhole) (arg9 : Memref sig .tc .vmem S1x1024 .f32) (harg9 : arg9.IsWhole)
  (arg10 : Memref sig .tc .vmem S1024x1024 .bf16) (harg10 : arg10.IsWhole) (arg11 : Memref sig .tc .vmem S1024x1024 .bf16) (harg11 : arg11.IsWhole)
  (arg18 : Memref sig .tc .vmem S1024x1024 .f32) (arg19 : Memref sig .tc .vmem S1024x1024 .f32)
  (x2 : Vec Ideal S1x1024x1024 .f32) (x7 : Vec Ideal S1x1024 .f32) (x8 : Vec Ideal S1024x1024 .bf16) (x9 : Vec Ideal S1024x1024 .bf16)

theorem pay439_apply (x : Vec Ideal S1x256x1024 .f32) (g : Vec Ideal S1x1024 .f32) (wg : Vec Ideal S1024x1024 .bf16) (r : Fin 256) (d : Fin 1024) :
    k0_pay439 x g wg (ix2 r d) = gF (at3 (a := 1) (b := 256) (c := 1024) x 0) (at2 (a := 1) (b := 1024) g) (at2 (a := 1024) (b := 1024) wg) r.val d.val := by
  pointwise [k0_pay439]
  simp only [to3 (a := 1) (b := 256) (c := 1024) x, to2 (a := 1) (b := 1024) g, to2 (a := 1024) (b := 1024) wg]
  rfl

theorem pay186_apply (o s : Vec Ideal S256x1024 .f32) (x : Vec Ideal S1x256x1024 .f32) (wo : Vec Ideal S1024x1024 .bf16) (u : Fin 1) (r : Fin 256) (c : Fin 1024) :
    k0_pay186 o s x wo (ix3 u r c) = at3 (a := 1) (b := 256) (c := 1024) x 0 r.val c.val
      + ∑ d : Fin 1024, at2 (a := 256) (b := 1024) o r.val d.val * at2 (a := 256) (b := 1024) s r.val d.val * at2 (a := 1024) (b := 1024) wo d.val c.val := by
  pointwise [k0_pay186]
  simp only [to3 (a := 1) (b := 256) (c := 1024) x, to2 (a := 256) (b := 1024) o, to2 (a := 256) (b := 1024) s, to2 (a := 1024) (b := 1024) wo]
  rfl

/-- The gate of a row depends on that row of the input alone. -/
theorem gF_row (x x' g wg g' wg' : ℕ → ℕ → EReal) (r r' d : ℕ) (hx : ∀ e, e < 1024 → x r e = x' r' e) (hg : ∀ e, e < 1024 → g 0 e = g' 0 e)
    (hw : ∀ e, e < 1024 → wg e d = wg' e d) : gF x g wg r d = gF x' g' wg' r' d := by
  have hz : zF x g wg r d = zF x' g' wg' r' d := by
    unfold zF
    have hs : (∑ e' : Fin 1024, x r e'.val * x r e'.val) = ∑ e' : Fin 1024, x' r' e'.val * x' r' e'.val :=
      Finset.sum_congr rfl fun e _ => by rw [hx e.val e.isLt]
    rw [hs]
    exact Finset.sum_congr rfl fun e _ => by rw [hx e.val e.isLt, hg e.val e.isLt, hw e.val e.isLt]
  unfold gF
  rw [hz]

theorem xAt_eq (n : ℕ) (hn : n < 4) (r c : ℕ) (hr : r < 256) (hc : c < 1024) :
    at3 (a := 1) (b := 256) (c := 1024) (xAt arg4 harg4 x2 n) 0 r c = at3 (a := 1) (b := 1024) (c := 1024) x2 0 (256 * n + r) c := by
  rw [xAt, readAt3_f32 arg4 harg4 x2 _ (by omega) hr hc]
  congr 1 <;> omega

/-- The list of gates after `n` stores reads as `gF` where it covers. -/
theorem g_canon (n : ℕ) (y : S1024x1024.Idx) (hn : n ≤ 4) (hy : (y 0).val < 256 * n) :
    View.canon (gL arg4 harg4 arg9 harg9 arg10 harg10 x2 x7 x8 n) y
      = gF (at3 (a := 1) (b := 1024) (c := 1024) x2 0) (at2 (a := 1) (b := 1024) x7) (at2 (a := 1024) (b := 1024) x8) (y 0).val (y 1).val := by
  refine canon_eq (e := .f32) (fun y => gF (at3 (a := 1) (b := 1024) (c := 1024) x2 0) (at2 (a := 1) (b := 1024) x7) (at2 (a := 1024) (b := 1024) x8) (y 0).val (y 1).val) _ ?_ y ?_
  · clear hy
    induction n with
    | zero => intro p hp; simp [gL] at hp
    | succ n ih =>
      intro p hp
      rcases List.mem_cons.1 hp with rfl | hp
      · refine piece2 (g := gF (at3 (a := 1) (b := 1024) (c := 1024) x2 0) (at2 (a := 1) (b := 1024) x7) (at2 (a := 1024) (b := 1024) x8)) (by intro a; fin_cases a <;> simp [Shape.size]; omega) fun r c => ?_
        dsimp only
        rw [pay439_apply]
        refine gF_row _ _ _ _ _ _ _ _ _ (fun e he => ?_) (fun e he => ?_) (fun e he => ?_) |>.trans (by rw [Nat.zero_add])
        · rw [xAt_eq _ _ _ _ (by omega) _ _ r.isLt he]
          congr 1; omega
        · rw [readAt2_f32 arg9 harg9 x7 _ (by omega) he]
          congr 1; omega
        · rw [readAt2_bf16 arg10 harg10 x8 _ he c.isLt]
          congr 1 <;> omega
      · exact ih (by omega) p hp
  · have h0 : (y 0).val < 1024 := (y 0).isLt
    have h1 : (y 1).val < 1024 := (y 1).isLt
    induction n with
    | zero => omega
    | succ n ih =>
      rw [gL, List.exists_mem_cons_iff]
      by_cases hc : (y 0).val < 256 * n
      · exact .inr (ih (by omega) hc)
      · left
        rw [Rect.mem_set_unit]
        exact Fin.forall_fin_two.2 ⟨⟨by simp; omega, by simp [Shape.size]; omega⟩, ⟨by simp, by simpa using h1⟩⟩

section
variable (O : ℕ → List (View.Piece (Elt Ideal) S1024x1024 .f32)) (o : ℕ → ℕ → EReal)
  (hO : ∀ (n : ℕ) (y : S1024x1024.Idx), n < 4 → (y 0).val < 256 * (n + 1) → View.canon (O (16 * (n + 1))) y = o (y 0).val (y 1).val)

include hO in
/-- The output's list of stores reads as `outF` where it covers. -/
theorem out_canon (n : ℕ) (y : S1x1024x1024.Idx) (hn : n ≤ 4) (hy : (y 1).val < 256 * n) :
    View.canon (outL arg4 harg4 arg11 harg11 arg18 arg19 x2 x9 O (gL arg4 harg4 arg9 harg9 arg10 harg10 x2 x7 x8) n) y
      = outF (at3 (a := 1) (b := 1024) (c := 1024) x2 0) (at2 (a := 1) (b := 1024) x7) (at2 (a := 1024) (b := 1024) x8) (at2 (a := 1024) (b := 1024) x9) o (y 1).val (y 2).val := by
  refine canon_eq (e := .f32) (fun y => outF (at3 (a := 1) (b := 1024) (c := 1024) x2 0) (at2 (a := 1) (b := 1024) x7) (at2 (a := 1024) (b := 1024) x8) (at2 (a := 1024) (b := 1024) x9) o (y 1).val (y 2).val) _ ?_ y ?_
  · clear hy
    induction n with
    | zero => intro p hp; simp [outL] at hp
    | succ n ih =>
      intro p hp
      rcases List.mem_cons.1 hp with rfl | hp
      · refine piece3 (g := outF (at3 (a := 1) (b := 1024) (c := 1024) x2 0) (at2 (a := 1) (b := 1024) x7) (at2 (a := 1024) (b := 1024) x8) (at2 (a := 1024) (b := 1024) x9) o) (by intro a; fin_cases a <;> simp [Shape.size]; omega) fun u r c => ?_
        dsimp only
        have hr := r.isLt
        have e1 : 256 * (n % 4) + r.val = 256 * n + r.val := by omega
        rw [pay186_apply, outF, xAt_eq _ _ _ _ (by omega) _ _ hr c.isLt, e1, Nat.zero_add]
        congr 1
        refine Finset.sum_congr rfl fun d _ => ?_
        congr 1
        · congr 1
          · rw [at2, dif_pos ⟨hr, d.isLt⟩, readCov_at, hO n _ (by omega) (by show 256 * (n % 4) + 1 * r.val < _; omega)]
            show o (256 * (n % 4) + 1 * r.val) (0 + 1 * d.val) = _
            congr 1 <;> omega
          · rw [at2, dif_pos ⟨hr, d.isLt⟩, readCov_at, g_canon _ _ _ _ _ _ _ _ _ _ _ hn (by show 256 * (n % 4) + 1 * r.val < _; omega)]
            show gF _ _ _ (256 * (n % 4) + 1 * r.val) (0 + 1 * d.val) = _
            congr 1 <;> omega
        · rw [readAt2_bf16 arg11 harg11 x9 _ d.isLt c.isLt]
          congr 1 <;> omega
      · exact ih (by omega) p hp
  · have h0 : (y 0).val < 1 := (y 0).isLt
    have h1 : (y 1).val < 1024 := (y 1).isLt
    have h2 : (y 2).val < 1024 := (y 2).isLt
    induction n with
    | zero => omega
    | succ n ih =>
      rw [outL, List.exists_mem_cons_iff]
      by_cases hc : (y 1).val < 256 * n
      · exact .inr (ih (by omega) hc)
      · left
        rw [Rect.mem_set_unit]
        intro a
        fin_cases a
        · exact ⟨by simp, by simpa using h0⟩
        · exact ⟨by simp; omega, by simp [Shape.size]; omega⟩
        · exact ⟨by simp, by simpa using h2⟩
end
end

end Cert.Proof.Values

end
-- ==== Proof.Block.lean ====
/- THE KERNEL'S RESULT ARRAY as one function of its argument arrays: each grid point's blocks read out of the arrays, the 16
   results put together. -/
module

public import proofs.«01_k».proof.Proof.Tile
public import Idealize.ShloMosaic.Lib.Pipeline.ValueKit

@[expose] public section

noncomputable section

namespace Cert.Proof.Values

open Cert.KernelIdeal Cert.KernelIdeal.Gen Idealize.ShloMosaic Idealize.ShloMosaic.TcCoe Idealize.SL.Sem Cert.Proof.Lists Cert.Proof.Reads

/-! ## One grid point's output -/

section
variable (c : Dev nD) (i : grid0.Coords) (arg2 : Memref sig .tc .smem S16 .f32) (harg2 : arg2.IsWhole) (arg3 : Memref sig .tc .vmem S1x1024x1024 .bf16) (harg3 : arg3.IsWhole) (arg4 : Memref sig .tc .vmem S1x1024x1024 .f32) (harg4 : arg4.IsWhole) (arg5 : Memref sig .tc .vmem S1x128x512 .bf16) (harg5 : arg5.IsWhole) (arg6 : Memref sig .tc .vmem S1x1024x512 .bf16) (harg6 : arg6.IsWhole) (arg7 : Memref sig .tc .vmem S1x128x512 .bf16) (harg7 : arg7.IsWhole) (arg8 : Memref sig .tc .vmem S16x384x128 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024x1024 .f32) (harg12 : arg12.IsWhole) (arg13 : Memref sig .tc .vmem S1280x512 .bf16) (harg13 : arg13.IsWhole) (arg14 : Memref sig .tc .vmem S1280x1024 .bf16) (harg14 : arg14.IsWhole) (arg15 : Memref sig .tc .vmem S320x1280 .bf16) (harg15 : arg15.IsWhole) (arg16 : Memref sig .tc .vmem S2x8x384x256 .f32) (harg16 : arg16.IsWhole) (arg17 : Memref sig .tc .vmem S2x8x8x256 .f32) (harg17 : arg17.IsWhole) (arg18 : Memref sig .tc .vmem S1024x1024 .f32) (harg18 : arg18.IsWhole) (arg19 : Memref sig .tc .vmem S1024x1024 .f32) (harg19 : arg19.IsWhole)
    (x0 : Vec Ideal S16 .f32) (x1 : Vec Ideal S1x1024x1024 .bf16) (x2 : Vec Ideal S1x1024x1024 .f32) (x3 : Vec Ideal S1x128x512 .bf16) (x4 : Vec Ideal S1x1024x512 .bf16) (x5 : Vec Ideal S1x128x512 .bf16) (x6 : Vec Ideal S16x384x128 .f32) (x7 : Vec Ideal S1x1024 .f32) (x8 : Vec Ideal S1024x1024 .bf16) (x9 : Vec Ideal S1024x1024 .bf16)

/-- What one grid point leaves in its output block. -/
theorem tile_apply (y : S1x1024x1024.Idx) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 y
      = outF (at3 (a := 1) (b := 1024) (c := 1024) x2 0) (at2 (a := 1) (b := 1024) x7) (at2 (a := 1024) (b := 1024) x8) (at2 (a := 1024) (b := 1024) x9)
          (oF (BitVec.ofNat 32 ↑(i 1)) (kvF x3 x4 x5) (at3 (a := 1) (b := 1024) (c := 1024) x1 0) (at3 (a := 16) (b := 384) (c := 128) x6) (at1 (a := 16) x0)) (y 1).val (y 2).val := by
  rw [out0_A_10, View.read_writes_junk_eq_canon, run_eq]
  refine out_canon arg4 harg4 arg9 harg9 arg10 harg10 arg11 harg11 arg18 arg19 x2 x7 x8 x9 _ _ (fun n y hn hy => ?_) 4 y le_rfl (y 1).isLt
  have h1 : (y 1).val < 1024 := (y 1).isLt
  exact o_canon _ arg2 harg2 arg3 harg3 arg8 harg8 arg14 x0 x1 x6 _ (kvF x3 x4 x5)
    (fun y => kz_canon arg13 _ _ (kv_canon arg5 harg5 arg6 harg6 arg7 harg7 x3 x4 x5) 8 y le_rfl (y 1).isLt) arg15 arg16 arg17 _
    (fun y => vt_canon arg13 _ _ (kv_canon arg5 harg5 arg6 harg6 arg7 harg7 x3 x4 x5) 4 y le_rfl (y 0).isLt) _ y (by omega) (by omega)
end

/-! ## The blocks of the arrays -/

/-- Rows `o` to `o + n` of a function, zero elsewhere. -/
def win (f : ℕ → ℕ → EReal) (o n r c : ℕ) : EReal := if r < n then f (o + r) c else 0

/-- Row `r` of tile `i`'s keys and values: the block before the tile (its own first block on the first tile), the tile's, the
    block after it (the last one on the last tile). -/
def kvG (f : ℕ → ℕ → EReal) (i r c : ℕ) : EReal :=
  if r < 128 then f (128 * (8 * i - 1) + r) c else if r < 1152 then f (1024 * i + (r - 128)) c
  else if r < 1280 then f (128 * min (8 * (i + 1)) 31 + (r - 1152)) c else 0

variable (m : (ℓ : Loc nD τ sig) → Buf (Elt Ideal) ℓ)

theorem index0 : ∀ t : Fin cfg0.N, win0_0.index t = ![0] := (by decide +kernel : ∀ t : Fin grid0.N, _)
theorem index1 : ∀ t : Fin cfg0.N, win0_1.index t = ![(grid0.coords t 0).val, (grid0.coords t 1).val, 0] := (by decide +kernel : ∀ t : Fin grid0.N, _)
theorem index2 : ∀ t : Fin cfg0.N, win0_2.index t = ![(grid0.coords t 0).val, (grid0.coords t 1).val, 0] := (by decide +kernel : ∀ t : Fin grid0.N, _)
theorem index3 : ∀ t : Fin cfg0.N, win0_3.index t = ![(grid0.coords t 0).val, 8 * (grid0.coords t 1).val - 1, 0] := (by decide +kernel : ∀ t : Fin grid0.N, _)
theorem index4 : ∀ t : Fin cfg0.N, win0_4.index t = ![(grid0.coords t 0).val, (grid0.coords t 1).val, 0] := (by decide +kernel : ∀ t : Fin grid0.N, _)
theorem index5 : ∀ t : Fin cfg0.N, win0_5.index t = ![(grid0.coords t 0).val, min (8 * ((grid0.coords t 1).val + 1)) 31, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![(grid0.coords t 0).val, (grid0.coords t 1).val, 0] := (by decide +kernel : ∀ t : Fin grid0.N, _)

theorem block1 (c : Dev nD) (t : Fin cfg0.N) : at3 (a := 1) (b := 1024) (c := 1024) (iblk (F := Ideal) m c 1 t) 0
    = win (at3 (a := 4) (b := 4096) (c := 1024) (m ((c : Thread nD τ).loc main_arg0)) (grid0.coords t 0).val) (1024 * (grid0.coords t 1).val) 1024 := by
  have hb : (grid0.coords t 0).val < 4 := (grid0.coords t 0).isLt
  have hi : (grid0.coords t 1).val < 4 := (grid0.coords t 1).isLt
  funext r d
  by_cases h : r < 1024 ∧ d < 1024
  · rw [at3, dif_pos ⟨by omega, h.1, h.2⟩, win, if_pos h.1, at3, dif_pos ⟨hb, by omega, h.2⟩]
    blk_ext [iblk, V, index1]
  · rw [at3, dif_neg (by omega), win]
    split_ifs with h'
    · rw [at3, dif_neg (by omega)]
    · rfl

theorem block2 (c : Dev nD) (t : Fin cfg0.N) : at3 (a := 1) (b := 1024) (c := 1024) (iblk (F := Ideal) m c 2 t) 0
    = win (at3 (a := 4) (b := 4096) (c := 1024) (m ((c : Thread nD τ).loc main_arg2)) (grid0.coords t 0).val) (1024 * (grid0.coords t 1).val) 1024 := by
  have hb : (grid0.coords t 0).val < 4 := (grid0.coords t 0).isLt
  have hi : (grid0.coords t 1).val < 4 := (grid0.coords t 1).isLt
  funext r d
  by_cases h : r < 1024 ∧ d < 1024
  · rw [at3, dif_pos ⟨by omega, h.1, h.2⟩, win, if_pos h.1, at3, dif_pos ⟨hb, by omega, h.2⟩]
    blk_ext [iblk, V, index2]
  · rw [at3, dif_neg (by omega), win]
    split_ifs with h'
    · rw [at3, dif_neg (by omega)]
    · rfl

theorem block3 (c : Dev nD) (t : Fin cfg0.N) : at3 (a := 1) (b := 128) (c := 512) (iblk (F := Ideal) m c 3 t) 0
    = win (at3 (a := 4) (b := 4096) (c := 512) (m ((c : Thread nD τ).loc main_arg1)) (grid0.coords t 0).val) (128 * (8 * (grid0.coords t 1).val - 1)) 128 := by
  have hb : (grid0.coords t 0).val < 4 := (grid0.coords t 0).isLt
  have hi : (grid0.coords t 1).val < 4 := (grid0.coords t 1).isLt
  funext r d
  by_cases h : r < 128 ∧ d < 512
  · rw [at3, dif_pos ⟨by omega, h.1, h.2⟩, win, if_pos h.1, at3, dif_pos ⟨hb, by omega, h.2⟩]
    blk_ext [iblk, V, index3]
  · rw [at3, dif_neg (by omega), win]
    split_ifs with h'
    · rw [at3, dif_neg (by omega)]
    · rfl

theorem block4 (c : Dev nD) (t : Fin cfg0.N) : at3 (a := 1) (b := 1024) (c := 512) (iblk (F := Ideal) m c 4 t) 0
    = win (at3 (a := 4) (b := 4096) (c := 512) (m ((c : Thread nD τ).loc main_arg1)) (grid0.coords t 0).val) (1024 * (grid0.coords t 1).val) 1024 := by
  have hb : (grid0.coords t 0).val < 4 := (grid0.coords t 0).isLt
  have hi : (grid0.coords t 1).val < 4 := (grid0.coords t 1).isLt
  funext r d
  by_cases h : r < 1024 ∧ d < 512
  · rw [at3, dif_pos ⟨by omega, h.1, h.2⟩, win, if_pos h.1, at3, dif_pos ⟨hb, by omega, h.2⟩]
    blk_ext [iblk, V, index4]
  · rw [at3, dif_neg (by omega), win]
    split_ifs with h'
    · rw [at3, dif_neg (by omega)]
    · rfl

theorem block5 (c : Dev nD) (t : Fin cfg0.N) : at3 (a := 1) (b := 128) (c := 512) (iblk (F := Ideal) m c 5 t) 0
    = win (at3 (a := 4) (b := 4096) (c := 512) (m ((c : Thread nD τ).loc main_arg1)) (grid0.coords t 0).val) (128 * min (8 * ((grid0.coords t 1).val + 1)) 31) 128 := by
  have hb : (grid0.coords t 0).val < 4 := (grid0.coords t 0).isLt
  have hi : (grid0.coords t 1).val < 4 := (grid0.coords t 1).isLt
  funext r d
  by_cases h : r < 128 ∧ d < 512
  · rw [at3, dif_pos ⟨by omega, h.1, h.2⟩, win, if_pos h.1, at3, dif_pos ⟨hb, by omega, h.2⟩]
    blk_ext [iblk, V, index5]
  · rw [at3, dif_neg (by omega), win]
    split_ifs with h'
    · rw [at3, dif_neg (by omega)]
    · rfl

theorem block0 (c : Dev nD) (t : Fin cfg0.N) : iblk (F := Ideal) m c 0 t = V m c main_v30 := by
  funext y
  rw [iblk]
  blk_simp
  congr 1
  blk_ext [index0]

theorem block6 (c : Dev nD) (t : Fin cfg0.N) : iblk (F := Ideal) m c 6 t = V m c main_v27 := by
  funext y
  rw [iblk]
  blk_simp
  congr 1
  blk_ext [index6]

theorem block7 (c : Dev nD) (t : Fin cfg0.N) : iblk (F := Ideal) m c 7 t = V m c main_v32 := by
  funext y
  rw [iblk]
  blk_simp
  congr 1
  blk_ext [index7]

theorem block8 (c : Dev nD) (t : Fin cfg0.N) : iblk (F := Ideal) m c 8 t = m ((c : Thread nD τ).loc main_arg6) := by
  funext y
  rw [iblk]
  blk_simp
  congr 1
  blk_ext [index8]

theorem block9 (c : Dev nD) (t : Fin cfg0.N) : iblk (F := Ideal) m c 9 t = m ((c : Thread nD τ).loc main_arg7) := by
  funext y
  rw [iblk]
  blk_simp
  congr 1
  blk_ext [index9]

theorem kv_blocks (c : Dev nD) (t : Fin cfg0.N) : kvF (iblk (F := Ideal) m c 3 t) (iblk (F := Ideal) m c 4 t) (iblk (F := Ideal) m c 5 t)
    = kvG (at3 (a := 4) (b := 4096) (c := 512) (m ((c : Thread nD τ).loc main_arg1)) (grid0.coords t 0).val) (grid0.coords t 1).val := by
  funext r d
  rw [kvF, kvG, block3, block4, block5]
  split_ifs with h1 h2 h3
  · rw [win, if_pos h1]
  · rw [win, if_pos (by omega)]
  · rw [win, if_pos (by omega)]
  · rw [win, if_neg (by omega)]

/-! ## The result array -/

/-- The kernel's result at batch `b`, row `s`, column `d`. -/
def resK (c : Dev nD) (b s d : ℕ) : EReal :=
  outF (win (at3 (a := 4) (b := 4096) (c := 1024) (m ((c : Thread nD τ).loc main_arg2)) b) (1024 * (s / 1024)) 1024)
    (at2 (a := 1) (b := 1024) (V m c main_v32)) (at2 (a := 1024) (b := 1024) (m ((c : Thread nD τ).loc main_arg6))) (at2 (a := 1024) (b := 1024) (m ((c : Thread nD τ).loc main_arg7)))
    (oF (BitVec.ofNat 32 (s / 1024)) (kvG (at3 (a := 4) (b := 4096) (c := 512) (m ((c : Thread nD τ).loc main_arg1)) b) (s / 1024))
      (win (at3 (a := 4) (b := 4096) (c := 1024) (m ((c : Thread nD τ).loc main_arg0)) b) (1024 * (s / 1024)) 1024)
      (at3 (a := 16) (b := 384) (c := 128) (V m c main_v27)) (at1 (a := 16) (V m c main_v30))) (s % 1024) d

/-- The result array after the run. -/
theorem final (c : Dev nD) : (dats (F := Ideal) m 0 c).arrAt 10 cfg0.N = fun j : S4x4096x1024.Idx => resK m c (j 0).val (j 1).val (j 2).val := by
  refine (dats m 0 c).arrAt_eq_of_covers 10 _ (by decide +kernel) fun t hf y => ?_
  have hb : (grid0.coords t 0).val < 4 := (grid0.coords t 0).isLt
  have hi : (grid0.coords t 1).val < 4 := (grid0.coords t 1).isLt
  have h0 : (y 0).val < 1 := (y 0).isLt
  have h1 : (y 1).val < 1024 := (y 1).isLt
  have h2 : (y 2).val < 1024 := (y 2).isLt
  blk_simp [index10]
  rw [after0_10, outsAt0, tile_apply, block1, block2, kv_blocks, block0, block6, block7, block8, block9, resK]
  have e0 : (grid0.coords t 0).val * 1 + (y 0).val = (grid0.coords t 0).val := by omega
  have e1 : ((grid0.coords t 1).val * 1024 + (y 1).val) / 1024 = (grid0.coords t 1).val := by omega
  have e2 : ((grid0.coords t 1).val * 1024 + (y 1).val) % 1024 = (y 1).val := by omega
  show _ = outF (win (at3 (a := 4) (b := 4096) (c := 1024) (m ((c : Thread nD τ).loc main_arg2)) _) (1024 * (((grid0.coords t 1).val * 1024 + (y 1).val) / 1024)) 1024) _ _ _ _ _ _
  simp only [e1, e2]

end Cert.Proof.Values

end
-- ==== Proof.Host.lean ====
/- THE HOST VALUES THAT THE KERNEL'S CALL READS: the sinks and the bias in base two, the gain. -/
module

public import proofs.«01_k».proof.Proof.Reads
public import proofs.«01_k».proof.Proof.Consts
public import proofs.«01_k».proof.Proof.Words
public import Mathlib.Analysis.SpecialFunctions.Log.Basic
public import Idealize.ShloMosaic.Lib.StableHlo.ReadAt
public import Idealize.ShloMosaic.Lib.Tactic.WordOmega
public import Idealize.ShloMosaic.Lib.Pipeline.ValueKit

@[expose] public section

noncomputable section

namespace Cert.Proof.Values

open Cert.KernelIdeal Cert.KernelIdeal.Gen Idealize.ShloMosaic Idealize.ShloMosaic.TcCoe Idealize.SL.Sem Cert.Proof.Reads

variable (m : (ℓ : Loc nD τ sig) → Buf (Elt Ideal) ℓ)

/-- The reciprocal of the logarithm of two. -/
theorem inv_log_two : Ideal.div 1 (Ideal.log (Ideal.ofBits .f32 0x40000000#32)) = ((1 / Real.log 2 : ℝ) : EReal) := by
  have h2 : Real.log 2 ≠ 0 := (Real.log_pos (by norm_num)).ne'
  rw [Consts.two_eq, Ideal.log_coe, if_neg (by norm_num), Ideal.div_coe h2, one_mul]

/-- The sinks, in base two. -/
theorem sink_at (c : Dev nD) (sk : ℕ → ℝ) (hs : ∀ h : Fin 16, m ((c : Thread nD τ).loc main_arg8) (ix2 0 h) = ((sk h.val : ℝ) : EReal)) (h : Fin 16) :
    V m c main_v30 (ix1 h) = ((sk h.val * (1 / Real.log 2) : ℝ) : EReal) := by
  unfold V
  after_reads_at
  have e : m (c, Proc.tc.devRef main_arg8) (ix2 0 h) = ((sk h.val : ℝ) : EReal) := hs h
  rw [e]
  erw [inv_log_two]
  rw [← EReal.coe_mul]

/-- The gain, as it is. -/
theorem gain_at (c : Dev nD) (h : Fin 1024) : V m c main_v32 (ix2 0 h) = m ((c : Thread nD τ).loc main_arg5) (ix2 0 h) := by
  unfold V
  after_reads_at

/-- A row of ones and zeros picks one term of a sum. -/
theorem one_hot {n : ℕ} (f : Fin n → ℝ) (b : ℕ) (hb : b < n) (hn : n ≤ 4294967296) :
    (∑ x : Fin n, (f x : EReal) * FloatOps.uitofp (F := Ideal) .f32 (IntOp.cmpi .eq (BitVec.ofNat 32 b) (BitVec.ofNat 32 x.val))) = ((f ⟨b, hb⟩ : ℝ) : EReal) := by
  rw [Finset.sum_eq_single ⟨b, hb⟩]
  · have e : (FloatOps.uitofp (F := Ideal) .f32 (IntOp.cmpi .eq (BitVec.ofNat 32 b) (BitVec.ofNat 32 b)) : EReal) = 1 := by
      show (((IntOp.cmpi .eq (BitVec.ofNat 32 b) (BitVec.ofNat 32 b)).toNat : ℝ) : EReal) = 1
      simp [IntOp.cmpi]
    rw [e, mul_one]
  · intro x _ hx
    have hne : BitVec.ofNat 32 b ≠ BitVec.ofNat 32 x.val := by
      intro he
      have := congrArg BitVec.toNat he
      simp only [BitVec.toNat_ofNat] at this
      apply hx
      apply Fin.ext
      show x.val = b
      omega
    have e : (FloatOps.uitofp (F := Ideal) .f32 (IntOp.cmpi .eq (BitVec.ofNat 32 b) (BitVec.ofNat 32 x.val)) : EReal) = 0 := by
      show (((IntOp.cmpi .eq (BitVec.ofNat 32 b) (BitVec.ofNat 32 x.val)).toNat : ℝ) : EReal) = 0
      simp [IntOp.cmpi, hne]
    rw [e, mul_zero]
  · intro h; exact absurd (Finset.mem_univ _) h

/-- An entry of the bias table: the bucket's row of the relative bias, divided by `log 2`, and −∞ outside the band. -/
theorem bias_value (k i : ℕ) (hk : k < 384) (hi : i < 128) (f : Fin 32 → ℝ) (a : Fin 32 → EReal) (ha : ∀ x, a x = ((f x : ℝ) : EReal))
    (w : BitVec 32) (b : ℕ) (hw : w = BitVec.ofNat 32 b) (hb : b < 32) :
    (∑ x : Fin 32, a x * FloatOps.uitofp (F := Ideal) .f32 (IntOp.cmpi .eq w (BitVec.ofNat 32 x.val)) : EReal)
        * Ideal.div 1 (Ideal.log (Ideal.ofBits .f32 0x40000000#32))
      + Scalar.select (IntOp.cmpi .sle (IntOp.absi (IntOp.subi (IntOp.subi (BitVec.ofNat 32 k) 128#32) (BitVec.ofNat 32 i))) 128#32)
          (0 : EReal) (Ideal.ofBits .f32 0xFF800000#32)
      = if i ≤ k ∧ k ≤ i + 256 then ((f ⟨b, hb⟩ * (1 / Real.log 2) : ℝ) : EReal) else ⊥ := by
  subst hw
  simp only [ha]
  rw [Words.band hk hi, one_hot f b hb (by norm_num), inv_log_two, Consts.neg_inf, ← EReal.coe_mul]
  by_cases hB : i ≤ k ∧ k ≤ i + 256
  · simp [hB, Scalar.select]
  · simp [hB, Scalar.select, EReal.add_bot]

/-- The bias in base two: of the bucket's row, or −∞ outside the band. -/
theorem bias_at (c : Dev nD) (rb : ℕ → ℕ → ℝ) (bu : ℕ → ℕ → ℕ) (hr : ∀ (x : Fin 32) (h : Fin 16), m ((c : Thread nD τ).loc main_arg3) (ix2 x h) = ((rb x.val h.val : ℝ) : EReal))
    (hb : ∀ (i : Fin 128) (k : Fin 384), m ((c : Thread nD τ).loc main_arg4) (ix2 i k) = BitVec.ofNat 32 (bu i.val k.val) ∧ bu i.val k.val < 32)
    (h : Fin 16) (k : Fin 384) (i : Fin 128) :
    V m c main_v27 (ix3 h k i) = if i.val ≤ k.val ∧ k.val ≤ i.val + 256 then ((rb (bu i.val k.val) h.val * (1 / Real.log 2) : ℝ) : EReal) else ⊥ := by
  unfold V
  after_reads_at
  simp only [id]
  pointwise
  have e4 : m ((c : Thread nD τ).loc main_arg4) (ix2 ⟨(k.val * 128 + i.val) % 128, by omega⟩ ⟨(k.val * 128 + i.val) / 128, by omega⟩) = BitVec.ofNat 32 (bu i.val k.val) := by
    rw [← (hb i k).1]
    refine congrArg (m ((c : Thread nD τ).loc main_arg4)) ?_
    show (ix2 (⟨(k.val * 128 + i.val) % 128, _⟩ : Fin 128) (⟨(k.val * 128 + i.val) / 128, _⟩ : Fin 384) : S128x384.Idx) = ix2 i k
    congr 1 <;> (apply Fin.ext; dsimp only; omega)
  have key := bias_value k.val i.val k.isLt i.isLt (fun x : Fin 32 => rb x.val h.val) (fun x => m ((c : Thread nD τ).loc main_arg3) (ix2 x h)) (fun x => hr x h) _ (bu i.val k.val) e4 (hb i k).2
  refine Eq.trans ?_ key
  congr 1

end Cert.Proof.Values

end
-- ==== Proof.Spec.lean ====
/- THE VALUE BOTH PROGRAMS COMPUTE, and that the kernel's tile computes it: windowed attention with a sink as weighted means of
   real numbers, the gate, the projection and the residual. -/
module

public import proofs.«01_k».proof.Proof.Block
public import proofs.«01_k».proof.Proof.Softmax
public import proofs.«01_k».proof.Proof.Consts

@[expose] public section

noncomputable section

namespace Cert.Proof.Values

open Cert.KernelIdeal Cert.KernelIdeal.Gen Idealize.ShloMosaic Idealize.ShloMosaic.TcCoe Idealize.SL.Sem Cert.Proof.Lists Cert.Proof.Reads

/-! ## The value -/

/-- Query `i` of block `n` sees the `k`-th key of its three blocks: at most 128 away, inside the sequence. -/
def Sees (n i k : ℕ) : Prop := (i ≤ k ∧ k ≤ i + 256) ∧ 128 ≤ 128 * n + k ∧ 128 * n + k < 4224

instance (n i k : ℕ) : Decidable (Sees n i k) := inferInstanceAs (Decidable (_ ∧ _))

section
variable (q kv : ℕ → ℕ → ℝ) (rb : ℕ → ℕ → ℕ → ℝ) (sk : ℕ → ℝ)

/-- The score of a query and a key, base e. -/
def scS (n i h k : ℕ) : ℝ := (∑ e : Fin 64, q (128 * n + i) (64 * h + e.val) * kv (128 * n + k - 128) (64 * (h / 4) + e.val)) * Real.log 2 + rb h i k

/-- The attention's output. -/
def atS (n i h d : ℕ) : ℝ :=
  Softmax.mean (fun k : Fin 384 => Sees n i k.val) (fun k => scS q kv rb n i h k.val) (fun k => kv (128 * n + k.val - 128) (256 + (64 * (h / 4) + d))) (sk h)
end

/-- The layer's output: the residual, plus the gated attention's projection. -/
def resS (x g wg wo : ℕ → ℕ → EReal) (o : ℕ → ℕ → ℝ) (s c : ℕ) : EReal :=
  x s c + ∑ d : Fin 1024, ((o s d.val : EReal) * (zF x g wg s d.val * Ideal.logistic (zF x g wg s d.val))) * wo d.val c

/-! ## The kernel's tile computes it -/

theorem edge_eq (i e : ℕ) (hi : i < 4) (he : e < 4) : edge (F := Ideal) (BitVec.ofNat 32 i) (BitVec.ofNat 32 e) = if i = e then (⊥ : EReal) else 0 := by
  have h0 : (Scalar.ofBits (F := Ideal) .f32 0x00000000#32 : EReal) = 0 := by
    show Ideal.ofBits .f32 0x00000000#32 = 0
    simp
  have hm : (Named.named (F := Ideal) (φ := .f32) κ "mask" 0xF149F2CA#32 : EReal) = ⊥ := rfl
  have hc : Scalar.cmpi .eq (BitVec.ofNat 32 i) (BitVec.ofNat 32 e) = BitVec.ofBool (decide (i = e)) := by
    interval_cases i <;> interval_cases e <;> rfl
  rw [edge, hc, h0, hm]
  by_cases h : i = e <;> simp [h, Scalar.select]

/-- The masks at the sequence's two ends. -/
theorem edgeF_eq (i j k : ℕ) (hi : i < 4) (z : EReal) :
    edgeF (BitVec.ofNat 32 i) j k z = if (i = 0 ∧ j = 0 ∧ k < 128) ∨ (i = 3 ∧ j = 7 ∧ 256 ≤ k) then ⊥ else z := by
  have e0 := edge_eq i 0 hi (by omega)
  have e3 := edge_eq i 3 hi (by omega)
  rw [edgeF, e0, e3]
  by_cases h0 : i = 0 <;> by_cases h3 : i = 3 <;> by_cases a : j = 0 ∧ k < 128 <;> by_cases b : j = 7 ∧ 256 ≤ k <;>
    simp [h0, h3, a, b, EReal.add_bot] <;> omega

section
variable (q kv : ℕ → ℕ → ℝ) (rb : ℕ → ℕ → ℕ → ℝ) (sk : ℕ → ℝ) (Q KV : ℕ → ℕ → EReal) (bf : ℕ → ℕ → ℕ → EReal) (SK : ℕ → EReal)
  (hQ : ∀ r c, Q r c = (q r c : EReal)) (hKV : ∀ r c, KV r c = (kv r c : EReal))
  (hb : ∀ h k i, h < 16 → k < 384 → i < 128 → bf h k i = if i ≤ k ∧ k ≤ i + 256 then ((rb h i k * (1 / Real.log 2) : ℝ) : EReal) else ⊥)
  (hs : ∀ h, h < 16 → SK h = ((sk h * (1 / Real.log 2) : ℝ) : EReal))

/-- Real keys and values of a tile. -/
def kvR (i r c : ℕ) : ℝ :=
  if r < 128 then kv (128 * (8 * i - 1) + r) c else if r < 1152 then kv (1024 * i + (r - 128)) c
  else if r < 1280 then kv (128 * min (8 * (i + 1)) 31 + (r - 1152)) c else 0

include hKV in
theorem kvG_real (i r c : ℕ) : kvG KV i r c = (kvR kv i r c : EReal) := by
  unfold kvG kvR
  split_ifs <;> simp [hKV]

theorem kvR_eq (i j k p c : ℕ) (hj : j < 8) (hk : k < 384) (hi : i < 4) (h : Sees (8 * i + j) p k) : kvR kv i (128 * j + k) c = kv (128 * (8 * i + j) + k - 128) c := by
  obtain ⟨-, h1, h2⟩ := h
  unfold kvR
  split_ifs <;> first | (exfalso; omega) | (congr 1; omega)

include hQ hKV hb in
/-- A kernel score: the reference's score in base two where the query sees the key, else −∞. -/
theorem scF_eq (i j h k p : ℕ) (hi : i < 4) (hj : j < 8) (hh : h < 16) (hk : k < 384) (hp : p < 128) :
    scF (BitVec.ofNat 32 i) (kvG KV i) (win Q (1024 * i) 1024) bf h j k p
      = if Sees (8 * i + j) p k then ((((∑ e : Fin 64, q (128 * (8 * i + j) + p) (64 * h + e.val) * kvR kv i (128 * j + k) (64 * (h / 4) + e.val)) * Real.log 2 + rb h p k) * (1 / Real.log 2) : ℝ) : EReal) else ⊥ := by
  have hl : Real.log 2 ≠ 0 := (Real.log_pos (by norm_num)).ne'
  have hsum : (∑ e : Fin 64, kvG KV i (128 * j + k) (64 * (h / 4) + e.val) * win Q (1024 * i) 1024 (128 * j + p) (64 * h + e.val))
      = ((∑ e : Fin 64, q (128 * (8 * i + j) + p) (64 * h + e.val) * kvR kv i (128 * j + k) (64 * (h / 4) + e.val) : ℝ) : EReal) := by
    rw [← Softmax.coe_sum]
    refine Finset.sum_congr rfl fun e _ => ?_
    rw [kvG_real kv KV hKV, win, if_pos (by omega), hQ, ← EReal.coe_mul, mul_comm]
    congr 3
    omega
  rw [scF, hsum, hb h k p hh hk hp]
  have hadd : ∀ a r : ℝ, (a : EReal) + ((r * (1 / Real.log 2) : ℝ) : EReal) = (((a * Real.log 2 + r) * (1 / Real.log 2) : ℝ) : EReal) := by
    intro a r
    rw [← EReal.coe_add]
    congr 1
    field_simp
  rw [edgeF_eq i j k hi]
  by_cases hband : p ≤ k ∧ k ≤ p + 256
  · rw [if_pos hband, hadd]
    by_cases he : (i = 0 ∧ j = 0 ∧ k < 128) ∨ (i = 3 ∧ j = 7 ∧ 256 ≤ k)
    · rw [if_pos he, if_neg]
      rintro ⟨-, h1, h2⟩
      omega
    · rw [if_neg he, if_pos]
      exact ⟨hband, by omega, by omega⟩
  · rw [if_neg hband, EReal.add_bot, ite_self, if_neg fun h => hband h.1]

include hQ hKV hb hs in
/-- The kernel's attention output. -/
theorem atF_eq (i j h p d : ℕ) (hi : i < 4) (hj : j < 8) (hh : h < 16) (hp : p < 128) :
    atF (BitVec.ofNat 32 i) (kvG KV i) (win Q (1024 * i) 1024) bf SK h j p d = (atS q kv rb sk (8 * i + j) p h d : EReal) := by
  have hsc : ∀ k : Fin 384, scF (BitVec.ofNat 32 i) (kvG KV i) (win Q (1024 * i) 1024) bf h j k.val p = _ :=
    fun k => scF_eq q kv rb Q KV bf hQ hKV hb i j h k.val p hi hj hh k.isLt hp
  obtain ⟨mx, hmx⟩ : ∃ mx : ℝ, mxF (BitVec.ofNat 32 i) (kvG KV i) (win Q (1024 * i) 1024) bf SK h j p = (mx : EReal) := by
    rw [mxF, hs h hh]
    refine Softmax.max_real (ne_of_lt ?_) _
    rw [Finset.fold_max_lt]
    refine ⟨by rw [Consts.neg_inf]; exact bot_lt_top, fun k _ => ?_⟩
    rw [hsc]
    split_ifs
    · exact EReal.coe_lt_top _
    · exact bot_lt_top
  have hv : ∀ k : Fin 384, kvG KV i (128 * j + k.val) (256 + (64 * (h / 4) + d)) = (kvR kv i (128 * j + k.val) (256 + (64 * (h / 4) + d)) : EReal) :=
    fun k => kvG_real kv KV hKV _ _ _
  rw [atF, hmx, hs h hh]
  simp only [hv]
  rw [Softmax.mean_base_two (fun k : Fin 384 => Sees (8 * i + j) p k.val) _ _ (sk h) mx _ hsc, atS]
  congr 1
  refine Softmax.mean_congr _ _ _ _ _ _ (fun k hk => ?_) fun k hk => ?_
  · rw [scS]
    congr 2
    refine Finset.sum_congr rfl fun e _ => ?_
    rw [kvR_eq kv i j k.val p _ hj k.isLt hi hk]
  · exact kvR_eq kv i j k.val p _ hj k.isLt hi hk
end

section
variable (x g g' wg wo : ℕ → ℕ → EReal)

/-- The gate where its argument is real. -/
theorem gF_eq (r d : ℕ) (hz : ∃ z : ℝ, zF x g wg r d = (z : EReal)) : gF x g wg r d = zF x g wg r d * Ideal.logistic (zF x g wg r d) := by
  obtain ⟨z, hz⟩ := hz
  rw [gF, hz, Consts.half_eq, Softmax.silu_eq]

theorem zF_win (i r d : ℕ) (hr : r < 1024) : zF (win x (1024 * i) 1024) g wg r d = zF x g wg (1024 * i + r) d := by
  simp only [zF, win, if_pos hr]
end

section
variable (q kv : ℕ → ℕ → ℝ) (rb : ℕ → ℕ → ℕ → ℝ) (sk : ℕ → ℝ) (Q KV : ℕ → ℕ → EReal) (bf : ℕ → ℕ → ℕ → EReal) (SK : ℕ → EReal)
  (hQ : ∀ r c, Q r c = (q r c : EReal)) (hKV : ∀ r c, KV r c = (kv r c : EReal))
  (hb : ∀ h k i, h < 16 → k < 384 → i < 128 → bf h k i = if i ≤ k ∧ k ≤ i + 256 then ((rb h i k * (1 / Real.log 2) : ℝ) : EReal) else ⊥)
  (hs : ∀ h, h < 16 → SK h = ((sk h * (1 / Real.log 2) : ℝ) : EReal))
  (x g wg wo : ℕ → ℕ → EReal) (hz : ∀ r d, r < 4096 → d < 1024 → ∃ z : ℝ, zF x g wg r d = (z : EReal))

include hQ hKV hb hs hz in
/-- The kernel's result of one batch. -/
theorem tile_eq (s c : ℕ) (hs' : s < 4096) (hc : c < 1024) :
    outF (win x (1024 * (s / 1024)) 1024) g wg wo (oF (BitVec.ofNat 32 (s / 1024)) (kvG KV (s / 1024)) (win Q (1024 * (s / 1024)) 1024) bf SK) (s % 1024) c
      = resS x g wg wo (fun s c => atS q kv rb sk (s / 128) (s % 128) (c / 64) (c % 64)) s c := by
  have e : 1024 * (s / 1024) + s % 1024 = s := by omega
  rw [outF, resS]
  congr 1
  · rw [win, if_pos (by omega), e]
  · refine Finset.sum_congr rfl fun d _ => ?_
    have hd := d.isLt
    congr 2
    · rw [oF, atF_eq q kv rb sk Q KV bf SK hQ hKV hb hs _ _ _ _ _ (by omega) (by omega) (by omega) (by omega)]
      congr 2 <;> omega
    · rw [gF_eq _ _ _ _ _ (by rw [zF_win _ _ _ _ _ _ (by omega)]; exact hz _ _ (by omega) hd), zF_win _ _ _ _ _ _ (by omega), e]
end

end Cert.Proof.Values

end
-- ==== Proof.RefReads.lean ====
/- THE REFERENCE'S LAYOUT OPERATIONS READ AT AN INDEX: the queries, keys and values by block, the padding of the sequence, the
   three blocks side by side, and the bias looked up by bucket. -/
module

public import proofs.«01_k».proof.Proof.Gen.ReferenceIdeal.Read
public import proofs.«01_k».proof.Proof.Reads
public import proofs.«01_k».proof.Proof.Words
public import Idealize.ShloMosaic.Lib.ValueIdxRank6
public import Idealize.ShloMosaic.Lib.KernelVsHost

@[expose] public section

noncomputable section

namespace Cert.Proof.Ref

open Cert.ReferenceIdeal Cert.ReferenceIdeal.Gen Cert.ReferenceIdeal.Read Idealize.ShloMosaic Cert.Proof.Reads

variable (x0 : (⟨S4x4096x1024, .bf16⟩ : BufTy).Contents (Elt Ideal)) (x1 : (⟨S4x4096x512, .bf16⟩ : BufTy).Contents (Elt Ideal))
  (x3 : (⟨S32x16, .f32⟩ : BufTy).Contents (Elt Ideal)) (x4 : (⟨S128x384, .i32⟩ : BufTy).Contents (Elt Ideal))

/-- The queries by block. -/
theorem q_at (b : Fin 4) (n : Fin 32) (i : Fin 128) (h g : Fin 4) (e : Fin 64) :
    val_main_v24 (F := Ideal) x0 (ix6 b n i h g e) = at3 (a := 4) (b := 4096) (c := 1024) x0 b.val (128 * n.val + i.val) (64 * (4 * h.val + g.val) + e.val) := by
  unfold val_main_v24
  rw [shapeCast_apply _ _ (ix6 b n i h g e) (ix4 b ⟨128 * n.val + i.val, by omega⟩ ⟨4 * h.val + g.val, by omega⟩ e)
    (by
      rw [Shape.rowMajor_val_six, Shape.rowMajor_val_four]
      show ((b.val * 4096 + (128 * n.val + i.val)) * 16 + (4 * h.val + g.val)) * 64 + e.val = ((((b.val * 32 + n.val) * 128 + i.val) * 4 + h.val) * 4 + g.val) * 64 + e.val
      omega)]
  rw [val_main_v15_apply, val_main_v14_apply, Ideal.extf_def, idx3 (a := 4) (b := 4096) (c := 1024) x0]
  congr 1
  · show (((b.val * 4096 + (128 * n.val + i.val)) * 16 + (4 * h.val + g.val)) * 64 + e.val) / 4194304 = b.val
    omega
  · show (((b.val * 4096 + (128 * n.val + i.val)) * 16 + (4 * h.val + g.val)) * 64 + e.val) / 1024 % 4096 = _
    omega
  · show (((b.val * 4096 + (128 * n.val + i.val)) * 16 + (4 * h.val + g.val)) * 64 + e.val) % 1024 = _
    omega

/-- Keys and values behind one block of zeros and before another. -/
def padded (b r c : ℕ) : EReal := if 128 ≤ r ∧ r < 4224 then at3 (a := 4) (b := 4096) (c := 512) x1 b (r - 128) c else 0

theorem zero_f : (FloatOps.sitofp (F := Ideal) .f32 (0#32) : EReal) = 0 := by
  show (((0#32 : BitVec 32).toInt : ℝ) : EReal) = 0
  simp

/-- The keys, padded. -/
theorem k_pad (b : Fin 4) (r : Fin 4352) (h : Fin 4) (e : Fin 64) :
    val_main_v25 (F := Ideal) x1 (ix4 b r h e) = padded x1 b.val r.val (64 * h.val + e.val) := by
  unfold val_main_v25 padded
  by_cases hr : 128 ≤ r.val ∧ r.val < 4224
  · rw [if_pos hr]
    rw [pad_apply_of_inside _ _ _ _ _ _ _ _ (ix4 b ⟨r.val - 128, by omega⟩ h e : S4x4096x4x64.Idx) (fun a => by
      match a with
      | ⟨0, _⟩ => show b.val = 0 + b.val * (0 + 1); omega
      | ⟨1, _⟩ => show r.val = 128 + (r.val - 128) * (0 + 1); omega
      | ⟨2, _⟩ => show h.val = 0 + h.val * (0 + 1); omega
      | ⟨3, _⟩ => show e.val = 0 + e.val * (0 + 1); omega)]
    rw [val_main_v18_apply, val_main_v17_apply, Ideal.extf_def, val_main_v16_apply, idx3 (a := 4) (b := 4096) (c := 512) x1]
    congr 1
    · show (((b.val * 4096 + (r.val - 128)) * 4 + h.val) * 64 + e.val) / 1048576 = b.val
      omega
    · show (((b.val * 4096 + (r.val - 128)) * 4 + h.val) * 64 + e.val) / 256 % 4096 = _
      omega
    · show (((b.val * 4096 + (r.val - 128)) * 4 + h.val) * 64 + e.val) % 256 = _
      omega
  · rw [if_neg hr]
    rw [pad_apply_of_not_inside _ _ _ _ _ _ _ _ (1 : Fin 4) (by
      show ¬(128 ≤ r.val ∧ (r.val - 128) % (0 + 1) = 0 ∧ (r.val - 128) / (0 + 1) < 4096)
      omega)]
    rw [val_main_call0_v0_apply, val_main_c_apply, zero_f]

/-- The values, padded. -/
theorem v_pad (b : Fin 4) (r : Fin 4352) (h : Fin 4) (e : Fin 64) :
    val_main_v31 (F := Ideal) x1 (ix4 b r h e) = padded x1 b.val r.val (256 + (64 * h.val + e.val)) := by
  unfold val_main_v31 padded
  by_cases hr : 128 ≤ r.val ∧ r.val < 4224
  · rw [if_pos hr]
    rw [pad_apply_of_inside _ _ _ _ _ _ _ _ (ix4 b ⟨r.val - 128, by omega⟩ h e : S4x4096x4x64.Idx) (fun a => by
      match a with
      | ⟨0, _⟩ => show b.val = 0 + b.val * (0 + 1); omega
      | ⟨1, _⟩ => show r.val = 128 + (r.val - 128) * (0 + 1); omega
      | ⟨2, _⟩ => show h.val = 0 + h.val * (0 + 1); omega
      | ⟨3, _⟩ => show e.val = 0 + e.val * (0 + 1); omega)]
    rw [val_main_v21_apply, val_main_v20_apply, Ideal.extf_def, val_main_v19_apply, idx3 (a := 4) (b := 4096) (c := 512) x1]
    congr 1
    · show (((b.val * 4096 + (r.val - 128)) * 4 + h.val) * 64 + e.val) / 1048576 = b.val
      omega
    · show (((b.val * 4096 + (r.val - 128)) * 4 + h.val) * 64 + e.val) / 256 % 4096 = _
      omega
    · show 256 + (((b.val * 4096 + (r.val - 128)) * 4 + h.val) * 64 + e.val) % 256 = _
      omega
  · rw [if_neg hr]
    rw [pad_apply_of_not_inside _ _ _ _ _ _ _ _ (1 : Fin 4) (by
      show ¬(128 ≤ r.val ∧ (r.val - 128) % (0 + 1) = 0 ∧ (r.val - 128) / (0 + 1) < 4096)
      omega)]
    rw [val_main_call1_v0_apply, val_main_c_2_apply, zero_f]

/-- Three pieces of 128 rows each side by side: row `k` is row `k` of the first, `k - 128` of the second or `k - 256` of the third. -/
theorem concat3 (f : ℕ → EReal) (y0 y1 y2 : (⟨S4x32x128x4x64, .f32⟩ : BufTy).Contents (Elt Ideal))
    (hc : Shape.Concatenates [S4x32x128x4x64, S4x32x128x4x64, S4x32x128x4x64] S4x32x384x4x64 2) (b : Fin 4) (n : Fin 32) (h : Fin 4) (e : Fin 64)
    (h0 : ∀ k : Fin 128, y0 (ix5 b n k h e) = f k.val) (h1 : ∀ k : Fin 128, y1 (ix5 b n k h e) = f (128 + k.val))
    (h2 : ∀ k : Fin 128, y2 (ix5 b n k h e) = f (256 + k.val)) (k : Fin 384) :
    concatenate S4x32x384x4x64 2 [⟨S4x32x128x4x64, y0⟩, ⟨S4x32x128x4x64, y1⟩, ⟨S4x32x128x4x64, y2⟩] hc (ix5 b n k h e) = f k.val := by
  have off : ∀ (k' : Fin 128) (a : Fin 5), a ≠ 2 → ((ix5 b n k' h e : S4x32x128x4x64.Idx) a).val = ((ix5 b n k h e : S4x32x384x4x64.Idx) a).val := by
    intro k' a ha
    match a, ha with
    | ⟨0, _⟩, _ => rfl
    | ⟨1, _⟩, _ => rfl
    | ⟨2, _⟩, h => exact absurd rfl h
    | ⟨3, _⟩, _ => rfl
    | ⟨4, _⟩, _ => rfl
  by_cases hk : k.val < 128
  · rw [concatenate_apply_piece (t := S4x32x384x4x64) 2 [⟨S4x32x128x4x64, y0⟩, ⟨S4x32x128x4x64, y1⟩, ⟨S4x32x128x4x64, y2⟩] hc (ix5 b n k h e) 0 (by simp) _ y0 rfl rfl 0 rfl (ix5 b n ⟨k.val, hk⟩ h e)
      (fun a ha => off _ a ha) (by show 0 + k.val = k.val; omega), h0]
  · by_cases hk2 : k.val < 256
    · rw [concatenate_apply_piece (t := S4x32x384x4x64) 2 [⟨S4x32x128x4x64, y0⟩, ⟨S4x32x128x4x64, y1⟩, ⟨S4x32x128x4x64, y2⟩] hc (ix5 b n k h e) 1 (by simp) _ y1 rfl rfl 128 rfl (ix5 b n ⟨k.val - 128, by omega⟩ h e)
        (fun a ha => off _ a ha) (by show 128 + (k.val - 128) = k.val; omega), h1]
      congr 1
      show 128 + (k.val - 128) = k.val
      omega
    · rw [concatenate_apply_piece (t := S4x32x384x4x64) 2 [⟨S4x32x128x4x64, y0⟩, ⟨S4x32x128x4x64, y1⟩, ⟨S4x32x128x4x64, y2⟩] hc (ix5 b n k h e) 2 (by simp) _ y2 rfl rfl 256 rfl (ix5 b n ⟨k.val - 256, by omega⟩ h e)
        (fun a ha => off _ a ha) (by show 256 + (k.val - 256) = k.val; omega), h2]
      congr 1
      show 256 + (k.val - 256) = k.val
      omega

/-- The same at an index given by its coordinates. -/
theorem k_pad_idx (b : Fin 4) (n k : ℕ) (h : Fin 4) (e : Fin 64) (j : S4x4352x4x64.Idx) (hn : n < 34) (hk : k < 128) (j0 : (j 0).val = b.val) (j1 : (j 1).val = 128 * n + k)
    (j2 : (j 2).val = h.val) (j3 : (j 3).val = e.val) : val_main_v25 (F := Ideal) x1 j = padded x1 b.val (128 * n + k) (64 * h.val + e.val) := by
  have ej : j = ix4 b ⟨128 * n + k, by omega⟩ h e := by
    funext a
    match a with
    | ⟨0, _⟩ => exact Fin.ext j0
    | ⟨1, _⟩ => exact Fin.ext j1
    | ⟨2, _⟩ => exact Fin.ext j2
    | ⟨3, _⟩ => exact Fin.ext j3
  rw [ej, k_pad]

/-- The keys that a block of queries can see. -/
theorem k_at (b : Fin 4) (n : Fin 32) (k : Fin 384) (h : Fin 4) (e : Fin 64) :
    val_main_v30 (F := Ideal) x1 (ix5 b n k h e) = padded x1 b.val (128 * n.val + k.val) (64 * h.val + e.val) := by
  unfold val_main_v30
  refine concat3 (fun k => padded x1 b.val (128 * n.val + k) (64 * h.val + e.val)) _ _ _ _ b n h e ?_ ?_ ?_ k
  · intro k
    rw [val_main_v27_apply, val_main_v26_apply, k_pad_idx x1 b n.val k.val h e _ (by have := n.isLt; omega) k.isLt]
    · show (((((b.val * 34 + n.val) * 128 + k.val) * 4 + h.val) * 64 + e.val) / 1114112) = _
      omega
    · show (((((b.val * 34 + n.val) * 128 + k.val) * 4 + h.val) * 64 + e.val) / 256 % 4352) = _
      omega
    · show (((((b.val * 34 + n.val) * 128 + k.val) * 4 + h.val) * 64 + e.val) / 64 % 4) = _
      omega
    · show (((((b.val * 34 + n.val) * 128 + k.val) * 4 + h.val) * 64 + e.val) % 64) = _
      omega
  · intro k
    rw [val_main_v28_apply, val_main_v26_apply, k_pad_idx x1 b (n.val + 1) k.val h e _ (by have := n.isLt; omega) k.isLt]
    · congr 1
      omega
    · show (((((b.val * 34 + (1 + n.val)) * 128 + k.val) * 4 + h.val) * 64 + e.val) / 1114112) = _
      omega
    · show (((((b.val * 34 + (1 + n.val)) * 128 + k.val) * 4 + h.val) * 64 + e.val) / 256 % 4352) = _
      omega
    · show (((((b.val * 34 + (1 + n.val)) * 128 + k.val) * 4 + h.val) * 64 + e.val) / 64 % 4) = _
      omega
    · show (((((b.val * 34 + (1 + n.val)) * 128 + k.val) * 4 + h.val) * 64 + e.val) % 64) = _
      omega
  · intro k
    rw [val_main_v29_apply, val_main_v26_apply, k_pad_idx x1 b (n.val + 2) k.val h e _ (by have := n.isLt; omega) k.isLt]
    · congr 1
      omega
    · show (((((b.val * 34 + (2 + n.val)) * 128 + k.val) * 4 + h.val) * 64 + e.val) / 1114112) = _
      omega
    · show (((((b.val * 34 + (2 + n.val)) * 128 + k.val) * 4 + h.val) * 64 + e.val) / 256 % 4352) = _
      omega
    · show (((((b.val * 34 + (2 + n.val)) * 128 + k.val) * 4 + h.val) * 64 + e.val) / 64 % 4) = _
      omega
    · show (((((b.val * 34 + (2 + n.val)) * 128 + k.val) * 4 + h.val) * 64 + e.val) % 64) = _
      omega

/-- The same at an index given by its coordinates. -/
theorem v_pad_idx (b : Fin 4) (n k : ℕ) (h : Fin 4) (e : Fin 64) (j : S4x4352x4x64.Idx) (hn : n < 34) (hk : k < 128) (j0 : (j 0).val = b.val) (j1 : (j 1).val = 128 * n + k)
    (j2 : (j 2).val = h.val) (j3 : (j 3).val = e.val) : val_main_v31 (F := Ideal) x1 j = padded x1 b.val (128 * n + k) (256 + (64 * h.val + e.val)) := by
  have ej : j = ix4 b ⟨128 * n + k, by omega⟩ h e := by
    funext a
    match a with
    | ⟨0, _⟩ => exact Fin.ext j0
    | ⟨1, _⟩ => exact Fin.ext j1
    | ⟨2, _⟩ => exact Fin.ext j2
    | ⟨3, _⟩ => exact Fin.ext j3
  rw [ej, v_pad]

/-- The values that a block of queries can see. -/
theorem v_at (b : Fin 4) (n : Fin 32) (k : Fin 384) (h : Fin 4) (e : Fin 64) :
    val_main_v36 (F := Ideal) x1 (ix5 b n k h e) = padded x1 b.val (128 * n.val + k.val) (256 + (64 * h.val + e.val)) := by
  unfold val_main_v36
  refine concat3 (fun k => padded x1 b.val (128 * n.val + k) (256 + (64 * h.val + e.val))) _ _ _ _ b n h e ?_ ?_ ?_ k
  · intro k
    rw [val_main_v33_apply, val_main_v32_apply, v_pad_idx x1 b n.val k.val h e _ (by have := n.isLt; omega) k.isLt]
    · show (((((b.val * 34 + n.val) * 128 + k.val) * 4 + h.val) * 64 + e.val) / 1114112) = _
      omega
    · show (((((b.val * 34 + n.val) * 128 + k.val) * 4 + h.val) * 64 + e.val) / 256 % 4352) = _
      omega
    · show (((((b.val * 34 + n.val) * 128 + k.val) * 4 + h.val) * 64 + e.val) / 64 % 4) = _
      omega
    · show (((((b.val * 34 + n.val) * 128 + k.val) * 4 + h.val) * 64 + e.val) % 64) = _
      omega
  · intro k
    rw [val_main_v34_apply, val_main_v32_apply, v_pad_idx x1 b (n.val + 1) k.val h e _ (by have := n.isLt; omega) k.isLt]
    · congr 1
      omega
    · show (((((b.val * 34 + (1 + n.val)) * 128 + k.val) * 4 + h.val) * 64 + e.val) / 1114112) = _
      omega
    · show (((((b.val * 34 + (1 + n.val)) * 128 + k.val) * 4 + h.val) * 64 + e.val) / 256 % 4352) = _
      omega
    · show (((((b.val * 34 + (1 + n.val)) * 128 + k.val) * 4 + h.val) * 64 + e.val) / 64 % 4) = _
      omega
    · show (((((b.val * 34 + (1 + n.val)) * 128 + k.val) * 4 + h.val) * 64 + e.val) % 64) = _
      omega
  · intro k
    rw [val_main_v35_apply, val_main_v32_apply, v_pad_idx x1 b (n.val + 2) k.val h e _ (by have := n.isLt; omega) k.isLt]
    · congr 1
      omega
    · show (((((b.val * 34 + (2 + n.val)) * 128 + k.val) * 4 + h.val) * 64 + e.val) / 1114112) = _
      omega
    · show (((((b.val * 34 + (2 + n.val)) * 128 + k.val) * 4 + h.val) * 64 + e.val) / 256 % 4352) = _
      omega
    · show (((((b.val * 34 + (2 + n.val)) * 128 + k.val) * 4 + h.val) * 64 + e.val) / 64 % 4) = _
      omega
    · show (((((b.val * 34 + (2 + n.val)) * 128 + k.val) * 4 + h.val) * 64 + e.val) % 64) = _
      omega

/-- The look-up's dimensions. -/
abbrev d : GatherDims S32x16 S128x384x1 S128x384x16 := gather_S32x16_S128x384x1_S128x384x16_2_0_n_n_0_2_116

/-- The bias that the reference looks up: the row the bucket names. -/
theorem bias_at (bu : ℕ → ℕ → ℕ) (hb : ∀ (i : Fin 128) (k : Fin 384), x4 (ix2 i k) = BitVec.ofNat 32 (bu i.val k.val) ∧ bu i.val k.val < 32)
    (i : Fin 128) (k : Fin 384) (h : Fin 16) : val_main_v68 (F := Ideal) x3 x4 (ix3 i k h) = at2 (a := 32) (b := 16) x3 (bu i.val k.val) h.val := by
  unfold val_main_v68 Host.gather
  rw [idx2 (a := 32) (b := 16) x3]
  have hix : val_main_v67 (F := Ideal) x4 (ix3 i k 0) = BitVec.ofNat 32 (bu i.val k.val) := by
    rw [val_main_v67_apply, val_main_v66_apply, val_main_v63_apply, val_main_v62_apply, val_main_c_9_apply]
    have ej : idx_main_v67 (ix3 i k 0) = ix2 i k := by
      funext a
      match a with
      | ⟨0, _⟩ => rfl
      | ⟨1, _⟩ => rfl
    rw [ej, (hb i k).1, Words.not_neg (by have := (hb i k).2; omega)]
    rfl
  have hw : (BitVec.ofNat 32 (bu i.val k.val)).toInt.toNat = bu i.val k.val := by
    rw [Words.toInt_small (by have := (hb i k).2; omega)]
    simp
  congr 1
  · show d.start (ix3 i k h) (val_main_v67 x4) 0 + d.batchCoord (ix3 i k h) 0 + d.offCoord (ix3 i k h) 0 = _
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin 2) ∈ d.startIndexMap from List.mem_singleton.mpr rfl)]
    have hsi : d.siIdx (ix3 i k h) ⟨List.idxOf (0 : Fin 2) d.startIndexMap, List.idxOf_lt_length_iff.2 (List.mem_singleton.mpr rfl)⟩ = ix3 i k 0 := by
      funext b
      refine Fin.ext ?_
      match b with
      | ⟨0, _⟩ => rfl
      | ⟨1, _⟩ => rfl
      | ⟨2, _⟩ => rfl
    rw [hsi, hix, hw]
    show min (bu i.val k.val) (32 - 1) + 0 + 0 = bu i.val k.val
    have := (hb i k).2
    omega
  · show d.start (ix3 i k h) (val_main_v67 x4) 1 + d.batchCoord (ix3 i k h) 1 + d.offCoord (ix3 i k h) 1 = _
    rw [GatherDims.batchCoord_eq_zero _ _ _ List.not_mem_nil]
    have h0 : d.start (ix3 i k h) (val_main_v67 x4) 1 = 0 := by
      unfold GatherDims.start
      rw [dif_neg (by decide)]
    have h1 : d.offCoord (ix3 i k h) 1 = h.val := by
      unfold GatherDims.offCoord
      rw [dif_pos (by decide)]
      rfl
    rw [h0, h1]
    omega

/-- The queries, at any index. -/
theorem q_any (j : S4x32x128x4x4x64.Idx) :
    val_main_v24 (F := Ideal) x0 j = at3 (a := 4) (b := 4096) (c := 1024) x0 (j 0).val (128 * (j 1).val + (j 2).val) (64 * (4 * (j 3).val + (j 4).val) + (j 5).val) := by
  exact (congrArg _ (eq_ix6 j)).trans (q_at x0 (j 0) (j 1) (j 2) (j 3) (j 4) (j 5))

/-- The keys, at any index. -/
theorem k_any (j : S4x32x384x4x64.Idx) :
    val_main_v30 (F := Ideal) x1 j = padded x1 (j 0).val (128 * (j 1).val + (j 2).val) (64 * (j 3).val + (j 4).val) :=
  (congrArg _ (eq_ix5 j)).trans (k_at x1 (j 0) (j 1) (j 2) (j 3) (j 4))

/-- The values, at any index. -/
theorem v_any (j : S4x32x384x4x64.Idx) :
    val_main_v36 (F := Ideal) x1 j = padded x1 (j 0).val (128 * (j 1).val + (j 2).val) (256 + (64 * (j 3).val + (j 4).val)) :=
  (congrArg _ (eq_ix5 j)).trans (v_at x1 (j 0) (j 1) (j 2) (j 3) (j 4))

/-- The bias by head pair, query and key. -/
theorem bias_any (bu : ℕ → ℕ → ℕ) (hb : ∀ (i : Fin 128) (k : Fin 384), x4 (ix2 i k) = BitVec.ofNat 32 (bu i.val k.val) ∧ bu i.val k.val < 32)
    (j : S4x4x128x384.Idx) :
    val_main_v70 (F := Ideal) x3 x4 j = at2 (a := 32) (b := 16) x3 (bu (j 2).val (j 3).val) (4 * (j 0).val + (j 1).val) := by
  have h0 : (j 0).val < 4 := (j 0).isLt
  have h1 : (j 1).val < 4 := (j 1).isLt
  have h2 : (j 2).val < 128 := (j 2).isLt
  have h3 : (j 3).val < 384 := (j 3).isLt
  rw [val_main_v70_apply, val_main_v69_apply]
  have e : idx_main_v69 (idx_main_v70 j) = ix3 (j 2) (j 3) ⟨4 * (j 0).val + (j 1).val, by omega⟩ := by
    funext a
    match a with
    | ⟨0, _⟩ => refine Fin.ext ?_; show ((((j 0).val * 4 + (j 1).val) * 128 + (j 2).val) * 384 + (j 3).val) / 384 % 128 = (j 2).val; omega
    | ⟨1, _⟩ => refine Fin.ext ?_; show ((((j 0).val * 4 + (j 1).val) * 128 + (j 2).val) * 384 + (j 3).val) % 384 = (j 3).val; omega
    | ⟨2, _⟩ => refine Fin.ext ?_; show ((((j 0).val * 4 + (j 1).val) * 128 + (j 2).val) * 384 + (j 3).val) / 49152 = 4 * (j 0).val + (j 1).val; omega
  rw [e]
  exact bias_at x3 x4 bu hb (j 2) (j 3) _

end Cert.Proof.Ref

end
-- ==== Proof.Ref.lean ====
/- THE REFERENCE'S VALUE: its scores are real numbers or −∞, its rows are weighted means, its gate is real, and its result is the
   value of Spec. -/
module

public import proofs.«01_k».proof.Proof.RefReads
public import proofs.«01_k».proof.Proof.Spec

@[expose] public section

noncomputable section

namespace Cert.Proof.Ref

open Cert.ReferenceIdeal Cert.ReferenceIdeal.Gen Cert.ReferenceIdeal.Read Idealize.ShloMosaic Cert.Proof.Reads Cert.Proof.Values

/-- The mask: the band, inside the sequence. -/
theorem mask_any (j : S32x128x384.Idx) :
    val_main_v61 (F := Ideal) j = BitVec.ofBool (decide (Sees (j 0).val (j 1).val (j 2).val)) := by
  have h0 : (j 0).val < 32 := (j 0).isLt
  have h1 : (j 1).val < 128 := (j 1).isLt
  have h2 : (j 2).val < 384 := (j 2).isLt
  rw [val_main_v61_apply, val_main_v59_apply, val_main_v57_apply, val_main_v60_apply, val_main_v58_apply]
  rw [val_main_v44_apply, val_main_v42_apply, val_main_v41_apply, val_main_v40_apply, val_main_v38_apply, val_main_v37_apply, val_main_v39_apply, val_main_c_3_apply,
    val_main_v43_apply, val_main_c_4_apply]
  rw [val_main_v56_apply, val_main_v53_apply, val_main_v55_apply, val_main_v51_apply, val_main_v49_apply, val_main_v47_apply, val_main_v45_apply, val_main_v46_apply,
    val_main_c_5_apply, val_main_v48_apply, val_main_c_6_apply, val_main_v50_apply, val_main_v52_apply, val_main_c_7_apply, val_main_v54_apply, val_main_c_8_apply]
  refine (congrArg₂ IntOp.andi (Words.band h2 h1) (Words.inside h0 h2)).trans ?_
  rw [Words.andi_ofBool]
  congr 1
  rw [Bool.eq_iff_iff]
  simp only [Bool.and_eq_true, decide_eq_true_eq]
  exact Iff.rfl

/-- A fold of `max` over entries below +∞, from an entry below +∞, is below +∞. -/
theorem foldl_max {ι : Type} (f : ι → EReal) (hf : ∀ i, f i ≠ ⊤) (l : List ι) (a : EReal) (ha : a ≠ ⊤) : List.foldl (fun r i => max r (f i)) a l ≠ ⊤ := by
  induction l generalizing a with
  | nil => exact ha
  | cons i l ih => exact ih _ (max_lt (lt_top_iff_ne_top.2 ha) (lt_top_iff_ne_top.2 (hf i))).ne

section
variable (x0 : (⟨S4x4096x1024, .bf16⟩ : BufTy).Contents (Elt Ideal)) (x1 : (⟨S4x4096x512, .bf16⟩ : BufTy).Contents (Elt Ideal))
  (x3 : (⟨S32x16, .f32⟩ : BufTy).Contents (Elt Ideal)) (x4 : (⟨S128x384, .i32⟩ : BufTy).Contents (Elt Ideal)) (x8 : (⟨S1x16, .f32⟩ : BufTy).Contents (Elt Ideal))
  (q kv : ℕ → ℕ → ℕ → ℝ) (rb : ℕ → ℕ → ℝ) (bu : ℕ → ℕ → ℕ) (sk : ℕ → ℝ)
  (hq : ∀ b r c, at3 (a := 4) (b := 4096) (c := 1024) x0 b r c = ((q b r c : ℝ) : EReal))
  (hkv : ∀ b r c, at3 (a := 4) (b := 4096) (c := 512) x1 b r c = ((kv b r c : ℝ) : EReal))
  (hr : ∀ r c, at2 (a := 32) (b := 16) x3 r c = ((rb r c : ℝ) : EReal))
  (hs : ∀ h, at2 (a := 1) (b := 16) x8 0 h = ((sk h : ℝ) : EReal))
  (hb : ∀ (i : Fin 128) (k : Fin 384), x4 (ix2 i k) = BitVec.ofNat 32 (bu i.val k.val) ∧ bu i.val k.val < 32)

/-- Real keys and values behind one block of zeros and before another. -/
def paddedR (b r c : ℕ) : ℝ := if 128 ≤ r ∧ r < 4224 then kv b (r - 128) c else 0

include hkv in
theorem padded_real (b r c : ℕ) : padded x1 b r c = ((paddedR kv b r c : ℝ) : EReal) := by
  unfold padded paddedR
  split_ifs
  · exact hkv b _ c
  · simp

/-- A reference score where the query sees the key. -/
def scR (b n h g i k : ℕ) : ℝ :=
  (∑ e : Fin 64, paddedR kv b (128 * n + k) (64 * h + e.val) * q b (128 * n + i) (64 * (4 * h + g) + e.val)) * Real.log 2 + rb (bu i k) (4 * h + g)

theorem log_two : FloatOps.hostUnary (F := Ideal) .log (FloatOps.ofBits .f32 0x40000000#32) = ((Real.log 2 : ℝ) : EReal) := by
  rw [Ideal.hostUnary_log_def, Ideal.ofBits_def, Consts.two_eq, Ideal.log_coe, if_neg (by norm_num)]

include hq hkv hr hb in
/-- The masked scores. -/
theorem score_any (j : S4x32x4x4x128x384.Idx) :
    val_main_v80 (F := Ideal) x0 x1 x3 x4 j
      = if Sees (j 1).val (j 4).val (j 5).val then ((scR q kv rb bu (j 0).val (j 1).val (j 2).val (j 3).val (j 4).val (j 5).val : ℝ) : EReal) else ⊥ := by
  rw [val_main_v80_apply, val_main_call2_v1_apply, val_main_v79_apply, mask_any, val_main_call2_v2_apply, val_main_call2_v0_apply, val_main_cst_12_apply]
  rw [val_main_v78_apply, val_main_v75_apply, val_main_v74_apply, val_main_v73_apply, val_main_cst_11_apply, log_two, val_main_v77_apply, val_main_v76_apply,
    bias_any x3 x4 bu hb, hr, val_main_v72_apply, val_main_v71_apply]
  simp only [k_any, q_any, padded_real x1 kv hkv, hq, ← EReal.coe_mul, Softmax.coe_sum, Ideal.mulf_def, Ideal.addf_def, ← EReal.coe_add]
  rw [Ideal.ofBits_def, Consts.neg_inf]
  show Scalar.select (BitVec.ofBool (decide (Sees (j 1).val (j 4).val (j 5).val))) _ _ = _
  by_cases hS : Sees (j 1).val (j 4).val (j 5).val
  · rw [if_pos hS, decide_eq_true hS]
    rfl
  · rw [if_neg hS, decide_eq_false hS]
    rfl

include hs in
/-- The sink by head. -/
theorem sink_any (j : S1x1x4x4x1x1.Idx) : val_main_v83 (F := Ideal) x8 j = ((sk (4 * (j 2).val + (j 3).val) : ℝ) : EReal) := by
  have h2 : (j 2).val < 4 := (j 2).isLt
  have h3 : (j 3).val < 4 := (j 3).isLt
  rw [val_main_v83_apply, val_main_v82_apply, val_main_v81_apply, idx2 (a := 1) (b := 16) x8, ← hs]
  congr 1
  show ((j 2).val * 4 + (j 3).val) % 16 = _
  omega

include hq hkv hr hb in
/-- The greatest score of a row is not +∞. -/
theorem max_ne_top (j : S4x32x4x4x128.Idx) : val_main_v84 (F := Ideal) x0 x1 x3 x4 j ≠ ⊤ := by
  unfold val_main_v84
  rw [Host.reduce_eq_foldl]
  refine foldl_max (fun i => val_main_v80 (F := Ideal) x0 x1 x3 x4 i) (fun i => ?_) _ _ ?_
  · show val_main_v80 (F := Ideal) x0 x1 x3 x4 i ≠ ⊤
    rw [score_any x0 x1 x3 x4 q kv rb bu hq hkv hr hb]
    split_ifs
    · exact EReal.coe_ne_top _
    · exact bot_ne_top
  · rw [val_main_cst_13_apply, Ideal.ofBits_def, Consts.neg_inf]
    exact bot_ne_top

include hq hkv hr hb hs in
/-- The shift of a row's scores is real. -/
theorem shift_real (j : S4x32x4x4x128x1.Idx) : ∃ M : ℝ, val_main_v87 (F := Ideal) x0 x1 x3 x4 x8 j = (M : EReal) := by
  rw [val_main_v87_apply, val_main_v85_apply, val_main_v86_apply, sink_any x8 sk hs, Ideal.maximumf_def]
  exact Softmax.max_real (max_ne_top x0 x1 x3 x4 q kv rb bu hq hkv hr hb _) _

/-- The weights of a row: the scores shifted and exponentiated, over their sum and the sink's share. -/
theorem weight_at (b : Fin 4) (n : Fin 32) (h g : Fin 4) (i : Fin 128) (M : ℝ) (S : EReal) (hM : val_main_v87 (F := Ideal) x0 x1 x3 x4 x8 (ix6 b n h g i 0) = (M : EReal))
    (hS : ∀ j : S1x1x4x4x1x1.Idx, (j 2).val = h.val → (j 3).val = g.val → val_main_v83 (F := Ideal) x8 j = S) (k : Fin 384) :
    val_main_v98 (F := Ideal) x0 x1 x3 x4 x8 (ix6 b n h g i k)
      = Ideal.div (Ideal.exp (val_main_v80 (F := Ideal) x0 x1 x3 x4 (ix6 b n h g i k) - (M : EReal)))
          ((∑ k' : Fin 384, Ideal.exp (val_main_v80 (F := Ideal) x0 x1 x3 x4 (ix6 b n h g i k') - (M : EReal))) + Ideal.exp (S - (M : EReal))) := by
  have e88 : ∀ k : Fin 384, idx_main_v88 (ix6 b n h g i k) = ix6 b n h g i 0 := fun k => by
    funext a
    match a with
    | ⟨0, _⟩ => rfl
    | ⟨1, _⟩ => rfl
    | ⟨2, _⟩ => rfl
    | ⟨3, _⟩ => rfl
    | ⟨4, _⟩ => rfl
    | ⟨5, _⟩ => rfl
  have e97 : idx_main_v97 (ix6 b n h g i k) = ix6 b n h g i 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  have e91 : ∀ k : Fin 384, idx_main_v91 (idx_main_v92 (ix6 b n h g i 0)) k = ix6 b n h g i k := fun k => by
    funext a
    match a with
    | ⟨0, _⟩ => rfl
    | ⟨1, _⟩ => rfl
    | ⟨2, _⟩ => rfl
    | ⟨3, _⟩ => rfl
    | ⟨4, _⟩ => rfl
    | ⟨5, _⟩ => rfl
  have e90 : ∀ k : Fin 384, val_main_v90 (F := Ideal) x0 x1 x3 x4 x8 (ix6 b n h g i k) = Ideal.exp (val_main_v80 (F := Ideal) x0 x1 x3 x4 (ix6 b n h g i k) - (M : EReal)) := fun k => by
    rw [val_main_v90_apply, val_main_v89_apply, val_main_v88_apply, e88, hM, Ideal.hostUnary_exp_def, Ideal.subf_def]
  have e0 : (val_main_cst_14 (F := Ideal) (Shape.Idx.first h_S_) : EReal) = 0 := by
    rw [val_main_cst_14_apply, Ideal.ofBits_def]
    simp
  rw [val_main_v98_apply, e90, val_main_v97_apply, e97, val_main_v96_apply, val_main_v92_apply, val_main_v91_apply, e0, zero_add, val_main_v95_apply, val_main_v94_apply, hM,
    val_main_v93_apply, hS _ rfl rfl, Ideal.hostDivf_def, Ideal.addf_def, Ideal.hostUnary_exp_def, Ideal.subf_def]
  simp only [e91, e90]

include hq hkv hr hb hs in
/-- The attention's output by head pair. -/
theorem att_at (b : Fin 4) (n : Fin 32) (h g : Fin 4) (i : Fin 128) (d : Fin 64) :
    val_main_v99 (F := Ideal) x0 x1 x3 x4 x8 (ix6 b n h d g i)
      = ((atS (q b.val) (kv b.val) (fun h i k => rb (bu i k) h) sk n.val i.val (4 * h.val + g.val) d.val : ℝ) : EReal) := by
  obtain ⟨M, hM⟩ := shift_real x0 x1 x3 x4 x8 q kv rb bu sk hq hkv hr hs hb (ix6 b n h g i 0)
  have er : ∀ k : Fin 384, ridx_main_v99 (ix6 b n h d g i) k = ix6 b n h g i k := fun k => by
    funext a
    match a with
    | ⟨0, _⟩ => rfl
    | ⟨1, _⟩ => rfl
    | ⟨2, _⟩ => rfl
    | ⟨3, _⟩ => rfl
    | ⟨4, _⟩ => rfl
    | ⟨5, _⟩ => rfl
  have hS : ∀ j : S1x1x4x4x1x1.Idx, (j 2).val = h.val → (j 3).val = g.val → val_main_v83 (F := Ideal) x8 j = ((sk (4 * h.val + g.val) : ℝ) : EReal) := fun j h2 h3 => by
    rw [sink_any x8 sk hs, h2, h3]
  rw [val_main_v99_apply]
  have et : ∀ k : Fin 384, val_main_v36 (F := Ideal) x1 (lidx_main_v99 (ix6 b n h d g i) k) * val_main_v98 (F := Ideal) x0 x1 x3 x4 x8 (ridx_main_v99 (ix6 b n h d g i) k)
      = Ideal.div (Ideal.exp (val_main_v80 (F := Ideal) x0 x1 x3 x4 (ix6 b n h g i k) - (M : EReal)))
          ((∑ k' : Fin 384, Ideal.exp (val_main_v80 (F := Ideal) x0 x1 x3 x4 (ix6 b n h g i k') - (M : EReal))) + Ideal.exp (((sk (4 * h.val + g.val) : ℝ) : EReal) - (M : EReal)))
        * ((paddedR kv b.val (128 * n.val + k.val) (256 + (64 * h.val + d.val)) : ℝ) : EReal) := fun k => by
    rw [er, weight_at x0 x1 x3 x4 x8 b n h g i M _ hM hS k, v_any, padded_real x1 kv hkv, mul_comm]
    rfl
  rw [Finset.sum_congr rfl fun k _ => et k]
  rw [Softmax.mean_base_e (fun k : Fin 384 => Sees n.val i.val k.val) (fun k => scR q kv rb bu b.val n.val h.val g.val i.val k.val)
    (fun k => paddedR kv b.val (128 * n.val + k.val) (256 + (64 * h.val + d.val))) (sk (4 * h.val + g.val)) M
    (fun k => val_main_v80 (F := Ideal) x0 x1 x3 x4 (ix6 b n h g i k)) (fun k => score_any x0 x1 x3 x4 q kv rb bu hq hkv hr hb (ix6 b n h g i k))]
  unfold atS
  have hh : (4 * h.val + g.val) / 4 = h.val := by omega
  rw [Softmax.mean_congr]
  · intro k hk
    have hp : ∀ c, paddedR kv b.val (128 * n.val + k.val) c = kv b.val (128 * n.val + k.val - 128) c := fun c => if_pos ⟨hk.2.1, hk.2.2⟩
    simp only [scR, scS, hp, hh]
    rw [Finset.sum_congr rfl fun e _ => mul_comm _ _]
  · intro k hk
    have hp : ∀ c, paddedR kv b.val (128 * n.val + k.val) c = kv b.val (128 * n.val + k.val - 128) c := fun c => if_pos ⟨hk.2.1, hk.2.2⟩
    simp only [hp, hh]

include hq hkv hr hb hs in
/-- The attention's output by row and column. -/
theorem att_rows (j : S4x4096x1024.Idx) :
    val_main_v101 (F := Ideal) x0 x1 x3 x4 x8 j
      = ((atS (q (j 0).val) (kv (j 0).val) (fun h i k => rb (bu i k) h) sk ((j 1).val / 128) ((j 1).val % 128) ((j 2).val / 64) ((j 2).val % 64) : ℝ) : EReal) := by
  have h0 : (j 0).val < 4 := (j 0).isLt
  have h1 : (j 1).val < 4096 := (j 1).isLt
  have h2 : (j 2).val < 1024 := (j 2).isLt
  unfold val_main_v101
  rw [shapeCast_apply _ _ j (ix6 (⟨(j 0).val, h0⟩ : Fin 4) (⟨(j 1).val / 128, by omega⟩ : Fin 32) (⟨(j 1).val % 128, by omega⟩ : Fin 128) (⟨(j 2).val / 256, by omega⟩ : Fin 4)
      (⟨(j 2).val / 64 % 4, by omega⟩ : Fin 4) (⟨(j 2).val % 64, by omega⟩ : Fin 64))
    (by
      rw [Shape.rowMajor_val_six, Shape.rowMajor_val_three]
      show (((((j 0).val * 32 + (j 1).val / 128) * 128 + (j 1).val % 128) * 4 + (j 2).val / 256) * 4 + (j 2).val / 64 % 4) * 64 + (j 2).val % 64 = ((j 0).val * 4096 + (j 1).val) * 1024 + (j 2).val
      omega)]
  rw [val_main_v100_apply]
  have e : idx_main_v100 (ix6 (⟨(j 0).val, h0⟩ : Fin 4) (⟨(j 1).val / 128, by omega⟩ : Fin 32) (⟨(j 1).val % 128, by omega⟩ : Fin 128) (⟨(j 2).val / 256, by omega⟩ : Fin 4)
      (⟨(j 2).val / 64 % 4, by omega⟩ : Fin 4) (⟨(j 2).val % 64, by omega⟩ : Fin 64))
      = ix6 (⟨(j 0).val, h0⟩ : Fin 4) (⟨(j 1).val / 128, by omega⟩ : Fin 32) (⟨(j 2).val / 256, by omega⟩ : Fin 4) (⟨(j 2).val % 64, by omega⟩ : Fin 64)
        (⟨(j 2).val / 64 % 4, by omega⟩ : Fin 4) (⟨(j 1).val % 128, by omega⟩ : Fin 128) := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e, att_at x0 x1 x3 x4 x8 q kv rb bu sk hq hkv hr hs hb]
  congr 2
  show 4 * ((j 2).val / 256) + (j 2).val / 64 % 4 = (j 2).val / 64
  omega

end

section
variable (x2 : (⟨S4x4096x1024, .f32⟩ : BufTy).Contents (Elt Ideal)) (x5 : (⟨S1x1024, .f32⟩ : BufTy).Contents (Elt Ideal)) (x6 : (⟨S1024x1024, .bf16⟩ : BufTy).Contents (Elt Ideal))

/-- The gate's argument. -/
theorem gate_any (j : S4x4096x1024.Idx) :
    val_main_v23 (F := Ideal) x2 x5 x6 j
      = zF (at3 (a := 4) (b := 4096) (c := 1024) x2 (j 0).val) (at2 (a := 1) (b := 1024) x5) (at2 (a := 1024) (b := 1024) x6) (j 1).val (j 2).val := by
  have e0 : (val_main_cst (F := Ideal) (Shape.Idx.first h_S_) : EReal) = 0 := by
    rw [val_main_cst_apply, Ideal.ofBits_def]
    simp
  rw [val_main_v23_apply]
  unfold zF
  refine Finset.sum_congr rfl fun e _ => ?_
  rw [val_main_v13_apply, val_main_v10_apply, val_main_v9_apply, val_main_v8_apply, val_main_v7_apply, val_main_v5_apply, val_main_v3_apply, val_main_v2_apply, e0, zero_add,
    val_main_v4_apply, val_main_cst_0_apply, val_main_v6_apply, val_main_cst_1_apply, val_main_v12_apply, val_main_v11_apply, val_main_v0_apply, val_main_v22_apply]
  simp only [val_main_v1_apply, Ideal.mulf_def, Ideal.addf_def, Ideal.hostDivf_def, Ideal.hostUnary_rsqrt_def, Ideal.extf_def, Ideal.ofBits_def,
    idx3 (a := 4) (b := 4096) (c := 1024) x2, idx2 (a := 1) (b := 1024) x5, idx2 (a := 1024) (b := 1024) x6]
  have he : e.val % 1024 = e.val := Nat.mod_eq_of_lt e.isLt
  congr 2
  show at2 (a := 1) (b := 1024) x5 0 (e.val % 1024) = _
  rw [he]

/-- The gate. -/
theorem silu_at (j : S4x4096x1024.Idx) :
    val_main_v102 (F := Ideal) x2 x5 x6 j = val_main_v23 (F := Ideal) x2 x5 x6 j * Ideal.logistic (val_main_v23 (F := Ideal) x2 x5 x6 j) := by
  have e1 : Ideal.ofBits .f32 0x3F800000#32 = 1 := by simp
  rw [val_main_v102_apply, val_main_call3_v5_apply, val_main_call3_v4_apply, val_main_call3_cst_0_apply, val_main_call3_v3_apply, val_main_call3_v2_apply, val_main_call3_cst_apply,
    val_main_call3_v1_apply, val_main_call3_v0_apply, Ideal.ofBits_def, e1]
  rfl
end

/-- The reference's result: the value of Spec. -/
theorem result_at (x0 : (⟨S4x4096x1024, .bf16⟩ : BufTy).Contents (Elt Ideal)) (x1 : (⟨S4x4096x512, .bf16⟩ : BufTy).Contents (Elt Ideal))
    (x2 : (⟨S4x4096x1024, .f32⟩ : BufTy).Contents (Elt Ideal)) (x3 : (⟨S32x16, .f32⟩ : BufTy).Contents (Elt Ideal)) (x4 : (⟨S128x384, .i32⟩ : BufTy).Contents (Elt Ideal))
    (x5 : (⟨S1x1024, .f32⟩ : BufTy).Contents (Elt Ideal)) (x6 x7 : (⟨S1024x1024, .bf16⟩ : BufTy).Contents (Elt Ideal)) (x8 : (⟨S1x16, .f32⟩ : BufTy).Contents (Elt Ideal))
    (q kv : ℕ → ℕ → ℕ → ℝ) (rb : ℕ → ℕ → ℝ) (bu : ℕ → ℕ → ℕ) (sk : ℕ → ℝ)
    (hq : ∀ b r c, at3 (a := 4) (b := 4096) (c := 1024) x0 b r c = ((q b r c : ℝ) : EReal))
    (hkv : ∀ b r c, at3 (a := 4) (b := 4096) (c := 512) x1 b r c = ((kv b r c : ℝ) : EReal))
    (hr : ∀ r c, at2 (a := 32) (b := 16) x3 r c = ((rb r c : ℝ) : EReal))
    (hs : ∀ h, at2 (a := 1) (b := 16) x8 0 h = ((sk h : ℝ) : EReal))
    (hb : ∀ (i : Fin 128) (k : Fin 384), x4 (ix2 i k) = BitVec.ofNat 32 (bu i.val k.val) ∧ bu i.val k.val < 32) (j : S4x4096x1024.Idx) :
    val_main_v106 (F := Ideal) x0 x1 x2 x3 x4 x5 x6 x7 x8 j
      = resS (at3 (a := 4) (b := 4096) (c := 1024) x2 (j 0).val) (at2 (a := 1) (b := 1024) x5) (at2 (a := 1024) (b := 1024) x6) (at2 (a := 1024) (b := 1024) x7)
          (fun s c => atS (q (j 0).val) (kv (j 0).val) (fun h i k => rb (bu i k) h) sk (s / 128) (s % 128) (c / 64) (c % 64)) (j 1).val (j 2).val := by
  rw [val_main_v106_apply, val_main_v105_apply, Ideal.addf_def, idx3 (a := 4) (b := 4096) (c := 1024) x2]
  unfold resS
  congr 1
  refine Finset.sum_congr rfl fun d _ => ?_
  rw [val_main_v103_apply, val_main_v104_apply, Ideal.mulf_def, Ideal.extf_def, att_rows x0 x1 x3 x4 x8 q kv rb bu sk hq hkv hr hs hb, silu_at, gate_any,
    idx2 (a := 1024) (b := 1024) x7]

end Cert.Proof.Ref

end
-- ==== Proof.Pre.lean ====
/- WHAT THE PRECONDITION GIVES: the arrays it names hold real numbers, the buckets are words below 32; and the gate of real rows is real. -/
module

public import proofs.«01_k».proof.Pre_finite_arguments
public import proofs.«01_k».proof.Proof.Spec
public import Idealize.ShloMosaic.Lib.ReduceAll

@[expose] public section

noncomputable section

namespace Cert.Proof.Pre

open Idealize.ShloMosaic Cert.Proof.Reads Cert.Proof.Values Cert.Pre_finite_arguments

/-- An absolute value below +∞ is that of a real number. -/
theorem real_of_abs {a : EReal} (h : Ideal.cmp .olt (max a (-a)) (Ideal.ofBits .f32 0x7F800000#32) = 1#1) : a = ((a.toReal : ℝ) : EReal) := by
  rw [Consts.pos_inf] at h
  induction a with
  | bot => exact absurd h (by simp [Ideal.cmp])
  | top => exact absurd h (by simp [Ideal.cmp])
  | coe r => simp

/-- A word at least zero and below 32 is that of its natural number. -/
theorem bucket_of {w : BitVec 32} (h : IntOp.andi (IntOp.cmpi .sge w 0#32) (IntOp.cmpi .slt w 32#32) = 1#1) :
    w = BitVec.ofNat 32 w.toNat ∧ w.toNat < 32 := by
  obtain ⟨h1, h2⟩ := IntOp.andi_eq_one.1 h
  rw [IntOp.cmpi_sge] at h1
  rw [IntOp.cmpi_slt] at h2
  refine ⟨by simp, ?_⟩
  have e := BitVec.toInt_eq_toNat_cond w
  have h0 : (0#32 : BitVec 32).toInt = 0 := by decide
  have h3 : (32#32 : BitVec 32).toInt = 32 := by decide
  rw [h0] at h1
  rw [h3] at h2
  have hw := w.isLt
  split at e <;> omega

instance : Subsingleton S_.Idx := ⟨fun a b => funext fun i => i.elim0⟩

/-- The precondition's conjuncts, one for each array it names. -/
theorem split [Facts] {x0 x1 x2 x3 x4 x5 x6 x7 x8}
    (h : fn (F := Ideal) x0 x1 x2 x3 x4 x5 x6 x7 x8 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal))
      ∧ (∀ i, x4 i = BitVec.ofNat 32 (x4 i).toNat ∧ (x4 i).toNat < 32)
      ∧ (∀ i, x5 i = ((EReal.toReal (x5 i) : ℝ) : EReal)) ∧ (∀ i, x6 i = ((EReal.toReal (x6 i) : ℝ) : EReal))
      ∧ (∀ i, x8 i = ((EReal.toReal (x8 i) : ℝ) : EReal)) := by
  have e := congrFun h ix0
  dsimp only [fn, fn_part1, fn_part2] at e
  obtain ⟨e, e6⟩ := IntOp.andi_eq_one.1 e
  obtain ⟨e, e1⟩ := IntOp.andi_eq_one.1 e
  obtain ⟨e, e0⟩ := IntOp.andi_eq_one.1 e
  obtain ⟨e, e4⟩ := IntOp.andi_eq_one.1 e
  obtain ⟨e, e5⟩ := IntOp.andi_eq_one.1 e
  obtain ⟨e, e2⟩ := IntOp.andi_eq_one.1 e
  obtain ⟨e3, e8⟩ := IntOp.andi_eq_one.1 e
  exact ⟨fun i => real_of_abs (Host.reduce_andi_all _ _ _ _ _ e0 i), fun i => real_of_abs (Host.reduce_andi_all _ _ _ _ _ e1 i),
    fun i => real_of_abs (Host.reduce_andi_all _ _ _ _ _ e2 i), fun i => real_of_abs (Host.reduce_andi_all _ _ _ _ _ e3 i),
    fun i => bucket_of (Host.reduce_andi_all _ _ _ _ _ e4 i), fun i => real_of_abs (Host.reduce_andi_all _ _ _ _ _ e5 i),
    fun i => real_of_abs (Host.reduce_andi_all _ _ _ _ _ e6 i), fun i => real_of_abs (Host.reduce_andi_all _ _ _ _ _ e8 i)⟩

/-! ## Real arrays at natural numbers -/

theorem at2_real {a b : ℕ} {X : (⟨2, ![a, b]⟩ : Shape).Idx → EReal} (h : ∀ i, X i = ((EReal.toReal (X i) : ℝ) : EReal)) (r c : ℕ) :
    at2 X r c = ((EReal.toReal (at2 X r c) : ℝ) : EReal) := by
  rw [at2]
  split
  · exact h _
  · simp

theorem at3_real {a b c : ℕ} {X : (⟨3, ![a, b, c]⟩ : Shape).Idx → EReal} (h : ∀ i, X i = ((EReal.toReal (X i) : ℝ) : EReal)) (p q r : ℕ) :
    at3 X p q r = ((EReal.toReal (at3 X p q r) : ℝ) : EReal) := by
  rw [at3]
  split
  · exact h _
  · simp

/-- The gate's argument on real rows is real. -/
theorem gate_real {x g wg : ℕ → ℕ → EReal} (x' g' wg' : ℕ → ℕ → ℝ) (hx : ∀ r c, x r c = (x' r c : EReal)) (hg : ∀ r c, g r c = (g' r c : EReal))
    (hw : ∀ r c, wg r c = (wg' r c : EReal)) (r d : ℕ) : ∃ z : ℝ, zF x g wg r d = (z : EReal) := by
  obtain ⟨e, he, hee⟩ := Consts.eps_pos
  have hsum : (∑ k : Fin 1024, x r k.val * x r k.val) = ((∑ k : Fin 1024, x' r k.val * x' r k.val : ℝ) : EReal) := by
    rw [← Softmax.coe_sum]
    exact Finset.sum_congr rfl fun k _ => by rw [hx, EReal.coe_mul]
  have hpos : 0 < (∑ k : Fin 1024, x' r k.val * x' r k.val) * (1 / 1024) + e :=
    add_pos_of_nonneg_of_pos (mul_nonneg (Finset.sum_nonneg fun k _ => mul_self_nonneg _) (by norm_num)) he
  obtain ⟨t, ht⟩ := Softmax.rsqrt_real hpos
  refine ⟨∑ k : Fin 1024, x' r k.val * t * g' 0 k.val * wg' k.val d, ?_⟩
  rw [zF, hsum, Consts.width_eq, hee, Ideal.div_coe (by norm_num), ← EReal.coe_mul, ← EReal.coe_add, ht, ← Softmax.coe_sum]
  exact Finset.sum_congr rfl fun k _ => by rw [hx, hg, hw, ← EReal.coe_mul, ← EReal.coe_mul, ← EReal.coe_mul]

end Cert.Proof.Pre

end
-- ==== Proof.Assemble.lean ====
/- THE ATTENTION CALL COMPUTES ITS REFERENCE: both runs leave the array of Spec. -/
module

public import proofs.«01_k».proof.Defs
public import proofs.«01_k».proof.Proof.Gen.Pre_finite_arguments
public import proofs.«01_k».proof.Proof.Pre
public import proofs.«01_k».proof.Proof.Block
public import proofs.«01_k».proof.Proof.Host
public import proofs.«01_k».proof.Proof.Ref
public import proofs.«01_k».proof.Proof.Gen.ReferenceIdeal.Run

@[expose] public section

noncomputable section

namespace Cert.Proof

open Idealize.ShloMosaic Idealize.ShloMosaic.TcCoe Idealize.SL.Sem Cert.Proof.Reads Cert.Proof.Values

/-- The bucket of a query and a key by their places in the block. -/
def bucketN (x4 : (⟨2, ![128, 384]⟩ : Shape).Idx → BitVec 32) (i k : ℕ) : ℕ := if hh : i < 128 ∧ k < 384 then (x4 (ix2 ⟨i, hh.1⟩ ⟨k, hh.2⟩)).toNat else 0

theorem bucketN_at {x4 : (⟨2, ![128, 384]⟩ : Shape).Idx → BitVec 32} (h : ∀ i, x4 i = BitVec.ofNat 32 (x4 i).toNat ∧ (x4 i).toNat < 32)
    (i : Fin 128) (k : Fin 384) : x4 (ix2 i k) = BitVec.ofNat 32 (bucketN x4 i.val k.val) ∧ bucketN x4 i.val k.val < 32 := by
  rw [bucketN, dif_pos ⟨i.isLt, k.isLt⟩]
  exact h _

/-- The attention of a layer by batch entry, row and column, from its nine argument arrays. -/
def layer (x0 : (⟨3, ![4, 4096, 1024]⟩ : Shape).Idx → EReal) (x1 : (⟨3, ![4, 4096, 512]⟩ : Shape).Idx → EReal)
    (x2 : (⟨3, ![4, 4096, 1024]⟩ : Shape).Idx → EReal) (x3 : (⟨2, ![32, 16]⟩ : Shape).Idx → EReal) (x4 : (⟨2, ![128, 384]⟩ : Shape).Idx → BitVec 32)
    (x5 : (⟨2, ![1, 1024]⟩ : Shape).Idx → EReal) (x6 x7 : (⟨2, ![1024, 1024]⟩ : Shape).Idx → EReal) (x8 : (⟨2, ![1, 16]⟩ : Shape).Idx → EReal)
    (b s d : ℕ) : EReal :=
  resS (at3 (a := 4) (b := 4096) (c := 1024) x2 b) (at2 (a := 1) (b := 1024) x5) (at2 (a := 1024) (b := 1024) x6) (at2 (a := 1024) (b := 1024) x7)
    (fun s c => atS (fun r c => EReal.toReal (at3 (a := 4) (b := 4096) (c := 1024) x0 b r c)) (fun r c => EReal.toReal (at3 (a := 4) (b := 4096) (c := 512) x1 b r c))
      (fun h i k => EReal.toReal (at2 (a := 32) (b := 16) x3 (bucketN x4 i k) h))
      (fun h => EReal.toReal (at2 (a := 1) (b := 16) x8 0 h)) (s / 128) (s % 128) (c / 64) (c % 64)) s d

/-- The attention call's result array is `layer` of its argument arrays. -/
theorem kernel_value (m : (ℓ : Loc Cert.KernelIdeal.nD Cert.KernelIdeal.τ Cert.KernelIdeal.sig) → Buf (Elt Ideal) ℓ)
    (hm : Cert.Pre_KernelIdeal_finite_arguments m) (c : Dev Cert.KernelIdeal.nD) :
    (Cert.KernelIdeal.Gen.dats (F := Ideal) m 0 c).arrAt 10 Cert.KernelIdeal.cfg0.N = fun j : Cert.KernelIdeal.S4x4096x1024.Idx =>
      layer (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (j 0).val (j 1).val (j 2).val := by
  obtain ⟨f0, f1, f2, f3, f4, f5, f6, f8⟩ := Pre.split (hm c)
  refine (final m c).trans (funext fun j => ?_)
  have hg : at2 (a := 1) (b := 1024) (Cert.KernelIdeal.Gen.V (F := Ideal) m c Cert.KernelIdeal.main_v32)
      = at2 (a := 1) (b := 1024) (m ((c.tc : Thread Cert.KernelIdeal.nD Cert.KernelIdeal.τ).loc Cert.KernelIdeal.main_arg5)) := by
    funext r d
    rw [at2, at2]
    split
    · rename_i hh
      obtain rfl : r = 0 := by omega
      exact gain_at m c ⟨d, hh.2⟩
    · rfl
  rw [resK, hg]
  refine tile_eq _ _ _ _ _ _ _ _ (fun r d => Pre.at3_real f0 _ _ _) (fun r d => Pre.at3_real f1 _ _ _) (fun h k i hh hk hi => ?_) (fun h hh => ?_) _ _ _ _
    (fun r d _ _ => Pre.gate_real _ _ _ (fun _ _ => Pre.at3_real f2 _ _ _) (fun _ _ => Pre.at2_real f5 _ _) (fun _ _ => Pre.at2_real f6 _ _) r d) _ _ (j 1).isLt (j 2).isLt
  · rw [at3, dif_pos ⟨hh, hk, hi⟩]
    exact bias_at m c (fun r h => EReal.toReal (at2 (a := 32) (b := 16) (m ((c.tc : Thread Cert.KernelIdeal.nD Cert.KernelIdeal.τ).loc Cert.KernelIdeal.main_arg3)) r h))
      (bucketN (m ((c.tc : Thread Cert.KernelIdeal.nD Cert.KernelIdeal.τ).loc Cert.KernelIdeal.main_arg4)))
      (fun x h => (to2 _ x h).trans (Pre.at2_real f3 _ _)) (bucketN_at f4) ⟨h, hh⟩ ⟨k, hk⟩ ⟨i, hi⟩
  · rw [at1, dif_pos hh]
    exact sink_at m c (fun h => EReal.toReal (at2 (a := 1) (b := 16) (m ((c.tc : Thread Cert.KernelIdeal.nD Cert.KernelIdeal.τ).loc Cert.KernelIdeal.main_arg8)) 0 h))
      (fun h => (to2 (a := 1) (b := 16) _ 0 h).trans (Pre.at2_real f8 _ _)) ⟨h, hh⟩

open Cert.ReferenceIdeal in
/-- The reference's result is `layer` of its argument arrays. -/
theorem reference_value (x0 : (⟨S4x4096x1024, .bf16⟩ : BufTy).Contents (Elt Ideal)) (x1 : (⟨S4x4096x512, .bf16⟩ : BufTy).Contents (Elt Ideal))
    (x2 : (⟨S4x4096x1024, .f32⟩ : BufTy).Contents (Elt Ideal)) (x3 : (⟨S32x16, .f32⟩ : BufTy).Contents (Elt Ideal)) (x4 : (⟨S128x384, .i32⟩ : BufTy).Contents (Elt Ideal))
    (x5 : (⟨S1x1024, .f32⟩ : BufTy).Contents (Elt Ideal)) (x6 x7 : (⟨S1024x1024, .bf16⟩ : BufTy).Contents (Elt Ideal)) (x8 : (⟨S1x16, .f32⟩ : BufTy).Contents (Elt Ideal))
    (h : Cert.Pre_finite_arguments.fn (F := Ideal) x0 x1 x2 x3 x4 x5 x6 x7 x8 = fun _ => 1#1) :
    Cert.ReferenceIdeal.Read.val_main_v106 (F := Ideal) x0 x1 x2 x3 x4 x5 x6 x7 x8 = fun j : S4x4096x1024.Idx => layer x0 x1 x2 x3 x4 x5 x6 x7 x8 (j 0).val (j 1).val (j 2).val := by
  obtain ⟨f0, f1, f2, f3, f4, f5, f6, f8⟩ := Pre.split h
  exact funext fun j => Ref.result_at x0 x1 x2 x3 x4 x5 x6 x7 x8 (fun b r c => EReal.toReal (at3 (a := 4) (b := 4096) (c := 1024) x0 b r c))
    (fun b r c => EReal.toReal (at3 (a := 4) (b := 4096) (c := 512) x1 b r c)) (fun r c => EReal.toReal (at2 (a := 32) (b := 16) x3 r c)) (bucketN x4)
    (fun h => EReal.toReal (at2 (a := 1) (b := 16) x8 0 h))
    (fun _ _ _ => Pre.at3_real f0 _ _ _) (fun _ _ _ => Pre.at3_real f1 _ _ _) (fun _ _ => Pre.at2_real f3 _ _) (fun _ => Pre.at2_real f8 _ _) (bucketN_at f4) j

/-- On arguments that meet the precondition the call and its reference end with one result array. -/
theorem attention : Cert.algebraic_KernelIdeal_ReferenceIdeal_pre_finite_arguments := by
  intro m g m' g' hm hagree
  refine ⟨fun c => (Cert.KernelIdeal.Gen.dats (F := Ideal) m 0 c).arrAt 10 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6, a7, a8⟩ := hagree c
  refine Eq.trans ?_ (kernel_value m hm c).symm
  rw [Cert.ReferenceIdeal.Read.val_main_v106_eq, a0, a1, a2, a3, a4, a5, a6, a7, a8]
  exact reference_value _ _ _ _ _ _ _ _ _ (hm c)

end Cert.Proof

end
-- ==== Proof.Inproj.lean ====
/- THE INPUT PROJECTIONS: the call's two result arrays and the reference's are one function of the argument arrays. -/
module

public import proofs.«01_k».proof.Defs
public import proofs.«01_k».proof.Proof.Tile
public import proofs.«01_k».proof.Proof.Consts
public import Idealize.ShloMosaic.Lib.Pipeline.ValueKit
public import proofs.«01_k».proof.Proof.Gen.Kernel2Ideal.Value
public import proofs.«01_k».proof.Proof.Gen.Reference2Ideal.Read
public import proofs.«01_k».proof.Proof.Gen.Reference2Ideal.Run

@[expose] public section

noncomputable section

namespace Cert.Proof.Inproj

open Idealize.ShloMosaic Idealize.ShloMosaic.TcCoe Idealize.SL.Sem Cert.Proof.Reads Cert.Proof.Values

/-- A projection of a row depends on that row of the input alone. -/
theorem zF_row (x x' g wg g' wg' : ℕ → ℕ → EReal) (r r' d : ℕ) (hx : ∀ e, e < 1024 → x r e = x' r' e) (hg : ∀ e, e < 1024 → g 0 e = g' 0 e)
    (hw : ∀ e, e < 1024 → wg e d = wg' e d) : zF x g wg r d = zF x' g' wg' r' d := by
  unfold zF
  have hs : (∑ e' : Fin 1024, x r e'.val * x r e'.val) = ∑ e' : Fin 1024, x' r' e'.val * x' r' e'.val :=
    Finset.sum_congr rfl fun e _ => by rw [hx e.val e.isLt]
  rw [hs]
  exact Finset.sum_congr rfl fun e _ => by rw [hx e.val e.isLt, hg e.val e.isLt, hw e.val e.isLt]

/-- The factor on the queries: an eighth, over the logarithm of two. -/
def scale : EReal := (((1 / 8) * (Real.log 2)⁻¹ : ℝ) : EReal)

/-! ## The call -/

section
open Cert.Kernel2Ideal Cert.Kernel2Ideal.Gen

theorem pay2_apply (x : Vec Ideal S1024x1024 .f32) (g : Vec Ideal S1x1024 .f32) (w : Vec Ideal S1024x1024 .bf16) (r : Fin 1024) (d : Fin 1024) :
    Cert.Kernel2Ideal.Gen.k0_pay2 x g w (ix2 r d)
      = zF (at2 (a := 1024) (b := 1024) x) (at2 (a := 1) (b := 1024) g) (at2 (a := 1024) (b := 1024) w) r.val d.val * scale := by
  pointwise [Cert.Kernel2Ideal.Gen.k0_pay2, Cert.Kernel2Ideal.Gen.k0_pay1]
  simp only [to2 (a := 1024) (b := 1024) x, to2 (a := 1) (b := 1024) g, to2 (a := 1024) (b := 1024) w]
  rw [IdealRules.named_const.ideal_named_scalar Cert.Kernel2Ideal.κ "scale" _ _ rfl]
  rfl

theorem pay3_apply (x : Vec Ideal S1024x1024 .f32) (g : Vec Ideal S1x1024 .f32) (w : Vec Ideal S1024x512 .bf16) (r : Fin 1024) (d : Fin 512) :
    Cert.Kernel2Ideal.Gen.k0_pay3 x g w (ix2 r d)
      = zF (at2 (a := 1024) (b := 1024) x) (at2 (a := 1) (b := 1024) g) (at2 (a := 1024) (b := 512) w) r.val d.val := by
  pointwise [Cert.Kernel2Ideal.Gen.k0_pay3, Cert.Kernel2Ideal.Gen.k0_pay1]
  simp only [to2 (a := 1024) (b := 1024) x, to2 (a := 1) (b := 1024) g, to2 (a := 1024) (b := 512) w]
  rfl

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem block0 (c : Dev nD) (t : Fin cfg0.N) (r e : ℕ) (hr : r < 1024) (he : e < 1024) : at2 (a := 1024) (b := 1024) (iblk (F := Ideal) m c 0 t) r e
    = at2 (a := 16384) (b := 1024) (m ((c : Thread nD τ).loc main_arg0)) (t.val * 1024 + r) e := by
  have ht : t.val < 16 := t.isLt
  rw [at2, dif_pos ⟨hr, he⟩, at2, dif_pos ⟨by omega, he⟩]
  blk_ext [iblk, V, index0]

theorem block1 (c : Dev nD) (t : Fin cfg0.N) : iblk (F := Ideal) m c 1 t = m ((c : Thread nD τ).loc main_arg1) := by
  funext y
  rw [iblk]
  blk_simp
  congr 1
  blk_ext [index1]

theorem block2 (c : Dev nD) (t : Fin cfg0.N) : iblk (F := Ideal) m c 2 t = m ((c : Thread nD τ).loc main_arg2) := by
  funext y
  rw [iblk]
  blk_simp
  congr 1
  blk_ext [index2]

theorem block3 (c : Dev nD) (t : Fin cfg0.N) : iblk (F := Ideal) m c 3 t = m ((c : Thread nD τ).loc main_arg3) := by
  funext y
  rw [iblk]
  blk_simp
  congr 1
  blk_ext [index3]

/-- The queries' array after the run. -/
theorem final_q (c : Dev nD) : (dats (F := Ideal) m 0 c).arrAt 4 cfg0.N = fun j : S16384x1024.Idx =>
    zF (at2 (a := 16384) (b := 1024) (m ((c : Thread nD τ).loc main_arg0))) (at2 (a := 1) (b := 1024) (m ((c : Thread nD τ).loc main_arg1)))
      (at2 (a := 1024) (b := 1024) (m ((c : Thread nD τ).loc main_arg2))) (j 0).val (j 1).val * scale := by
  refine (dats m 0 c).arrAt_eq_of_covers 4 _ (by decide +kernel) fun t hf y => ?_
  have h0 : (y 0).val < 1024 := (y 0).isLt
  have h1 : (y 1).val < 1024 := (y 1).isLt
  blk_simp [index4]
  rw [after0_4, out0_4, View.canon_cons_unit_lit _ _ _ (by decide), View.ld_unit_lit _ _ (by decide), View.ld_unit_lit _ _ (by decide), View.ld_unit_lit _ _ (by decide),
    block1, block2]
  refine (congrArg _ (eq_ix2 (n0 := 1024) (n1 := 1024) y)).trans ((pay2_apply _ _ _ _ _).trans ?_)
  refine congrArg (· * scale) ?_
  refine (zF_row _ _ _ _ _ _ _ _ _ (fun e he => block0 m c t _ _ h0 he) (fun _ _ => rfl) (fun _ _ => rfl)).trans ?_
  congr 1 <;> simp

/-- The keys' and values' array after the run. -/
theorem final_kv (c : Dev nD) : (dats (F := Ideal) m 0 c).arrAt 5 cfg0.N = fun j : S16384x512.Idx =>
    zF (at2 (a := 16384) (b := 1024) (m ((c : Thread nD τ).loc main_arg0))) (at2 (a := 1) (b := 1024) (m ((c : Thread nD τ).loc main_arg1)))
      (at2 (a := 1024) (b := 512) (m ((c : Thread nD τ).loc main_arg3))) (j 0).val (j 1).val := by
  refine (dats m 0 c).arrAt_eq_of_covers 5 _ (by decide +kernel) fun t hf y => ?_
  have h0 : (y 0).val < 1024 := (y 0).isLt
  have h1 : (y 1).val < 512 := (y 1).isLt
  blk_simp [index5]
  rw [after0_5, out0_5, View.canon_cons_unit_lit _ _ _ (by decide), View.ld_unit_lit _ _ (by decide), View.ld_unit_lit _ _ (by decide), View.ld_unit_lit _ _ (by decide),
    block1, block3]
  refine (congrArg _ (eq_ix2 (n0 := 1024) (n1 := 512) y)).trans ((pay3_apply _ _ _ _ _).trans ?_)
  refine (zF_row _ _ _ _ _ _ _ _ _ (fun e he => block0 m c t _ _ h0 he) (fun _ _ => rfl) (fun _ _ => rfl)).trans ?_
  congr 1 <;> simp
end

/-! ## The reference -/

section
open Cert.Reference2Ideal Cert.Reference2Ideal.Gen Cert.Reference2Ideal.Read

variable (x0 : (⟨S16384x1024, .f32⟩ : BufTy).Contents (Elt Ideal)) (x1 : (⟨S1x1024, .f32⟩ : BufTy).Contents (Elt Ideal))

/-- The reference's normalised rows. -/
theorem norm_at (j : S16384x1024.Idx) : val_main_v13 (F := Ideal) x0 x1 j
    = at2 (a := 16384) (b := 1024) x0 (j 0).val (j 1).val
      * Ideal.rsqrt (Ideal.div (∑ e' : Fin 1024, at2 (a := 16384) (b := 1024) x0 (j 0).val e'.val * at2 (a := 16384) (b := 1024) x0 (j 0).val e'.val) (Ideal.ofBits .f32 0x44800000#32)
          + Ideal.ofBits .f32 0x358637BD#32)
      * at2 (a := 1) (b := 1024) x1 0 (j 1).val := by
  have e0 : (val_main_cst (F := Ideal) (Shape.Idx.first h_S_) : EReal) = 0 := by
    rw [val_main_cst_apply, Ideal.ofBits_def]
    simp
  rw [val_main_v13_apply, val_main_v10_apply, val_main_v9_apply, val_main_v8_apply, val_main_v7_apply, val_main_v5_apply, val_main_v3_apply, val_main_v2_apply, e0, zero_add,
    val_main_v4_apply, val_main_cst_0_apply, val_main_v6_apply, val_main_cst_1_apply, val_main_v12_apply, val_main_v11_apply, val_main_v0_apply]
  simp only [val_main_v1_apply, Ideal.mulf_def, Ideal.addf_def, Ideal.hostDivf_def, Ideal.hostUnary_rsqrt_def, Ideal.ofBits_def,
    idx2 (a := 16384) (b := 1024) x0, idx2 (a := 1) (b := 1024) x1]
  have he : (j 1).val % 1024 = (j 1).val := Nat.mod_eq_of_lt (j 1).isLt
  congr 1
  show at2 (a := 1) (b := 1024) x1 0 ((j 1).val % 1024) = _
  rw [he]

/-- The reference's queries: the projection, over eight and over the logarithm of two. -/
theorem ref_q (x2 : (⟨S1024x1024, .bf16⟩ : BufTy).Contents (Elt Ideal)) : val_main_v23 (F := Ideal) x0 x1 x2 = fun j : S16384x1024.Idx =>
    zF (at2 (a := 16384) (b := 1024) x0) (at2 (a := 1) (b := 1024) x1) (at2 (a := 1024) (b := 1024) x2) (j 0).val (j 1).val * scale := by
  funext j
  have hl : Real.log 2 ≠ 0 := (Real.log_pos (by norm_num)).ne'
  have e8 : Ideal.ofBits .f32 0x3E000000#32 = ((1 / 8 : ℝ) : EReal) := by
    simp [Ideal.ofBits, Ideal.ieee, -EReal.coe_mul]
    norm_num
  have e2 : Ideal.ofBits .f32 0x40000000#32 = ((2 : ℝ) : EReal) := Cert.Proof.Consts.two_eq
  rw [val_main_v23_apply, val_main_v22_apply, val_main_v17_apply, val_main_v15_apply, val_main_v16_apply, val_main_cst_2_apply, val_main_v21_apply, val_main_v20_apply, val_main_cst_3_apply]
  simp only [Ideal.truncf_def, Ideal.mulf_def, Ideal.hostDivf_def, Ideal.ofBits_def, norm_at, val_main_v14_apply, Ideal.extf_def, idx2 (a := 1024) (b := 1024) x2]
  rw [e8, e2, Ideal.hostUnary_log_def, Ideal.log_coe, if_neg (by norm_num), Ideal.div_coe hl, mul_assoc, ← EReal.coe_mul, one_div (Real.log 2)]
  rfl

/-- The reference's keys and values. -/
theorem ref_kv (x3 : (⟨S1024x512, .bf16⟩ : BufTy).Contents (Elt Ideal)) : val_main_v24 (F := Ideal) x0 x1 x3 = fun j : S16384x512.Idx =>
    zF (at2 (a := 16384) (b := 1024) x0) (at2 (a := 1) (b := 1024) x1) (at2 (a := 1024) (b := 512) x3) (j 0).val (j 1).val := by
  funext j
  rw [val_main_v24_apply, val_main_v19_apply]
  simp only [Ideal.truncf_def, norm_at, val_main_v18_apply, Ideal.extf_def, idx2 (a := 1024) (b := 512) x3]
  rfl
end

/-- The call and its reference end with the same two result arrays. -/
theorem inproj : Cert.algebraic_Kernel2Ideal_Reference2Ideal := by
  intro m g m' g' _ hagree
  refine ⟨fun c => (Cert.Kernel2Ideal.Gen.dats (F := Ideal) m 0 c).arrAt 4 Cert.Kernel2Ideal.cfg0.N, fun c => (Cert.Kernel2Ideal.Gen.dats (F := Ideal) m 0 c).arrAt 5 Cert.Kernel2Ideal.cfg0.N,
    Cert.Kernel2Ideal.Value.run_blocks m g, ?_⟩
  refine (θ_run Cert.Reference2Ideal.defs _ _).mono (fun r h c => ⟨(h c).1.trans ?_, (h c).2.1.trans ?_, (h c).2.2⟩) (Cert.Reference2Ideal.Value.run (F := Ideal) m' g')
  · obtain ⟨a0, a1, a2, a3⟩ := hagree c
    refine Eq.trans ?_ (final_q m c).symm
    rw [Cert.Reference2Ideal.Read.val_main_v23_eq, a0, a1, a2]
    exact ref_q _ _ _
  · obtain ⟨a0, a1, a2, a3⟩ := hagree c
    refine Eq.trans ?_ (final_kv m c).symm
    rw [Cert.Reference2Ideal.Read.val_main_v24_eq, a0, a1, a3]
    exact ref_kv _ _ _

end Cert.Proof.Inproj

end
-- ==== Proof.Stage2.lean ====
/- THE SECOND HALF OF THE DFT: what one grid point stores. The body forms one product per position of its tile, stacks the 32
   products in a scratch array, and finishes the tile in two halves. -/
module

public import proofs.«01_k».proof.Proof.Tile
public import Idealize.ShloMosaic.Lib.Pipeline.ValueKit
public import proofs.«01_k».proof.Proof.Gen.Kernel3Ideal.Value

@[expose] public section

noncomputable section

namespace Cert.Proof.Stage2

open Idealize.ShloMosaic Idealize.ShloMosaic.TcCoe Idealize.SL.Sem Cert.Proof.Reads Cert.Proof.Values
open Cert.Kernel3Ideal Cert.Kernel3Ideal.Gen

/-! ## The stores -/

section
variable {F : FTy → Type} [FloatOps F]
variable {sg : RefSig} (arg2 : Memref sg .tc .vmem S1x2x32x32x1024 .bf16) (harg2 : arg2.IsWhole) (arg3 : Memref sg .tc .vmem S32x32x64 .bf16) (harg3 : arg3.IsWhole)
  (arg4 : Memref sg .tc .vmem S1x32x32x1024 .f32) (harg4 : arg4.IsWhole) (arg5 : Memref sg .tc .vmem S1x1024 .f32) (harg5 : arg5.IsWhole)
  (arg6 : Memref sg .tc .vmem S1024x1024 .bf16) (harg6 : arg6.IsWhole) (arg7 : Memref sg .tc .vmem S1024x1024 .bf16) (harg7 : arg7.IsWhole)
  (arg8 : Memref sg .tc .vmem S1x1024 .f32) (harg8 : arg8.IsWhole) (arg9 : Memref sg .tc .vmem S1x32x32x1024 .f32) (harg9 : arg9.IsWhole)
  (arg10 : Memref sg .tc .vmem S32x32x1024 .f32) (harg10 : arg10.IsWhole)
  (x0 : Vec F S1x2x32x32x1024 .bf16) (x1 : Vec F S32x32x64 .bf16) (x2 : Vec F S1x32x32x1024 .f32) (x3 : Vec F S1x1024 .f32)
  (x4 : Vec F S1024x1024 .bf16) (x5 : Vec F S1024x1024 .bf16) (x6 : Vec F S1x1024 .f32)

/-- Half `h` (real, imaginary) of the first transform at position `n` of the tile. -/
def yAt (h : Fin 2) (n : Fin 32) : Vec F S1x1x1x32x1024 .bf16 :=
  View.readAt (Elt F) arg2.view (Rect.unit (s := S1x2x32x32x1024) ![0, h.val, n.val, 0, 0] S1x1x1x32x1024.size
    (by have := h.isLt; have := n.isLt; intro a; match a with
      | ⟨0, _⟩ => exact Nat.le_refl _
      | ⟨1, _⟩ => show h.val + 1 ≤ 2; omega
      | ⟨2, _⟩ => show n.val + 1 ≤ 32; omega
      | ⟨3, _⟩ => exact Nat.le_refl _
      | ⟨4, _⟩ => exact Nat.le_refl _)).toLoadRect (harg2.unread x0)

/-- The table at position `n` of the tile. -/
def tAt (n : Fin 32) : Vec F S1x32x64 .bf16 :=
  View.readAt (Elt F) arg3.view (Rect.unit (s := S32x32x64) ![n.val, 0, 0] S1x32x64.size
    (by have := n.isLt; intro a; match a with
      | ⟨0, _⟩ => show n.val + 1 ≤ 32; omega
      | ⟨1, _⟩ => exact Nat.le_refl _
      | ⟨2, _⟩ => exact Nat.le_refl _)).toLoadRect (harg3.unread x1)

/-- The product of position `n`. -/
def row (n : Fin 32) : FVec F S1x32x1024 .f32 :=
  k0_pay42 (k0_pay1 (yAt arg2 harg2 x0 0 n) (yAt arg2 harg2 x0 1 n) (tAt arg3 harg3 x1 n))

theorem stack_wf : Shape.Concatenates ((List.ofFn fun _ : Fin 32 => S1x32x1024)) S32x32x1024 0 := by decide

/-- The 32 products stacked, then turned so that the output's row comes first. -/
def stack (f : Fin 32 → FVec F S1x32x1024 .f32) : FVec F S32x32x1024 .f32 :=
  shapeCast S32x32x1024 (transpose S32x32x1024 [1, 0, 2]
    (concatenate S32x32x1024 0 (List.ofFn fun n : Fin 32 => (⟨S1x32x1024, f n⟩ : (s : Shape) × (s.Idx → F .f32))) (by rw [List.map_ofFn]; exact stack_wf))
    transposes_S32x32x1024_p1_0_2_S32x32x1024) shapeCasts_S32x32x1024_S32x32x1024

/-- The scratch array's one store. -/
def fL : List (View.Piece (Elt F) S32x32x1024 .f32) :=
  [⟨Rect.unit (s := S32x32x1024) ![0, 0, 0] S32x32x1024.size (by decide), stack (row arg2 harg2 arg3 harg3 x0 x1)⟩]

/-- The stores into the output's block. -/
def outL : List (View.Piece (Elt F) S1x32x32x1024 .f32) :=
  [⟨Rect.unit (s := S1x32x32x1024) ![0, 16, 0, 0] S1x16x32x1024.size (by decide),
    k0_pay64 (k0_pay61 (View.readAt (Elt F) arg4.view (Rect.unit (s := S1x32x32x1024) ![0, 16, 0, 0] S1x16x32x1024.size (by decide)).toLoadRect (harg4.unread x2)))
      (View.readAt (Elt F) arg5.view (Rect.unit (s := S1x1024) ![0, 0] S1x1024.size (by decide)).toLoadRect (harg5.unread x3))
      (k0_pay62 (View.readAt (Elt F) arg4.view (Rect.unit (s := S1x32x32x1024) ![0, 16, 0, 0] S1x16x32x1024.size (by decide)).toLoadRect (harg4.unread x2)))
      k0_pay63
      (View.readAt (Elt F) arg6.view (Rect.unit (s := S1024x1024) ![0, 0] S1024x1024.size (by decide)).toLoadRect (harg6.unread x4))
      (arg10.view.readCov (fL arg2 harg2 arg3 harg3 x0 x1) (Rect.unit (s := S32x32x1024) ![16, 0, 0] S16x32x1024.size (by decide)).toLoadRect)
      (View.readAt (Elt F) arg7.view (Rect.unit (s := S1024x1024) ![0, 0] S1024x1024.size (by decide)).toLoadRect (harg7.unread x5))
      (View.readAt (Elt F) arg8.view (Rect.unit (s := S1x1024) ![0, 0] S1x1024.size (by decide)).toLoadRect (harg8.unread x6))⟩,
   ⟨Rect.unit (s := S1x32x32x1024) ![0, 0, 0, 0] S1x16x32x1024.size (by decide),
    k0_pay60 (k0_pay57 (View.readAt (Elt F) arg4.view (Rect.unit (s := S1x32x32x1024) ![0, 0, 0, 0] S1x16x32x1024.size (by decide)).toLoadRect (harg4.unread x2)))
      (k0_pay58 (View.readAt (Elt F) arg4.view (Rect.unit (s := S1x32x32x1024) ![0, 0, 0, 0] S1x16x32x1024.size (by decide)).toLoadRect (harg4.unread x2))
        (View.readAt (Elt F) arg5.view (Rect.unit (s := S1x1024) ![0, 0] S1x1024.size (by decide)).toLoadRect (harg5.unread x3))
        (View.readAt (Elt F) arg6.view (Rect.unit (s := S1024x1024) ![0, 0] S1024x1024.size (by decide)).toLoadRect (harg6.unread x4)))
      k0_pay59
      (arg10.view.readCov (fL arg2 harg2 arg3 harg3 x0 x1) (Rect.unit (s := S32x32x1024) ![0, 0, 0] S16x32x1024.size (by decide)).toLoadRect)
      (View.readAt (Elt F) arg7.view (Rect.unit (s := S1024x1024) ![0, 0] S1024x1024.size (by decide)).toLoadRect (harg7.unread x5))
      (View.readAt (Elt F) arg8.view (Rect.unit (s := S1x1024) ![0, 0] S1x1024.size (by decide)).toLoadRect (harg8.unread x6))⟩]

end

section
variable {F : FTy → Type} [FloatOps F]
variable (arg2 : Memref sig .tc .vmem S1x2x32x32x1024 .bf16) (harg2 : arg2.IsWhole) (arg3 : Memref sig .tc .vmem S32x32x64 .bf16) (harg3 : arg3.IsWhole)
  (arg4 : Memref sig .tc .vmem S1x32x32x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x32x32x1024 .f32) (harg9 : arg9.IsWhole)
  (arg10 : Memref sig .tc .vmem S32x32x1024 .f32) (harg10 : arg10.IsWhole)
  (x0 : Vec F S1x2x32x32x1024 .bf16) (x1 : Vec F S32x32x64 .bf16) (x2 : Vec F S1x32x32x1024 .f32) (x3 : Vec F S1x1024 .f32)
  (x4 : Vec F S1024x1024 .bf16) (x5 : Vec F S1024x1024 .bf16) (x6 : Vec F S1x1024 .f32)

set_option maxRecDepth 65536 in
/-- The output stores of the kernel's body are those of the lists above. -/
theorem run_eq (c : Dev nD) (i : grid0.Coords) :
    (kernelRun0_A (F := F) c i arg2 harg2 arg3 harg3 arg4 harg4 arg5 harg5 arg6 harg6 arg7 harg7 arg8 harg8 arg9 harg9 arg10 harg10 x0 x1 x2 x3 x4 x5 x6).1
      = outL arg2 harg2 arg3 harg3 arg4 harg4 arg5 harg5 arg6 harg6 arg7 harg7 arg8 harg8 arg10 x0 x1 x2 x3 x4 x5 x6 := by
  sl_kernel_rfl
end

/-! ## Arrays of rank four and five by natural-number coordinates -/

/-- A rank-four array at four natural numbers. -/
def at4 {a b c d : ℕ} (X : (⟨4, ![a, b, c, d]⟩ : Shape).Idx → EReal) (p q r s : ℕ) : EReal :=
  if h : p < a ∧ q < b ∧ r < c ∧ s < d then X (ix4 ⟨p, h.1⟩ ⟨q, h.2.1⟩ ⟨r, h.2.2.1⟩ ⟨s, h.2.2.2⟩) else 0

/-- A rank-five array at five natural numbers. -/
def at5 {a b c d e : ℕ} (X : (⟨5, ![a, b, c, d, e]⟩ : Shape).Idx → EReal) (p q r s t : ℕ) : EReal :=
  if h : p < a ∧ q < b ∧ r < c ∧ s < d ∧ t < e then X (ix5 ⟨p, h.1⟩ ⟨q, h.2.1⟩ ⟨r, h.2.2.1⟩ ⟨s, h.2.2.2.1⟩ ⟨t, h.2.2.2.2⟩) else 0

theorem to4 {a b c d : ℕ} (X : (⟨4, ![a, b, c, d]⟩ : Shape).Idx → EReal) (p : Fin a) (q : Fin b) (r : Fin c) (s : Fin d) :
    X (ix4 p q r s) = at4 X p.val q.val r.val s.val := by
  rw [at4, dif_pos ⟨p.isLt, q.isLt, r.isLt, s.isLt⟩]

theorem to5 {a b c d e : ℕ} (X : (⟨5, ![a, b, c, d, e]⟩ : Shape).Idx → EReal) (p : Fin a) (q : Fin b) (r : Fin c) (s : Fin d) (t : Fin e) :
    X (ix5 p q r s t) = at5 X p.val q.val r.val s.val t.val := by
  rw [at5, dif_pos ⟨p.isLt, q.isLt, r.isLt, s.isLt, t.isLt⟩]

theorem idx4 {a b c d : ℕ} (X : (⟨4, ![a, b, c, d]⟩ : Shape).Idx → EReal) (y : (⟨4, ![a, b, c, d]⟩ : Shape).Idx) :
    X y = at4 X (y 0).val (y 1).val (y 2).val (y 3).val := by
  conv_lhs => rw [eq_ix4 y]
  exact to4 X _ _ _ _

theorem idx5 {a b c d e : ℕ} (X : (⟨5, ![a, b, c, d, e]⟩ : Shape).Idx → EReal) (y : (⟨5, ![a, b, c, d, e]⟩ : Shape).Idx) :
    X y = at5 X (y 0).val (y 1).val (y 2).val (y 3).val (y 4).val := by
  conv_lhs => rw [eq_ix5 y]
  exact to5 X _ _ _ _ _

section
variable {sig : RefSig} {sp : Space} {s : Shape} {e : EltTy}

/-- A covered read of a list at an index is the list's value there. -/
theorem cov_at [∀ e, Nonempty (Elt Ideal e)] (v : View sig .tc sp s e) (L : List (View.Piece (Elt Ideal) s e)) (r : Rect s) (j : r.shape.Idx) :
    v.readCov L r.toLoadRect j = View.canon L (r.emb j) := by
  rw [View.readCov_eq_canon']; rfl

/-- A read of a whole buffer's contents at an index. -/
theorem whole_at (m : Memref sig .tc sp s e) (hm : m.IsWhole) (X : s.Idx → Elt Ideal e) (r : Rect s) (j : r.shape.Idx) :
    View.readAt (Elt Ideal) m.view r.toLoadRect (hm.unread X) j = X (r.emb j) := by
  rw [View.readAt_eq_ld]
  show (m.view.read (Elt Ideal) (hm.unread X)) _ = _
  rw [hm.read_unread]; rfl
end

/-- A read of the whole of a matrix. -/
theorem whole2 {sig : RefSig} {sp : Space} {a b : ℕ} {e : EltTy} (m : Memref sig .tc sp ⟨2, ![a, b]⟩ e) (hm : m.IsWhole) (X : (⟨2, ![a, b]⟩ : Shape).Idx → Elt Ideal e)
    (inb : ∀ i, (![0, 0] : Fin 2 → ℕ) i + (![a, b] : Fin 2 → ℕ) i ≤ (⟨2, ![a, b]⟩ : Shape).size i) :
    View.readAt (Elt Ideal) m.view (Rect.unit (s := ⟨2, ![a, b]⟩) ![0, 0] ![a, b] inb).toLoadRect (hm.unread X) = X := by
  funext j
  rw [whole_at m hm X]
  congr 1
  funext k
  apply Fin.ext
  match k with
  | ⟨0, _⟩ => show 0 + 1 * (j 0).val = (j 0).val; omega
  | ⟨1, _⟩ => show 0 + 1 * (j 1).val = (j 1).val; omega

/-- A store into the output's block whose payload is a block of the function `g` of the last three coordinates. -/
theorem piece4 {o n R J : ℕ} {g : ℕ → ℕ → ℕ → EReal} {w : (⟨4, ![1, n, J, 1024]⟩ : Shape).Idx → EReal}
    (inb : ∀ i, (![0, o, 0, 0] : Fin 4 → ℕ) i + (![1, n, J, 1024] : Fin 4 → ℕ) i ≤ (⟨4, ![1, R, J, 1024]⟩ : Shape).size i)
    (h : ∀ (p : Fin 1) (q : Fin n) (r : Fin J) (s : Fin 1024), w (ix4 p q r s) = g (o + q.val) r.val s.val) (x : (⟨4, ![1, n, J, 1024]⟩ : Shape).Idx) :
    w x = g ((Rect.unit (s := ⟨4, ![1, R, J, 1024]⟩) ![0, o, 0, 0] ![1, n, J, 1024] inb).emb x 1).val ((Rect.unit (s := ⟨4, ![1, R, J, 1024]⟩) ![0, o, 0, 0] ![1, n, J, 1024] inb).emb x 2).val
      ((Rect.unit (s := ⟨4, ![1, R, J, 1024]⟩) ![0, o, 0, 0] ![1, n, J, 1024] inb).emb x 3).val := by
  conv_lhs => rw [eq_ix4 (n0 := 1) (n1 := n) (n2 := J) (n3 := 1024) x]
  refine (h _ _ _ _).trans ?_
  show _ = g (o + 1 * _) (0 + 1 * _) (0 + 1 * _)
  simp only [Nat.one_mul, Nat.zero_add]

/-! ## The functions -/

/-- The second half of the transform: the real half of the table on the real half of the data, and the imaginary halves. -/
def fF (N : ℕ) (t : ℕ → ℕ → EReal) (y : ℕ → ℕ → ℕ → EReal) (m d : ℕ) : EReal :=
  (∑ n : Fin N, t m n.val * y 0 n.val d) + ∑ n : Fin N, t m (N + n.val) * y 1 n.val d

/-- One row of the layer's result before its last norm. -/
def preF (x f : ℕ → EReal) (g wg wo : ℕ → ℕ → EReal) (d : ℕ) : EReal := outF (fun _ => x) g wg wo (fun _ => f) 0 d

/-- One row of the last norm. -/
def normF (v : ℕ → EReal) (gl : ℕ → ℕ → EReal) (d : ℕ) : EReal :=
  v d * Ideal.rsqrt (Ideal.div (∑ e : Fin 1024, v e.val * v e.val) (Ideal.ofBits .f32 0x44800000#32) + Ideal.ofBits .f32 0x358637BD#32) * gl 0 d

theorem preF_congr {x x' f f' : ℕ → EReal} (g wg wo : ℕ → ℕ → EReal) (hx : ∀ e, e < 1024 → x e = x' e) (hf : ∀ e, e < 1024 → f e = f' e) (d : ℕ) (hd : d < 1024) :
    preF x f g wg wo d = preF x' f' g wg wo d := by
  unfold preF outF
  show x d + _ = x' d + _
  rw [hx d hd]
  congr 1
  refine Finset.sum_congr rfl fun e _ => ?_
  show f e.val * _ * _ = f' e.val * _ * _
  rw [hf e.val e.isLt, gF_row (fun _ => x) (fun _ => x') g wg g wg 0 0 e.val (fun k hk => hx k hk) (fun _ _ => rfl) (fun _ _ => rfl)]

theorem normF_congr {v v' : ℕ → EReal} (gl : ℕ → ℕ → EReal) (hv : ∀ e, e < 1024 → v e = v' e) (d : ℕ) (hd : d < 1024) : normF v gl d = normF v' gl d := by
  unfold normF
  rw [hv d hd, Finset.sum_congr rfl fun (e : Fin 1024) _ => by rw [hv e.val e.isLt]]

/-! ## The payloads -/

theorem row_apply (y0 y1 : Vec Ideal S1x1x1x32x1024 .bf16) (t : Vec Ideal S1x32x64 .bf16) (a : Fin 1) (m : Fin 32) (d : Fin 1024) :
    k0_pay42 (F := Ideal) (k0_pay1 y0 y1 t) (ix3 a m d)
      = fF 32 (at3 (a := 1) (b := 32) (c := 64) t 0)
          (fun h n d => if h = 0 then at5 (a := 1) (b := 1) (c := 1) (d := 32) (e := 1024) y0 0 0 0 n d else at5 (a := 1) (b := 1) (c := 1) (d := 32) (e := 1024) y1 0 0 0 n d) m.val d.val := by
  pointwise [k0_pay42, k0_pay1]
  simp only [to3 (a := 1) (b := 32) (c := 64) t, to5 (a := 1) (b := 1) (c := 1) (d := 32) (e := 1024) y0, to5 (a := 1) (b := 1) (c := 1) (d := 32) (e := 1024) y1]
  rfl

theorem stack_apply (f : Fin 32 → FVec Ideal S1x32x1024 .f32) (m j : Fin 32) (d : Fin 1024) : stack (F := Ideal) f (ix3 m j d) = f j (ix3 0 m d) := by
  pointwise [stack]

theorem pay60_apply (X : Vec Ideal S1x16x32x1024 .f32) (g gl : Vec Ideal S1x1024 .f32) (wg wo : Vec Ideal S1024x1024 .bf16) (f : Vec Ideal S16x32x1024 .f32)
    (a : Fin 1) (m : Fin 16) (j : Fin 32) (d : Fin 1024) :
    k0_pay60 (F := Ideal) (k0_pay57 X) (k0_pay58 X g wg) k0_pay59 f wo gl (ix4 a m j d)
      = normF (preF (at4 (a := 1) (b := 16) (c := 32) (d := 1024) X 0 m.val j.val) (at3 (a := 16) (b := 32) (c := 1024) f m.val j.val) (at2 (a := 1) (b := 1024) g)
          (at2 (a := 1024) (b := 1024) wg) (at2 (a := 1024) (b := 1024) wo)) (at2 (a := 1) (b := 1024) gl) d.val := by
  pointwise [k0_pay60, k0_pay57, k0_pay58, k0_pay59]
  simp only [to4 (a := 1) (b := 16) (c := 32) (d := 1024) X, to3 (a := 16) (b := 32) (c := 1024) f, to2 (a := 1) (b := 1024) g, to2 (a := 1) (b := 1024) gl,
    to2 (a := 1024) (b := 1024) wg, to2 (a := 1024) (b := 1024) wo]
  rfl

theorem pay64_apply (X : Vec Ideal S1x16x32x1024 .f32) (g gl : Vec Ideal S1x1024 .f32) (wg wo : Vec Ideal S1024x1024 .bf16) (f : Vec Ideal S16x32x1024 .f32)
    (a : Fin 1) (m : Fin 16) (j : Fin 32) (d : Fin 1024) :
    k0_pay64 (F := Ideal) (k0_pay61 X) g (k0_pay62 X) k0_pay63 wg f wo gl (ix4 a m j d)
      = normF (preF (at4 (a := 1) (b := 16) (c := 32) (d := 1024) X 0 m.val j.val) (at3 (a := 16) (b := 32) (c := 1024) f m.val j.val) (at2 (a := 1) (b := 1024) g)
          (at2 (a := 1024) (b := 1024) wg) (at2 (a := 1024) (b := 1024) wo)) (at2 (a := 1) (b := 1024) gl) d.val := by
  pointwise [k0_pay64, k0_pay61, k0_pay62, k0_pay63]
  simp only [to4 (a := 1) (b := 16) (c := 32) (d := 1024) X, to3 (a := 16) (b := 32) (c := 1024) f, to2 (a := 1) (b := 1024) g, to2 (a := 1) (b := 1024) gl,
    to2 (a := 1024) (b := 1024) wg, to2 (a := 1024) (b := 1024) wo]
  rfl

/-! ## One grid point -/

section
variable {sg : RefSig} (arg2 : Memref sg .tc .vmem S1x2x32x32x1024 .bf16) (harg2 : arg2.IsWhole) (arg3 : Memref sg .tc .vmem S32x32x64 .bf16) (harg3 : arg3.IsWhole)
  (arg4 : Memref sg .tc .vmem S1x32x32x1024 .f32) (harg4 : arg4.IsWhole) (arg5 : Memref sg .tc .vmem S1x1024 .f32) (harg5 : arg5.IsWhole)
  (arg6 : Memref sg .tc .vmem S1024x1024 .bf16) (harg6 : arg6.IsWhole) (arg7 : Memref sg .tc .vmem S1024x1024 .bf16) (harg7 : arg7.IsWhole)
  (arg8 : Memref sg .tc .vmem S1x1024 .f32) (harg8 : arg8.IsWhole) (arg9 : Memref sg .tc .vmem S1x32x32x1024 .f32) (harg9 : arg9.IsWhole)
  (arg10 : Memref sg .tc .vmem S32x32x1024 .f32) (harg10 : arg10.IsWhole)
  (x0 : Vec Ideal S1x2x32x32x1024 .bf16) (x1 : Vec Ideal S32x32x64 .bf16) (x2 : Vec Ideal S1x32x32x1024 .f32) (x3 : Vec Ideal S1x1024 .f32)
  (x4 : Vec Ideal S1024x1024 .bf16) (x5 : Vec Ideal S1024x1024 .bf16) (x6 : Vec Ideal S1x1024 .f32)

theorem yAt_eq (h : Fin 2) (j : Fin 32) (n d : ℕ) (hn : n < 32) (hd : d < 1024) :
    at5 (a := 1) (b := 1) (c := 1) (d := 32) (e := 1024) (yAt arg2 harg2 x0 h j) 0 0 0 n d = at5 (a := 1) (b := 2) (c := 32) (d := 32) (e := 1024) x0 0 h.val j.val n d := by
  rw [at5, dif_pos ⟨by omega, by omega, by omega, hn, hd⟩, yAt, whole_at arg2 harg2 x0, idx5 (a := 1) (b := 2) (c := 32) (d := 32) (e := 1024) x0]
  show at5 (a := 1) (b := 2) (c := 32) (d := 32) (e := 1024) x0 (0 + 1 * 0) (h.val + 1 * 0) (j.val + 1 * 0) (0 + 1 * n) (0 + 1 * d) = _
  congr 1 <;> omega

theorem tAt_eq (j : Fin 32) (m n : ℕ) (hm : m < 32) (hn : n < 64) :
    at3 (a := 1) (b := 32) (c := 64) (tAt arg3 harg3 x1 j) 0 m n = at3 (a := 32) (b := 32) (c := 64) x1 j.val m n := by
  rw [at3, dif_pos ⟨by omega, hm, hn⟩, tAt, whole_at arg3 harg3 x1, idx3 (a := 32) (b := 32) (c := 64) x1]
  show at3 (a := 32) (b := 32) (c := 64) x1 (j.val + 1 * 0) (0 + 1 * m) (0 + 1 * n) = _
  congr 1 <;> omega

/-- The tile's transform at row `m`, position `j`. -/
def tileF (m j d : ℕ) : EReal :=
  fF 32 (at3 (a := 32) (b := 32) (c := 64) x1 j) (fun h => at5 (a := 1) (b := 2) (c := 32) (d := 32) (e := 1024) x0 0 h j) m d

theorem stack_row (m j : Fin 32) (d : Fin 1024) : stack (F := Ideal) (row arg2 harg2 arg3 harg3 x0 x1) (ix3 m j d) = tileF x0 x1 m.val j.val d.val := by
  rw [stack_apply]
  refine (row_apply (yAt arg2 harg2 x0 0 j) (yAt arg2 harg2 x0 1 j) (tAt arg3 harg3 x1 j) _ _ _).trans ?_
  rw [tileF, fF, fF]
  exact congrArg₂ (· + ·)
    (Finset.sum_congr rfl fun n _ => by rw [tAt_eq _ _ _ _ _ _ m.isLt (by omega), if_pos rfl, yAt_eq _ _ _ _ _ _ _ n.isLt d.isLt]; rfl)
    (Finset.sum_congr rfl fun n _ => by rw [tAt_eq _ _ _ _ _ _ m.isLt (by omega), if_neg (by decide), yAt_eq _ _ _ _ _ _ _ n.isLt d.isLt]; rfl)

theorem f_canon (y : S32x32x1024.Idx) : View.canon (fL (F := Ideal) arg2 harg2 arg3 harg3 x0 x1) y = tileF x0 x1 (y 0).val (y 1).val (y 2).val := by
  rw [fL, View.canon_cons_unit_lit _ _ _ (by decide)]
  exact (congrArg _ (eq_ix3 (n0 := 32) (n1 := 32) (n2 := 1024) y)).trans (stack_row arg2 harg2 arg3 harg3 x0 x1 _ _ _)

/-- The tile's result at row `m`, position `j`. -/
def tileR (m j d : ℕ) : EReal :=
  normF (preF (at4 (a := 1) (b := 32) (c := 32) (d := 1024) x2 0 m j) (tileF x0 x1 m j) (at2 (a := 1) (b := 1024) x3)
          (at2 (a := 1024) (b := 1024) x4) (at2 (a := 1024) (b := 1024) x5)) (at2 (a := 1) (b := 1024) x6) d

theorem xAt4 (o : ℕ) (inb : ∀ i, (![0, o, 0, 0] : Fin 4 → ℕ) i + (![1, 16, 32, 1024] : Fin 4 → ℕ) i ≤ S1x32x32x1024.size i) (q r s : ℕ) (hq : q < 16) (hr : r < 32) (hs : s < 1024) :
    at4 (a := 1) (b := 16) (c := 32) (d := 1024) (View.readAt (Elt Ideal) arg4.view (Rect.unit (s := S1x32x32x1024) ![0, o, 0, 0] ![1, 16, 32, 1024] inb).toLoadRect (harg4.unread x2)) 0 q r s
      = at4 (a := 1) (b := 32) (c := 32) (d := 1024) x2 0 (o + q) r s := by
  rw [at4, dif_pos ⟨by omega, hq, hr, hs⟩, whole_at arg4 harg4 x2, idx4 (a := 1) (b := 32) (c := 32) (d := 1024) x2]
  show at4 (a := 1) (b := 32) (c := 32) (d := 1024) x2 (0 + 1 * 0) (o + 1 * q) (0 + 1 * r) (0 + 1 * s) = _
  congr 1 <;> omega

theorem fAt3 (o : ℕ) (inb : ∀ i, (![o, 0, 0] : Fin 3 → ℕ) i + (![16, 32, 1024] : Fin 3 → ℕ) i ≤ S32x32x1024.size i) (q r s : ℕ) (hq : q < 16) (hr : r < 32) (hs : s < 1024) :
    at3 (a := 16) (b := 32) (c := 1024) (arg10.view.readCov (fL (F := Ideal) arg2 harg2 arg3 harg3 x0 x1) (Rect.unit (s := S32x32x1024) ![o, 0, 0] ![16, 32, 1024] inb).toLoadRect) q r s
      = tileF x0 x1 (o + q) r s := by
  rw [at3, dif_pos ⟨hq, hr, hs⟩, cov_at, f_canon]
  show tileF x0 x1 (o + 1 * q) (0 + 1 * r) (0 + 1 * s) = _
  simp only [Nat.one_mul, Nat.zero_add]

/-- The stores into the output's block at an index of it. -/
theorem out_canon (y : S1x32x32x1024.Idx) :
    View.canon (outL (F := Ideal) arg2 harg2 arg3 harg3 arg4 harg4 arg5 harg5 arg6 harg6 arg7 harg7 arg8 harg8 arg10 x0 x1 x2 x3 x4 x5 x6) y
      = tileR x0 x1 x2 x3 x4 x5 x6 (y 1).val (y 2).val (y 3).val := by
  refine canon_eq (e := .f32) (fun y => tileR x0 x1 x2 x3 x4 x5 x6 (y 1).val (y 2).val (y 3).val) _ ?_ y ?_
  · intro p hp
    simp only [outL, List.mem_cons, List.not_mem_nil, or_false] at hp
    rcases hp with rfl | rfl
    · refine piece4 (n := 16) (R := 32) (J := 32) (g := tileR x0 x1 x2 x3 x4 x5 x6) (by decide) fun p q r s => ?_
      dsimp only
      refine (pay64_apply _ _ _ _ _ _ _ _ _ _).trans ?_
      rw [tileR, whole2 arg5 harg5 x3, whole2 arg6 harg6 x4, whole2 arg7 harg7 x5, whole2 arg8 harg8 x6]
      refine normF_congr _ (fun e he => preF_congr _ _ _ (fun k hk => ?_) (fun k hk => ?_) e he) _ s.isLt
      · exact xAt4 arg4 harg4 x2 _ _ _ _ _ q.isLt r.isLt hk
      · exact fAt3 arg2 harg2 arg3 harg3 arg10 x0 x1 _ _ _ _ _ q.isLt r.isLt hk
    · refine piece4 (n := 16) (R := 32) (J := 32) (g := tileR x0 x1 x2 x3 x4 x5 x6) (by decide) fun p q r s => ?_
      dsimp only
      refine (pay60_apply _ _ _ _ _ _ _ _ _ _).trans ?_
      rw [tileR, whole2 arg5 harg5 x3, whole2 arg6 harg6 x4, whole2 arg7 harg7 x5, whole2 arg8 harg8 x6]
      refine normF_congr _ (fun e he => preF_congr _ _ _ (fun k hk => ?_) (fun k hk => ?_) e he) _ s.isLt
      · exact xAt4 arg4 harg4 x2 _ _ _ _ _ q.isLt r.isLt hk
      · exact fAt3 arg2 harg2 arg3 harg3 arg10 x0 x1 _ _ _ _ _ q.isLt r.isLt hk
  · have h0 : (y 0).val < 1 := (y 0).isLt
    have h1 : (y 1).val < 32 := (y 1).isLt
    have h2 : (y 2).val < 32 := (y 2).isLt
    have h3 : (y 3).val < 1024 := (y 3).isLt
    simp only [outL, List.exists_mem_cons_iff]
    by_cases ha : (y 1).val < 16
    · right; left
      rw [Rect.mem_set_unit]
      intro a
      match a with
      | ⟨0, _⟩ => exact ⟨Nat.zero_le _, h0⟩
      | ⟨1, _⟩ => exact ⟨Nat.zero_le _, ha⟩
      | ⟨2, _⟩ => exact ⟨Nat.zero_le _, h2⟩
      | ⟨3, _⟩ => exact ⟨Nat.zero_le _, h3⟩
    · left
      rw [Rect.mem_set_unit]
      intro a
      match a with
      | ⟨0, _⟩ => exact ⟨Nat.zero_le _, h0⟩
      | ⟨1, _⟩ => exact ⟨Nat.le_of_not_lt ha, h1⟩
      | ⟨2, _⟩ => exact ⟨Nat.zero_le _, h2⟩
      | ⟨3, _⟩ => exact ⟨Nat.zero_le _, h3⟩
end

section
variable (arg2 : Memref sig .tc .vmem S1x2x32x32x1024 .bf16) (harg2 : arg2.IsWhole) (arg3 : Memref sig .tc .vmem S32x32x64 .bf16) (harg3 : arg3.IsWhole)
  (arg4 : Memref sig .tc .vmem S1x32x32x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x32x32x1024 .f32) (harg9 : arg9.IsWhole)
  (arg10 : Memref sig .tc .vmem S32x32x1024 .f32) (harg10 : arg10.IsWhole)
  (x0 : Vec Ideal S1x2x32x32x1024 .bf16) (x1 : Vec Ideal S32x32x64 .bf16) (x2 : Vec Ideal S1x32x32x1024 .f32) (x3 : Vec Ideal S1x1024 .f32)
  (x4 : Vec Ideal S1024x1024 .bf16) (x5 : Vec Ideal S1024x1024 .bf16) (x6 : Vec Ideal S1x1024 .f32)

/-- What one grid point leaves in its output block. -/
theorem tile_apply (c : Dev nD) (i : grid0.Coords) (y : S1x32x32x1024.Idx) :
    out0_A_7 (F := Ideal) c i arg2 harg2 arg3 harg3 arg4 harg4 arg5 harg5 arg6 harg6 arg7 harg7 arg8 harg8 arg9 harg9 arg10 harg10 x0 x1 x2 x3 x4 x5 x6 y
      = tileR x0 x1 x2 x3 x4 x5 x6 (y 1).val (y 2).val (y 3).val := by
  rw [out0_A_7, View.read_writes_junk_eq_canon, run_eq]
  exact out_canon arg2 harg2 arg3 harg3 arg4 harg4 arg5 harg5 arg6 harg6 arg7 harg7 arg8 harg8 arg10 x0 x1 x2 x3 x4 x5 x6 y
end

/-! ## The whole array -/

variable (m : (ℓ : Loc nD τ sig) → Buf (Elt Ideal) ℓ)

theorem index0 : ∀ t : Fin cfg0.N, win0_0.index t = ![(grid0.coords t 0).val, 0, (grid0.coords t 1).val, 0, 0] := (by decide +kernel : ∀ t : Fin grid0.N, _)
theorem index1 : ∀ t : Fin cfg0.N, win0_1.index t = ![(grid0.coords t 1).val, 0, 0] := (by decide +kernel : ∀ t : Fin grid0.N, _)
theorem index2 : ∀ t : Fin cfg0.N, win0_2.index t = ![(grid0.coords t 0).val, 0, (grid0.coords t 1).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![(grid0.coords t 0).val, 0, (grid0.coords t 1).val, 0] := (by decide +kernel : ∀ t : Fin grid0.N, _)

theorem block0 (c : Dev nD) (t : Fin cfg0.N) (h j n d : ℕ) (hh : h < 2) (hj : j < 32) (hn : n < 32) (hd : d < 1024) :
    at5 (a := 1) (b := 2) (c := 32) (d := 32) (e := 1024) (iblk (F := Ideal) m c 0 t) 0 h j n d
      = at5 (a := 4) (b := 2) (c := 128) (d := 32) (e := 1024) (m ((c : Thread nD τ).loc main_arg0)) (grid0.coords t 0).val h ((grid0.coords t 1).val * 32 + j) n d := by
  have hb : (grid0.coords t 0).val < 4 := (grid0.coords t 0).isLt
  have hi : (grid0.coords t 1).val < 4 := (grid0.coords t 1).isLt
  rw [at5, dif_pos ⟨by omega, hh, hj, hn, hd⟩, at5, dif_pos ⟨hb, hh, by omega, hn, hd⟩]
  blk_ext [iblk, V, index0]

theorem block1 (c : Dev nD) (t : Fin cfg0.N) (j k n : ℕ) (hj : j < 32) (hk : k < 32) (hn : n < 64) :
    at3 (a := 32) (b := 32) (c := 64) (iblk (F := Ideal) m c 1 t) j k n
      = at3 (a := 128) (b := 32) (c := 64) (m ((c : Thread nD τ).loc main_arg1)) ((grid0.coords t 1).val * 32 + j) k n := by
  have hi : (grid0.coords t 1).val < 4 := (grid0.coords t 1).isLt
  rw [at3, dif_pos ⟨hj, hk, hn⟩, at3, dif_pos ⟨by omega, hk, hn⟩]
  blk_ext [iblk, V, index1]

theorem block2 (c : Dev nD) (t : Fin cfg0.N) (k j d : ℕ) (hk : k < 32) (hj : j < 32) (hd : d < 1024) :
    at4 (a := 1) (b := 32) (c := 32) (d := 1024) (iblk (F := Ideal) m c 2 t) 0 k j d
      = at4 (a := 4) (b := 32) (c := 128) (d := 1024) (m ((c : Thread nD τ).loc main_arg2)) (grid0.coords t 0).val k ((grid0.coords t 1).val * 32 + j) d := by
  have hb : (grid0.coords t 0).val < 4 := (grid0.coords t 0).isLt
  have hi : (grid0.coords t 1).val < 4 := (grid0.coords t 1).isLt
  rw [at4, dif_pos ⟨by omega, hk, hj, hd⟩, at4, dif_pos ⟨hb, hk, by omega, hd⟩]
  blk_ext [iblk, V, index2]

theorem block3 (c : Dev nD) (t : Fin cfg0.N) : iblk (F := Ideal) m c 3 t = m ((c : Thread nD τ).loc main_arg3) := by
  funext y
  rw [iblk]
  blk_simp
  congr 1
  blk_ext [index3]

theorem block4 (c : Dev nD) (t : Fin cfg0.N) : iblk (F := Ideal) m c 4 t = m ((c : Thread nD τ).loc main_arg4) := by
  funext y
  rw [iblk]
  blk_simp
  congr 1
  blk_ext [index4]

theorem block5 (c : Dev nD) (t : Fin cfg0.N) : iblk (F := Ideal) m c 5 t = m ((c : Thread nD τ).loc main_arg5) := by
  funext y
  rw [iblk]
  blk_simp
  congr 1
  blk_ext [index5]

theorem block6 (c : Dev nD) (t : Fin cfg0.N) : iblk (F := Ideal) m c 6 t = m ((c : Thread nD τ).loc main_arg6) := by
  funext y
  rw [iblk]
  blk_simp
  congr 1
  blk_ext [index6]

/-- The call's result at batch entry `b`, row `k`, position `j`, channel `d`. -/
def resK (y : (⟨5, ![4, 2, 128, 32, 1024]⟩ : Shape).Idx → EReal) (t : (⟨3, ![128, 32, 64]⟩ : Shape).Idx → EReal) (x : (⟨4, ![4, 32, 128, 1024]⟩ : Shape).Idx → EReal)
    (g : (⟨2, ![1, 1024]⟩ : Shape).Idx → EReal) (wg wo : (⟨2, ![1024, 1024]⟩ : Shape).Idx → EReal) (gl : (⟨2, ![1, 1024]⟩ : Shape).Idx → EReal) (b k j d : ℕ) : EReal :=
  normF (preF (at4 x b k j) (fF 32 (at3 t j) (fun h => at5 y b h j) k) (at2 g) (at2 wg) (at2 wo)) (at2 gl) d

/-- The output array after the run. -/
theorem final (c : Dev nD) : (dats (F := Ideal) m 0 c).arrAt 7 cfg0.N = fun j : S4x32x128x1024.Idx =>
    resK (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (j 0).val (j 1).val (j 2).val (j 3).val := by
  refine (dats m 0 c).arrAt_eq_of_covers 7 _ (by decide +kernel) fun t hf y => ?_
  have hb : (grid0.coords t 0).val < 4 := (grid0.coords t 0).isLt
  have hi : (grid0.coords t 1).val < 4 := (grid0.coords t 1).isLt
  have h0 : (y 0).val < 1 := (y 0).isLt
  have h1 : (y 1).val < 32 := (y 1).isLt
  have h2 : (y 2).val < 32 := (y 2).isLt
  have h3 : (y 3).val < 1024 := (y 3).isLt
  blk_simp [index7]
  rw [after0_7, outsAt0, tile_apply, block3, block4, block5, block6, tileR, resK]
  have hF : ∀ k, k < 1024 → tileF (iblk (F := Ideal) m c 0 t) (iblk (F := Ideal) m c 1 t) (y 1).val (y 2).val k
      = fF 32 (at3 (a := 128) (b := 32) (c := 64) (m ((c : Thread nD τ).loc main_arg1)) ((grid0.coords t 1).val * 32 + (y 2).val))
          (fun h => at5 (a := 4) (b := 2) (c := 128) (d := 32) (e := 1024) (m ((c : Thread nD τ).loc main_arg0)) (grid0.coords t 0).val h ((grid0.coords t 1).val * 32 + (y 2).val)) (y 1).val k := by
    intro k hk
    rw [tileF, fF, fF]
    exact congrArg₂ (· + ·)
      (Finset.sum_congr rfl fun n _ => by rw [block1 m c t _ _ _ h2 h1 (by omega), block0 m c t _ _ _ _ (by omega) h2 n.isLt hk])
      (Finset.sum_congr rfl fun n _ => by rw [block1 m c t _ _ _ h2 h1 (by omega), block0 m c t _ _ _ _ (by omega) h2 n.isLt hk])
  refine (normF_congr _ (fun e he => preF_congr _ _ _ (fun k hk => block2 m c t _ _ _ h1 h2 hk) hF e he) _ h3).trans ?_
  rfl

end Cert.Proof.Stage2

end
-- ==== Proof.Stage2Ref.lean ====
/- THE SECOND HALF OF THE DFT, the reference: its mixing sums, its gate, its residual and its last norm at one element, and the
   claim that the call and its reference end with the same array. -/
module

public import proofs.«01_k».proof.Pre_finite_gate
public import proofs.«01_k».proof.Defs
public import proofs.«01_k».proof.Proof.Pre
public import proofs.«01_k».proof.Proof.Stage2
public import proofs.«01_k».proof.Proof.Gen.Reference3Ideal.Read
public import proofs.«01_k».proof.Proof.Gen.Reference3Ideal.Run
public import proofs.«01_k».proof.Proof.Gen.Pre_finite_gate

@[expose] public section

noncomputable section

namespace Cert.Proof.Stage2

open Idealize.ShloMosaic Idealize.ShloMosaic.TcCoe Idealize.SL.Sem Cert.Proof.Reads Cert.Proof.Values

/-! ## What the precondition gives -/

section
open Cert.Pre_finite_gate

instance : Subsingleton Cert.Pre_finite_gate.S_.Idx := ⟨fun a b => funext fun i => i.elim0⟩

/-- The gate's three arrays hold real numbers. -/
theorem split_gate [Facts] {x0 x1 x2 x3 x4 x5 x6} (h : fn (F := Ideal) x0 x1 x2 x3 x4 x5 x6 = fun _ => 1#1) :
    (∀ i, x2 i = ((EReal.toReal (x2 i) : ℝ) : EReal)) ∧ (∀ i, x3 i = ((EReal.toReal (x3 i) : ℝ) : EReal))
      ∧ (∀ i, x4 i = ((EReal.toReal (x4 i) : ℝ) : EReal)) := by
  have e := congrFun h ix0
  dsimp only [fn] at e
  obtain ⟨e, e4⟩ := IntOp.andi_eq_one.1 e
  obtain ⟨e2, e3⟩ := IntOp.andi_eq_one.1 e
  exact ⟨fun i => Pre.real_of_abs (Host.reduce_andi_all _ _ _ _ _ e2 i), fun i => Pre.real_of_abs (Host.reduce_andi_all _ _ _ _ _ e3 i),
    fun i => Pre.real_of_abs (Host.reduce_andi_all _ _ _ _ _ e4 i)⟩
end

theorem at4_real {a b c d : ℕ} {X : (⟨4, ![a, b, c, d]⟩ : Shape).Idx → EReal} (h : ∀ i, X i = ((EReal.toReal (X i) : ℝ) : EReal)) (p q r s : ℕ) :
    at4 X p q r s = ((EReal.toReal (at4 X p q r s) : ℝ) : EReal) := by
  rw [at4]
  split
  · exact h _
  · simp

/-! ## The reference -/

section
open Cert.Reference3Ideal Cert.Reference3Ideal.Gen Cert.Reference3Ideal.Read

variable (x0 : (⟨S4x2x128x32x1024, .bf16⟩ : BufTy).Contents (Elt Ideal)) (x1 : (⟨S128x32x64, .bf16⟩ : BufTy).Contents (Elt Ideal))
  (x2 : (⟨S4x32x128x1024, .f32⟩ : BufTy).Contents (Elt Ideal)) (x3 : (⟨S1x1024, .f32⟩ : BufTy).Contents (Elt Ideal))
  (x4 x5 : (⟨S1024x1024, .bf16⟩ : BufTy).Contents (Elt Ideal)) (x6 : (⟨S1x1024, .f32⟩ : BufTy).Contents (Elt Ideal))

/-- The index of the first transform's slice, one unit axis dropped. -/
theorem split_index (b j n d : ℕ) (hj : j < 128) (hn : n < 32) (hd : d < 1024) :
    (((b * 128 + j) * 32 + n) * 1024 + d) / 4194304 = b ∧ (((b * 128 + j) * 32 + n) * 1024 + d) / 32768 % 128 = j
      ∧ (((b * 128 + j) * 32 + n) * 1024 + d) / 1024 % 32 = n ∧ (((b * 128 + j) * 32 + n) * 1024 + d) % 1024 = d := by
  refine ⟨?_, ?_, ?_, ?_⟩ <;> omega

/-- The reference's mixed rows. -/
theorem mix_at (j : S4x32x128x1024.Idx) : val_main_v12 (F := Ideal) x0 x1 j
    = fF 32 (at3 (a := 128) (b := 32) (c := 64) x1 (j 2).val) (fun h => at5 (a := 4) (b := 2) (c := 128) (d := 32) (e := 1024) x0 (j 0).val h (j 2).val) (j 1).val (j 3).val := by
  have hj : (j 2).val < 128 := (j 2).isLt
  have hd : (j 3).val < 1024 := (j 3).isLt
  rw [val_main_v12_apply, val_main_v6_apply, val_main_v11_apply, val_main_v5_apply, val_main_v10_apply, Ideal.addf_def, fF]
  refine congrArg₂ (· + ·) (Finset.sum_congr rfl fun n _ => ?_) (Finset.sum_congr rfl fun n _ => ?_)
  · obtain ⟨e0, e1, e2, e3⟩ := split_index (j 0).val (j 2).val n.val (j 3).val hj n.isLt hd
    rw [val_main_v4_apply, val_main_v3_apply, val_main_v0_apply, val_main_v2_apply, val_main_v1_apply, Ideal.extf_def, Ideal.extf_def, mul_comm,
      idx5 (a := 4) (b := 2) (c := 128) (d := 32) (e := 1024) x0, idx3 (a := 128) (b := 32) (c := 64) x1]
    refine congrArg₂ (· * ·) rfl ?_
    show at5 (a := 4) (b := 2) (c := 128) (d := 32) (e := 1024) x0 _ _ _ _ _ = _
    exact congr (congr (congr (congr (congrArg _ e0) rfl) e1) e2) e3
  · obtain ⟨e0, e1, e2, e3⟩ := split_index (j 0).val (j 2).val n.val (j 3).val hj n.isLt hd
    rw [val_main_v9_apply, val_main_v8_apply, val_main_v0_apply, val_main_v7_apply, val_main_v1_apply, Ideal.extf_def, Ideal.extf_def, mul_comm,
      idx5 (a := 4) (b := 2) (c := 128) (d := 32) (e := 1024) x0, idx3 (a := 128) (b := 32) (c := 64) x1]
    refine congrArg₂ (· * ·) rfl ?_
    show at5 (a := 4) (b := 2) (c := 128) (d := 32) (e := 1024) x0 _ _ _ _ _ = _
    exact congr (congr (congr (congr (congrArg _ e0) rfl) e1) e2) e3

/-- The reference's gate before its sigmoid. -/
theorem gate_at (j : S4x32x128x1024.Idx) : val_main_v28 (F := Ideal) x2 x3 x4 j
    = zF (fun _ => at4 (a := 4) (b := 32) (c := 128) (d := 1024) x2 (j 0).val (j 1).val (j 2).val) (at2 (a := 1) (b := 1024) x3) (at2 (a := 1024) (b := 1024) x4) 0 (j 3).val := by
  have e0 : (val_main_cst (F := Ideal) (Shape.Idx.first h_S_) : EReal) = 0 := by
    rw [val_main_cst_apply, Ideal.ofBits_def]
    simp
  rw [val_main_v28_apply]
  unfold zF
  refine Finset.sum_congr rfl fun e _ => ?_
  rw [val_main_v26_apply, val_main_v23_apply, val_main_v22_apply, val_main_v21_apply, val_main_v20_apply, val_main_v18_apply, val_main_v16_apply, val_main_v15_apply, e0, zero_add,
    val_main_v17_apply, val_main_cst_0_apply, val_main_v19_apply, val_main_cst_1_apply, val_main_v25_apply, val_main_v24_apply, val_main_v13_apply, val_main_v27_apply]
  simp only [val_main_v14_apply, Ideal.mulf_def, Ideal.addf_def, Ideal.hostDivf_def, Ideal.hostUnary_rsqrt_def, Ideal.extf_def, Ideal.ofBits_def,
    idx4 (a := 4) (b := 32) (c := 128) (d := 1024) x2, idx2 (a := 1) (b := 1024) x3, idx2 (a := 1024) (b := 1024) x4]
  have he : e.val % 1024 = e.val := Nat.mod_eq_of_lt e.isLt
  congr 2
  show at2 (a := 1) (b := 1024) x3 0 (e.val % 1024) = _
  rw [he]

/-- The reference's gate. -/
theorem silu_at (j : S4x32x128x1024.Idx) :
    val_main_v29 (F := Ideal) x2 x3 x4 j = val_main_v28 (F := Ideal) x2 x3 x4 j * Ideal.logistic (val_main_v28 (F := Ideal) x2 x3 x4 j) := by
  have e1 : Ideal.ofBits .f32 0x3F800000#32 = 1 := by simp
  rw [val_main_v29_apply, val_main_call0_v5_apply, val_main_call0_v4_apply, val_main_call0_cst_0_apply, val_main_call0_v3_apply, val_main_call0_v2_apply, val_main_call0_cst_apply,
    val_main_call0_v1_apply, val_main_call0_v0_apply, Ideal.ofBits_def, e1]
  rfl

variable (h2 : ∀ i, x2 i = ((EReal.toReal (x2 i) : ℝ) : EReal)) (h3 : ∀ i, x3 i = ((EReal.toReal (x3 i) : ℝ) : EReal))
  (h4 : ∀ i, x4 i = ((EReal.toReal (x4 i) : ℝ) : EReal))

include h2 h3 h4 in
/-- The reference's rows before the last norm. -/
theorem pre_at (j : S4x32x128x1024.Idx) : val_main_v33 (F := Ideal) x0 x1 x2 x3 x4 x5 j
    = preF (at4 (a := 4) (b := 32) (c := 128) (d := 1024) x2 (j 0).val (j 1).val (j 2).val)
        (fF 32 (at3 (a := 128) (b := 32) (c := 64) x1 (j 2).val) (fun h => at5 (a := 4) (b := 2) (c := 128) (d := 32) (e := 1024) x0 (j 0).val h (j 2).val) (j 1).val)
        (at2 (a := 1) (b := 1024) x3) (at2 (a := 1024) (b := 1024) x4) (at2 (a := 1024) (b := 1024) x5) (j 3).val := by
  rw [val_main_v33_apply, val_main_v32_apply, Ideal.addf_def, preF, outF]
  refine congrArg₂ (· + ·) (idx4 (a := 4) (b := 32) (c := 128) (d := 1024) x2 j) (Finset.sum_congr rfl fun e _ => ?_)
  rw [val_main_v30_apply, val_main_v31_apply, Ideal.mulf_def, Ideal.extf_def, mix_at, silu_at, gate_at, idx2 (a := 1024) (b := 1024) x5,
    gF_eq _ _ _ _ _ (Pre.gate_real (fun _ c => EReal.toReal (at4 (a := 4) (b := 32) (c := 128) (d := 1024) x2 (j 0).val (j 1).val (j 2).val c)) _ _
      (fun _ c => at4_real h2 _ _ _ c) (fun r c => Pre.at2_real h3 r c) (fun r c => Pre.at2_real h4 r c) 0 e.val)]

include h2 h3 h4 in
/-- The reference's result. -/
theorem ref_out : val_main_v47 (F := Ideal) x0 x1 x2 x3 x4 x5 x6 = fun j : S4x32x128x1024.Idx =>
    resK x0 x1 x2 x3 x4 x5 x6 (j 0).val (j 1).val (j 2).val (j 3).val := by
  funext j
  have e0 : (val_main_cst_2 (F := Ideal) (Shape.Idx.first h_S_) : EReal) = 0 := by
    rw [val_main_cst_2_apply, Ideal.ofBits_def]
    simp
  have he : (j 3).val % 1024 = (j 3).val := Nat.mod_eq_of_lt (j 3).isLt
  rw [val_main_v47_apply, val_main_v44_apply, val_main_v43_apply, val_main_v42_apply, val_main_v41_apply, val_main_v39_apply, val_main_v37_apply, val_main_v36_apply, e0, zero_add,
    val_main_v38_apply, val_main_cst_3_apply, val_main_v40_apply, val_main_cst_4_apply, val_main_v46_apply, val_main_v45_apply, val_main_v34_apply]
  simp only [val_main_v35_apply, Ideal.mulf_def, Ideal.addf_def, Ideal.hostDivf_def, Ideal.hostUnary_rsqrt_def, Ideal.ofBits_def,
    pre_at x0 x1 x2 x3 x4 x5 h2 h3 h4, idx2 (a := 1) (b := 1024) x6]
  rw [resK, normF]
  congr 1
  show at2 (a := 1) (b := 1024) x6 0 ((j 3).val % 1024) = _
  rw [he]
end

/-- The call and its reference end with the same array, from a memory where the gate's three arrays are finite. -/
theorem stage2 : Cert.algebraic_Kernel3Ideal_Reference3Ideal_pre_finite_gate := by
  intro m g m' g' hpre hagree
  refine ⟨fun c => (Cert.Kernel3Ideal.Gen.dats (F := Ideal) m 0 c).arrAt 7 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨a0, a1, a2, a3, a4, a5, a6⟩ := hagree c
  obtain ⟨h2, h3, h4⟩ := split_gate (hpre c)
  refine Eq.trans ?_ (final m c).symm
  rw [Cert.Reference3Ideal.Read.val_main_v47_eq, a0, a1, a2, a3, a4, a5, a6]
  exact ref_out _ _ _ _ _ _ _ h2 h3 h4

end Cert.Proof.Stage2

end
-- ==== Proof.Stage2Prompt.lean ====
/- THE SECOND HALF OF THE DFT AT THE PROMPT'S SHAPES: what one grid point stores. Its tile holds 8 positions of 128 rows; the functions
   of a row are those of Stage2. -/
module

public import proofs.«01_k».proof.Proof.Stage2
public import Idealize.ShloMosaic.Lib.Pipeline.ValueKit
public import proofs.«01_k».proof.Proof.Gen.Kernel5Ideal.Value

@[expose] public section

noncomputable section

namespace Cert.Proof.Stage2P

open Idealize.ShloMosaic Idealize.ShloMosaic.TcCoe Idealize.SL.Sem Cert.Proof.Reads Cert.Proof.Values
open Cert.Kernel5Ideal Cert.Kernel5Ideal.Gen
open Cert.Proof.Stage2 (at4 at5 to4 to5 idx4 idx5 cov_at whole_at whole2 piece4 fF preF normF preF_congr normF_congr)

/-! ## The stores -/

section
variable {F : FTy → Type} [FloatOps F]
variable {sg : RefSig} (arg2 : Memref sg .tc .vmem S1x2x8x128x1024 .bf16) (harg2 : arg2.IsWhole) (arg3 : Memref sg .tc .vmem S8x128x256 .bf16) (harg3 : arg3.IsWhole)
  (arg4 : Memref sg .tc .vmem S1x128x8x1024 .f32) (harg4 : arg4.IsWhole) (arg5 : Memref sg .tc .vmem S1x1024 .f32) (harg5 : arg5.IsWhole)
  (arg6 : Memref sg .tc .vmem S1024x1024 .bf16) (harg6 : arg6.IsWhole) (arg7 : Memref sg .tc .vmem S1024x1024 .bf16) (harg7 : arg7.IsWhole)
  (arg8 : Memref sg .tc .vmem S1x1024 .f32) (harg8 : arg8.IsWhole) (arg9 : Memref sg .tc .vmem S1x128x8x1024 .f32) (harg9 : arg9.IsWhole)
  (arg10 : Memref sg .tc .vmem S128x8x1024 .f32) (harg10 : arg10.IsWhole)
  (x0 : Vec F S1x2x8x128x1024 .bf16) (x1 : Vec F S8x128x256 .bf16) (x2 : Vec F S1x128x8x1024 .f32) (x3 : Vec F S1x1024 .f32)
  (x4 : Vec F S1024x1024 .bf16) (x5 : Vec F S1024x1024 .bf16) (x6 : Vec F S1x1024 .f32)

/-- Half `h` (real, imaginary) of the first transform at position `n` of the tile. -/
def yAt (h : Fin 2) (n : Fin 8) : Vec F S1x1x1x128x1024 .bf16 :=
  View.readAt (Elt F) arg2.view (Rect.unit (s := S1x2x8x128x1024) ![0, h.val, n.val, 0, 0] S1x1x1x128x1024.size
    (by have := h.isLt; have := n.isLt; intro a; match a with
      | ⟨0, _⟩ => exact Nat.le_refl _
      | ⟨1, _⟩ => show h.val + 1 ≤ 2; omega
      | ⟨2, _⟩ => show n.val + 1 ≤ 8; omega
      | ⟨3, _⟩ => exact Nat.le_refl _
      | ⟨4, _⟩ => exact Nat.le_refl _)).toLoadRect (harg2.unread x0)

/-- The table at position `n` of the tile. -/
def tAt (n : Fin 8) : Vec F S1x128x256 .bf16 :=
  View.readAt (Elt F) arg3.view (Rect.unit (s := S8x128x256) ![n.val, 0, 0] S1x128x256.size
    (by have := n.isLt; intro a; match a with
      | ⟨0, _⟩ => show n.val + 1 ≤ 8; omega
      | ⟨1, _⟩ => exact Nat.le_refl _
      | ⟨2, _⟩ => exact Nat.le_refl _)).toLoadRect (harg3.unread x1)

/-- The product of position `n`. -/
def row (n : Fin 8) : FVec F S1x128x1024 .f32 :=
  k0_pay13 (k0_pay2 (yAt arg2 harg2 x0 0 n) (yAt arg2 harg2 x0 1 n) (tAt arg3 harg3 x1 n))

theorem stack_wf : Shape.Concatenates ((List.ofFn fun _ : Fin 8 => S1x128x1024)) S8x128x1024 0 := by decide

/-- The 8 products stacked, then turned so that the output's row comes first. -/
def stack (f : Fin 8 → FVec F S1x128x1024 .f32) : FVec F S128x8x1024 .f32 :=
  shapeCast S128x8x1024 (transpose S128x8x1024 [1, 0, 2]
    (concatenate S8x128x1024 0 (List.ofFn fun n : Fin 8 => (⟨S1x128x1024, f n⟩ : (s : Shape) × (s.Idx → F .f32))) (by rw [List.map_ofFn]; exact stack_wf))
    transposes_S8x128x1024_p1_0_2_S128x8x1024) shapeCasts_S128x8x1024_S128x8x1024

/-- The scratch array's one store. -/
def fL : List (View.Piece (Elt F) S128x8x1024 .f32) :=
  [⟨Rect.unit (s := S128x8x1024) ![0, 0, 0] S128x8x1024.size (by decide), stack (row arg2 harg2 arg3 harg3 x0 x1)⟩]

/-- The stores into the output's block. -/
def outL : List (View.Piece (Elt F) S1x128x8x1024 .f32) :=
  [⟨Rect.unit (s := S1x128x8x1024) ![0, 64, 0, 0] S1x64x8x1024.size (by decide),
    k0_pay1 (k0_pay19 (View.readAt (Elt F) arg4.view (Rect.unit (s := S1x128x8x1024) ![0, 64, 0, 0] S1x64x8x1024.size (by decide)).toLoadRect (harg4.unread x2)))
      (k0_pay20 (View.readAt (Elt F) arg4.view (Rect.unit (s := S1x128x8x1024) ![0, 64, 0, 0] S1x64x8x1024.size (by decide)).toLoadRect (harg4.unread x2))
        (View.readAt (Elt F) arg5.view (Rect.unit (s := S1x1024) ![0, 0] S1x1024.size (by decide)).toLoadRect (harg5.unread x3)))
      (View.readAt (Elt F) arg6.view (Rect.unit (s := S1024x1024) ![0, 0] S1024x1024.size (by decide)).toLoadRect (harg6.unread x4))
      (arg10.view.readCov (fL arg2 harg2 arg3 harg3 x0 x1) (Rect.unit (s := S128x8x1024) ![64, 0, 0] S64x8x1024.size (by decide)).toLoadRect)
      (View.readAt (Elt F) arg7.view (Rect.unit (s := S1024x1024) ![0, 0] S1024x1024.size (by decide)).toLoadRect (harg7.unread x5))
      (View.readAt (Elt F) arg8.view (Rect.unit (s := S1x1024) ![0, 0] S1x1024.size (by decide)).toLoadRect (harg8.unread x6))⟩,
   ⟨Rect.unit (s := S1x128x8x1024) ![0, 0, 0, 0] S1x64x8x1024.size (by decide),
    k0_pay18 (k0_pay16 (View.readAt (Elt F) arg4.view (Rect.unit (s := S1x128x8x1024) ![0, 0, 0, 0] S1x64x8x1024.size (by decide)).toLoadRect (harg4.unread x2)))
      (k0_pay17 (View.readAt (Elt F) arg4.view (Rect.unit (s := S1x128x8x1024) ![0, 0, 0, 0] S1x64x8x1024.size (by decide)).toLoadRect (harg4.unread x2))
        (View.readAt (Elt F) arg5.view (Rect.unit (s := S1x1024) ![0, 0] S1x1024.size (by decide)).toLoadRect (harg5.unread x3))
        (View.readAt (Elt F) arg6.view (Rect.unit (s := S1024x1024) ![0, 0] S1024x1024.size (by decide)).toLoadRect (harg6.unread x4))
        (arg10.view.readCov (fL arg2 harg2 arg3 harg3 x0 x1) (Rect.unit (s := S128x8x1024) ![0, 0, 0] S64x8x1024.size (by decide)).toLoadRect))
      (View.readAt (Elt F) arg7.view (Rect.unit (s := S1024x1024) ![0, 0] S1024x1024.size (by decide)).toLoadRect (harg7.unread x5))
      (View.readAt (Elt F) arg8.view (Rect.unit (s := S1x1024) ![0, 0] S1x1024.size (by decide)).toLoadRect (harg8.unread x6))⟩]

end

section
variable {F : FTy → Type} [FloatOps F]
variable (arg2 : Memref sig .tc .vmem S1x2x8x128x1024 .bf16) (harg2 : arg2.IsWhole) (arg3 : Memref sig .tc .vmem S8x128x256 .bf16) (harg3 : arg3.IsWhole)
  (arg4 : Memref sig .tc .vmem S1x128x8x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x128x8x1024 .f32) (harg9 : arg9.IsWhole)
  (arg10 : Memref sig .tc .vmem S128x8x1024 .f32) (harg10 : arg10.IsWhole)
  (x0 : Vec F S1x2x8x128x1024 .bf16) (x1 : Vec F S8x128x256 .bf16) (x2 : Vec F S1x128x8x1024 .f32) (x3 : Vec F S1x1024 .f32)
  (x4 : Vec F S1024x1024 .bf16) (x5 : Vec F S1024x1024 .bf16) (x6 : Vec F S1x1024 .f32)

set_option maxRecDepth 65536 in
/-- The output stores of the kernel's body are those of the lists above. -/
theorem run_eq (c : Dev nD) (i : grid0.Coords) :
    (kernelRun0_A (F := F) c i arg2 harg2 arg3 harg3 arg4 harg4 arg5 harg5 arg6 harg6 arg7 harg7 arg8 harg8 arg9 harg9 arg10 harg10 x0 x1 x2 x3 x4 x5 x6).1
      = outL arg2 harg2 arg3 harg3 arg4 harg4 arg5 harg5 arg6 harg6 arg7 harg7 arg8 harg8 arg10 x0 x1 x2 x3 x4 x5 x6 := by
  sl_kernel_rfl
end

/-! ## The payloads -/

theorem row_apply (y0 y1 : Vec Ideal S1x1x1x128x1024 .bf16) (t : Vec Ideal S1x128x256 .bf16) (a : Fin 1) (m : Fin 128) (d : Fin 1024) :
    k0_pay13 (F := Ideal) (k0_pay2 y0 y1 t) (ix3 a m d)
      = fF 128 (at3 (a := 1) (b := 128) (c := 256) t 0)
          (fun h n d => if h = 0 then at5 (a := 1) (b := 1) (c := 1) (d := 128) (e := 1024) y0 0 0 0 n d else at5 (a := 1) (b := 1) (c := 1) (d := 128) (e := 1024) y1 0 0 0 n d) m.val d.val := by
  pointwise [k0_pay13, k0_pay2]
  simp only [to3 (a := 1) (b := 128) (c := 256) t, to5 (a := 1) (b := 1) (c := 1) (d := 128) (e := 1024) y0, to5 (a := 1) (b := 1) (c := 1) (d := 128) (e := 1024) y1]
  rfl

theorem stack_apply (f : Fin 8 → FVec Ideal S1x128x1024 .f32) (m : Fin 128) (j : Fin 8) (d : Fin 1024) : stack (F := Ideal) f (ix3 m j d) = f j (ix3 0 m d) := by
  pointwise [stack]

theorem low_apply (X : Vec Ideal S1x64x8x1024 .f32) (g gl : Vec Ideal S1x1024 .f32) (wg wo : Vec Ideal S1024x1024 .bf16) (f : Vec Ideal S64x8x1024 .f32)
    (a : Fin 1) (m : Fin 64) (j : Fin 8) (d : Fin 1024) :
    k0_pay18 (F := Ideal) (k0_pay16 X) (k0_pay17 X g wg f) wo gl (ix4 a m j d)
      = normF (preF (at4 (a := 1) (b := 64) (c := 8) (d := 1024) X 0 m.val j.val) (at3 (a := 64) (b := 8) (c := 1024) f m.val j.val) (at2 (a := 1) (b := 1024) g)
          (at2 (a := 1024) (b := 1024) wg) (at2 (a := 1024) (b := 1024) wo)) (at2 (a := 1) (b := 1024) gl) d.val := by
  pointwise [k0_pay18, k0_pay17, k0_pay16]
  simp only [to4 (a := 1) (b := 64) (c := 8) (d := 1024) X, to3 (a := 64) (b := 8) (c := 1024) f, to2 (a := 1) (b := 1024) g, to2 (a := 1) (b := 1024) gl,
    to2 (a := 1024) (b := 1024) wg, to2 (a := 1024) (b := 1024) wo]
  rfl

theorem high_apply (X : Vec Ideal S1x64x8x1024 .f32) (g gl : Vec Ideal S1x1024 .f32) (wg wo : Vec Ideal S1024x1024 .bf16) (f : Vec Ideal S64x8x1024 .f32)
    (a : Fin 1) (m : Fin 64) (j : Fin 8) (d : Fin 1024) :
    k0_pay1 (F := Ideal) (k0_pay19 X) (k0_pay20 X g) wg f wo gl (ix4 a m j d)
      = normF (preF (at4 (a := 1) (b := 64) (c := 8) (d := 1024) X 0 m.val j.val) (at3 (a := 64) (b := 8) (c := 1024) f m.val j.val) (at2 (a := 1) (b := 1024) g)
          (at2 (a := 1024) (b := 1024) wg) (at2 (a := 1024) (b := 1024) wo)) (at2 (a := 1) (b := 1024) gl) d.val := by
  pointwise [k0_pay1, k0_pay20, k0_pay19]
  simp only [to4 (a := 1) (b := 64) (c := 8) (d := 1024) X, to3 (a := 64) (b := 8) (c := 1024) f, to2 (a := 1) (b := 1024) g, to2 (a := 1) (b := 1024) gl,
    to2 (a := 1024) (b := 1024) wg, to2 (a := 1024) (b := 1024) wo]
  rfl

/-! ## One grid point -/

section
variable {sg : RefSig} (arg2 : Memref sg .tc .vmem S1x2x8x128x1024 .bf16) (harg2 : arg2.IsWhole) (arg3 : Memref sg .tc .vmem S8x128x256 .bf16) (harg3 : arg3.IsWhole)
  (arg4 : Memref sg .tc .vmem S1x128x8x1024 .f32) (harg4 : arg4.IsWhole) (arg5 : Memref sg .tc .vmem S1x1024 .f32) (harg5 : arg5.IsWhole)
  (arg6 : Memref sg .tc .vmem S1024x1024 .bf16) (harg6 : arg6.IsWhole) (arg7 : Memref sg .tc .vmem S1024x1024 .bf16) (harg7 : arg7.IsWhole)
  (arg8 : Memref sg .tc .vmem S1x1024 .f32) (harg8 : arg8.IsWhole) (arg9 : Memref sg .tc .vmem S1x128x8x1024 .f32) (harg9 : arg9.IsWhole)
  (arg10 : Memref sg .tc .vmem S128x8x1024 .f32) (harg10 : arg10.IsWhole)
  (x0 : Vec Ideal S1x2x8x128x1024 .bf16) (x1 : Vec Ideal S8x128x256 .bf16) (x2 : Vec Ideal S1x128x8x1024 .f32) (x3 : Vec Ideal S1x1024 .f32)
  (x4 : Vec Ideal S1024x1024 .bf16) (x5 : Vec Ideal S1024x1024 .bf16) (x6 : Vec Ideal S1x1024 .f32)

theorem yAt_eq (h : Fin 2) (j : Fin 8) (n d : ℕ) (hn : n < 128) (hd : d < 1024) :
    at5 (a := 1) (b := 1) (c := 1) (d := 128) (e := 1024) (yAt arg2 harg2 x0 h j) 0 0 0 n d = at5 (a := 1) (b := 2) (c := 8) (d := 128) (e := 1024) x0 0 h.val j.val n d := by
  rw [at5, dif_pos ⟨by omega, by omega, by omega, hn, hd⟩, yAt, whole_at arg2 harg2 x0, idx5 (a := 1) (b := 2) (c := 8) (d := 128) (e := 1024) x0]
  show at5 (a := 1) (b := 2) (c := 8) (d := 128) (e := 1024) x0 (0 + 1 * 0) (h.val + 1 * 0) (j.val + 1 * 0) (0 + 1 * n) (0 + 1 * d) = _
  congr 1 <;> omega

theorem tAt_eq (j : Fin 8) (m n : ℕ) (hm : m < 128) (hn : n < 256) :
    at3 (a := 1) (b := 128) (c := 256) (tAt arg3 harg3 x1 j) 0 m n = at3 (a := 8) (b := 128) (c := 256) x1 j.val m n := by
  rw [at3, dif_pos ⟨by omega, hm, hn⟩, tAt, whole_at arg3 harg3 x1, idx3 (a := 8) (b := 128) (c := 256) x1]
  show at3 (a := 8) (b := 128) (c := 256) x1 (j.val + 1 * 0) (0 + 1 * m) (0 + 1 * n) = _
  congr 1 <;> omega

/-- The tile's transform at row `m`, position `j`. -/
def tileF (m j d : ℕ) : EReal :=
  fF 128 (at3 (a := 8) (b := 128) (c := 256) x1 j) (fun h => at5 (a := 1) (b := 2) (c := 8) (d := 128) (e := 1024) x0 0 h j) m d

theorem stack_row (m : Fin 128) (j : Fin 8) (d : Fin 1024) : stack (F := Ideal) (row arg2 harg2 arg3 harg3 x0 x1) (ix3 m j d) = tileF x0 x1 m.val j.val d.val := by
  rw [stack_apply]
  refine (row_apply (yAt arg2 harg2 x0 0 j) (yAt arg2 harg2 x0 1 j) (tAt arg3 harg3 x1 j) _ _ _).trans ?_
  rw [tileF, fF, fF]
  exact congrArg₂ (· + ·)
    (Finset.sum_congr rfl fun n _ => by rw [tAt_eq _ _ _ _ _ _ m.isLt (by omega), if_pos rfl, yAt_eq _ _ _ _ _ _ _ n.isLt d.isLt]; rfl)
    (Finset.sum_congr rfl fun n _ => by rw [tAt_eq _ _ _ _ _ _ m.isLt (by omega), if_neg (by decide), yAt_eq _ _ _ _ _ _ _ n.isLt d.isLt]; rfl)

theorem f_canon (y : S128x8x1024.Idx) : View.canon (fL (F := Ideal) arg2 harg2 arg3 harg3 x0 x1) y = tileF x0 x1 (y 0).val (y 1).val (y 2).val := by
  rw [fL, View.canon_cons_unit_lit _ _ _ (by decide)]
  exact (congrArg _ (eq_ix3 (n0 := 128) (n1 := 8) (n2 := 1024) y)).trans (stack_row arg2 harg2 arg3 harg3 x0 x1 _ _ _)

/-- The tile's result at row `m`, position `j`. -/
def tileR (m j d : ℕ) : EReal :=
  normF (preF (at4 (a := 1) (b := 128) (c := 8) (d := 1024) x2 0 m j) (tileF x0 x1 m j) (at2 (a := 1) (b := 1024) x3)
          (at2 (a := 1024) (b := 1024) x4) (at2 (a := 1024) (b := 1024) x5)) (at2 (a := 1) (b := 1024) x6) d

theorem xAt4 (o : ℕ) (inb : ∀ i, (![0, o, 0, 0] : Fin 4 → ℕ) i + (![1, 64, 8, 1024] : Fin 4 → ℕ) i ≤ S1x128x8x1024.size i) (q r s : ℕ) (hq : q < 64) (hr : r < 8) (hs : s < 1024) :
    at4 (a := 1) (b := 64) (c := 8) (d := 1024) (View.readAt (Elt Ideal) arg4.view (Rect.unit (s := S1x128x8x1024) ![0, o, 0, 0] ![1, 64, 8, 1024] inb).toLoadRect (harg4.unread x2)) 0 q r s
      = at4 (a := 1) (b := 128) (c := 8) (d := 1024) x2 0 (o + q) r s := by
  rw [at4, dif_pos ⟨by omega, hq, hr, hs⟩, whole_at arg4 harg4 x2, idx4 (a := 1) (b := 128) (c := 8) (d := 1024) x2]
  show at4 (a := 1) (b := 128) (c := 8) (d := 1024) x2 (0 + 1 * 0) (o + 1 * q) (0 + 1 * r) (0 + 1 * s) = _
  congr 1 <;> omega

theorem fAt3 (o : ℕ) (inb : ∀ i, (![o, 0, 0] : Fin 3 → ℕ) i + (![64, 8, 1024] : Fin 3 → ℕ) i ≤ S128x8x1024.size i) (q r s : ℕ) (hq : q < 64) (hr : r < 8) (hs : s < 1024) :
    at3 (a := 64) (b := 8) (c := 1024) (arg10.view.readCov (fL (F := Ideal) arg2 harg2 arg3 harg3 x0 x1) (Rect.unit (s := S128x8x1024) ![o, 0, 0] ![64, 8, 1024] inb).toLoadRect) q r s
      = tileF x0 x1 (o + q) r s := by
  rw [at3, dif_pos ⟨hq, hr, hs⟩, cov_at, f_canon]
  show tileF x0 x1 (o + 1 * q) (0 + 1 * r) (0 + 1 * s) = _
  simp only [Nat.one_mul, Nat.zero_add]

/-- The stores into the output's block at an index of it. -/
theorem out_canon (y : S1x128x8x1024.Idx) :
    View.canon (outL (F := Ideal) arg2 harg2 arg3 harg3 arg4 harg4 arg5 harg5 arg6 harg6 arg7 harg7 arg8 harg8 arg10 x0 x1 x2 x3 x4 x5 x6) y
      = tileR x0 x1 x2 x3 x4 x5 x6 (y 1).val (y 2).val (y 3).val := by
  refine canon_eq (e := .f32) (fun y => tileR x0 x1 x2 x3 x4 x5 x6 (y 1).val (y 2).val (y 3).val) _ ?_ y ?_
  · intro p hp
    simp only [outL, List.mem_cons, List.not_mem_nil, or_false] at hp
    rcases hp with rfl | rfl
    · refine piece4 (n := 64) (R := 128) (J := 8) (g := tileR x0 x1 x2 x3 x4 x5 x6) (by decide) fun p q r s => ?_
      dsimp only
      refine (high_apply _ _ _ _ _ _ _ _ _ _).trans ?_
      rw [tileR, whole2 arg5 harg5 x3, whole2 arg6 harg6 x4, whole2 arg7 harg7 x5, whole2 arg8 harg8 x6]
      refine normF_congr _ (fun e he => preF_congr _ _ _ (fun k hk => ?_) (fun k hk => ?_) e he) _ s.isLt
      · exact xAt4 arg4 harg4 x2 _ _ _ _ _ q.isLt r.isLt hk
      · exact fAt3 arg2 harg2 arg3 harg3 arg10 x0 x1 _ _ _ _ _ q.isLt r.isLt hk
    · refine piece4 (n := 64) (R := 128) (J := 8) (g := tileR x0 x1 x2 x3 x4 x5 x6) (by decide) fun p q r s => ?_
      dsimp only
      refine (low_apply _ _ _ _ _ _ _ _ _ _).trans ?_
      rw [tileR, whole2 arg5 harg5 x3, whole2 arg6 harg6 x4, whole2 arg7 harg7 x5, whole2 arg8 harg8 x6]
      refine normF_congr _ (fun e he => preF_congr _ _ _ (fun k hk => ?_) (fun k hk => ?_) e he) _ s.isLt
      · exact xAt4 arg4 harg4 x2 _ _ _ _ _ q.isLt r.isLt hk
      · exact fAt3 arg2 harg2 arg3 harg3 arg10 x0 x1 _ _ _ _ _ q.isLt r.isLt hk
  · have h0 : (y 0).val < 1 := (y 0).isLt
    have h1 : (y 1).val < 128 := (y 1).isLt
    have h2 : (y 2).val < 8 := (y 2).isLt
    have h3 : (y 3).val < 1024 := (y 3).isLt
    simp only [outL, List.exists_mem_cons_iff]
    by_cases ha : (y 1).val < 64
    · right; left
      rw [Rect.mem_set_unit]
      intro a
      match a with
      | ⟨0, _⟩ => exact ⟨Nat.zero_le _, h0⟩
      | ⟨1, _⟩ => exact ⟨Nat.zero_le _, ha⟩
      | ⟨2, _⟩ => exact ⟨Nat.zero_le _, h2⟩
      | ⟨3, _⟩ => exact ⟨Nat.zero_le _, h3⟩
    · left
      rw [Rect.mem_set_unit]
      intro a
      match a with
      | ⟨0, _⟩ => exact ⟨Nat.zero_le _, h0⟩
      | ⟨1, _⟩ => exact ⟨Nat.le_of_not_lt ha, h1⟩
      | ⟨2, _⟩ => exact ⟨Nat.zero_le _, h2⟩
      | ⟨3, _⟩ => exact ⟨Nat.zero_le _, h3⟩
end

section
variable (arg2 : Memref sig .tc .vmem S1x2x8x128x1024 .bf16) (harg2 : arg2.IsWhole) (arg3 : Memref sig .tc .vmem S8x128x256 .bf16) (harg3 : arg3.IsWhole)
  (arg4 : Memref sig .tc .vmem S1x128x8x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x128x8x1024 .f32) (harg9 : arg9.IsWhole)
  (arg10 : Memref sig .tc .vmem S128x8x1024 .f32) (harg10 : arg10.IsWhole)
  (x0 : Vec Ideal S1x2x8x128x1024 .bf16) (x1 : Vec Ideal S8x128x256 .bf16) (x2 : Vec Ideal S1x128x8x1024 .f32) (x3 : Vec Ideal S1x1024 .f32)
  (x4 : Vec Ideal S1024x1024 .bf16) (x5 : Vec Ideal S1024x1024 .bf16) (x6 : Vec Ideal S1x1024 .f32)

/-- What one grid point leaves in its output block. -/
theorem tile_apply (c : Dev nD) (i : grid0.Coords) (y : S1x128x8x1024.Idx) :
    out0_A_7 (F := Ideal) c i arg2 harg2 arg3 harg3 arg4 harg4 arg5 harg5 arg6 harg6 arg7 harg7 arg8 harg8 arg9 harg9 arg10 harg10 x0 x1 x2 x3 x4 x5 x6 y
      = tileR x0 x1 x2 x3 x4 x5 x6 (y 1).val (y 2).val (y 3).val := by
  rw [out0_A_7, View.read_writes_junk_eq_canon, run_eq]
  exact out_canon arg2 harg2 arg3 harg3 arg4 harg4 arg5 harg5 arg6 harg6 arg7 harg7 arg8 harg8 arg10 x0 x1 x2 x3 x4 x5 x6 y
end

/-! ## The whole array -/

variable (m : (ℓ : Loc nD τ sig) → Buf (Elt Ideal) ℓ)

theorem index0 : ∀ t : Fin cfg0.N, win0_0.index t = ![(grid0.coords t 0).val, 0, (grid0.coords t 1).val, 0, 0] := (by decide +kernel : ∀ t : Fin grid0.N, _)
theorem index1 : ∀ t : Fin cfg0.N, win0_1.index t = ![(grid0.coords t 1).val, 0, 0] := (by decide +kernel : ∀ t : Fin grid0.N, _)
theorem index2 : ∀ t : Fin cfg0.N, win0_2.index t = ![(grid0.coords t 0).val, 0, (grid0.coords t 1).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![(grid0.coords t 0).val, 0, (grid0.coords t 1).val, 0] := (by decide +kernel : ∀ t : Fin grid0.N, _)

theorem block0 (c : Dev nD) (t : Fin cfg0.N) (h j n d : ℕ) (hh : h < 2) (hj : j < 8) (hn : n < 128) (hd : d < 1024) :
    at5 (a := 1) (b := 2) (c := 8) (d := 128) (e := 1024) (iblk (F := Ideal) m c 0 t) 0 h j n d
      = at5 (a := 2) (b := 2) (c := 128) (d := 128) (e := 1024) (m ((c : Thread nD τ).loc main_arg0)) (grid0.coords t 0).val h ((grid0.coords t 1).val * 8 + j) n d := by
  have hb : (grid0.coords t 0).val < 2 := (grid0.coords t 0).isLt
  have hi : (grid0.coords t 1).val < 16 := (grid0.coords t 1).isLt
  rw [at5, dif_pos ⟨by omega, hh, hj, hn, hd⟩, at5, dif_pos ⟨hb, hh, by omega, hn, hd⟩]
  blk_ext [iblk, V, index0]

theorem block1 (c : Dev nD) (t : Fin cfg0.N) (j k n : ℕ) (hj : j < 8) (hk : k < 128) (hn : n < 256) :
    at3 (a := 8) (b := 128) (c := 256) (iblk (F := Ideal) m c 1 t) j k n
      = at3 (a := 128) (b := 128) (c := 256) (m ((c : Thread nD τ).loc main_arg1)) ((grid0.coords t 1).val * 8 + j) k n := by
  have hi : (grid0.coords t 1).val < 16 := (grid0.coords t 1).isLt
  rw [at3, dif_pos ⟨hj, hk, hn⟩, at3, dif_pos ⟨by omega, hk, hn⟩]
  blk_ext [iblk, V, index1]

theorem block2 (c : Dev nD) (t : Fin cfg0.N) (k j d : ℕ) (hk : k < 128) (hj : j < 8) (hd : d < 1024) :
    at4 (a := 1) (b := 128) (c := 8) (d := 1024) (iblk (F := Ideal) m c 2 t) 0 k j d
      = at4 (a := 2) (b := 128) (c := 128) (d := 1024) (m ((c : Thread nD τ).loc main_arg2)) (grid0.coords t 0).val k ((grid0.coords t 1).val * 8 + j) d := by
  have hb : (grid0.coords t 0).val < 2 := (grid0.coords t 0).isLt
  have hi : (grid0.coords t 1).val < 16 := (grid0.coords t 1).isLt
  rw [at4, dif_pos ⟨by omega, hk, hj, hd⟩, at4, dif_pos ⟨hb, hk, by omega, hd⟩]
  blk_ext [iblk, V, index2]

theorem block3 (c : Dev nD) (t : Fin cfg0.N) : iblk (F := Ideal) m c 3 t = m ((c : Thread nD τ).loc main_arg3) := by
  funext y
  rw [iblk]
  blk_simp
  congr 1
  blk_ext [index3]

theorem block4 (c : Dev nD) (t : Fin cfg0.N) : iblk (F := Ideal) m c 4 t = m ((c : Thread nD τ).loc main_arg4) := by
  funext y
  rw [iblk]
  blk_simp
  congr 1
  blk_ext [index4]

theorem block5 (c : Dev nD) (t : Fin cfg0.N) : iblk (F := Ideal) m c 5 t = m ((c : Thread nD τ).loc main_arg5) := by
  funext y
  rw [iblk]
  blk_simp
  congr 1
  blk_ext [index5]

theorem block6 (c : Dev nD) (t : Fin cfg0.N) : iblk (F := Ideal) m c 6 t = m ((c : Thread nD τ).loc main_arg6) := by
  funext y
  rw [iblk]
  blk_simp
  congr 1
  blk_ext [index6]

/-- The call's result at batch entry `b`, row `k`, position `j`, channel `d`. -/
def resK (y : (⟨5, ![2, 2, 128, 128, 1024]⟩ : Shape).Idx → EReal) (t : (⟨3, ![128, 128, 256]⟩ : Shape).Idx → EReal) (x : (⟨4, ![2, 128, 128, 1024]⟩ : Shape).Idx → EReal)
    (g : (⟨2, ![1, 1024]⟩ : Shape).Idx → EReal) (wg wo : (⟨2, ![1024, 1024]⟩ : Shape).Idx → EReal) (gl : (⟨2, ![1, 1024]⟩ : Shape).Idx → EReal) (b k j d : ℕ) : EReal :=
  normF (preF (at4 x b k j) (fF 128 (at3 t j) (fun h => at5 y b h j) k) (at2 g) (at2 wg) (at2 wo)) (at2 gl) d

/-- The output array after the run. -/
theorem final (c : Dev nD) : (dats (F := Ideal) m 0 c).arrAt 7 cfg0.N = fun j : S2x128x128x1024.Idx =>
    resK (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (j 0).val (j 1).val (j 2).val (j 3).val := by
  refine (dats m 0 c).arrAt_eq_of_covers 7 _ (by decide +kernel) fun t hf y => ?_
  have hb : (grid0.coords t 0).val < 2 := (grid0.coords t 0).isLt
  have hi : (grid0.coords t 1).val < 16 := (grid0.coords t 1).isLt
  have h0 : (y 0).val < 1 := (y 0).isLt
  have h1 : (y 1).val < 128 := (y 1).isLt
  have h2 : (y 2).val < 8 := (y 2).isLt
  have h3 : (y 3).val < 1024 := (y 3).isLt
  blk_simp [index7]
  rw [after0_7, outsAt0, tile_apply, block3, block4, block5, block6, tileR, resK]
  have hF : ∀ k, k < 1024 → tileF (iblk (F := Ideal) m c 0 t) (iblk (F := Ideal) m c 1 t) (y 1).val (y 2).val k
      = fF 128 (at3 (a := 128) (b := 128) (c := 256) (m ((c : Thread nD τ).loc main_arg1)) ((grid0.coords t 1).val * 8 + (y 2).val))
          (fun h => at5 (a := 2) (b := 2) (c := 128) (d := 128) (e := 1024) (m ((c : Thread nD τ).loc main_arg0)) (grid0.coords t 0).val h ((grid0.coords t 1).val * 8 + (y 2).val)) (y 1).val k := by
    intro k hk
    rw [tileF, fF, fF]
    exact congrArg₂ (· + ·)
      (Finset.sum_congr rfl fun n _ => by rw [block1 m c t _ _ _ h2 h1 (by omega), block0 m c t _ _ _ _ (by omega) h2 n.isLt hk])
      (Finset.sum_congr rfl fun n _ => by rw [block1 m c t _ _ _ h2 h1 (by omega), block0 m c t _ _ _ _ (by omega) h2 n.isLt hk])
  refine (normF_congr _ (fun e he => preF_congr _ _ _ (fun k hk => block2 m c t _ _ _ h1 h2 hk) hF e he) _ h3).trans ?_
  rfl

end Cert.Proof.Stage2P

end
-- ==== Proof.Stage2PromptRef.lean ====
/- THE SECOND HALF OF THE DFT AT THE PROMPT'S SHAPES, the reference: its mixing sums, its gate, its residual and its last norm at one element, and the
   claim that the call and its reference end with the same array. -/
module

public import proofs.«01_k».proof.Pre_finite_prompt
public import proofs.«01_k».proof.Defs
public import proofs.«01_k».proof.Proof.Stage2Ref
public import proofs.«01_k».proof.Proof.Stage2Prompt
public import proofs.«01_k».proof.Proof.Gen.Reference5Ideal.Read
public import proofs.«01_k».proof.Proof.Gen.Reference5Ideal.Run
public import proofs.«01_k».proof.Proof.Gen.Pre_finite_prompt

@[expose] public section

noncomputable section

namespace Cert.Proof.Stage2P

open Idealize.ShloMosaic Idealize.ShloMosaic.TcCoe Idealize.SL.Sem Cert.Proof.Reads Cert.Proof.Values
open Cert.Proof.Stage2 (at4 at5 idx4 idx5 fF preF normF at4_real)

/-! ## What the precondition gives -/

section
open Cert.Pre_finite_prompt

instance : Subsingleton Cert.Pre_finite_prompt.S_.Idx := ⟨fun a b => funext fun i => i.elim0⟩

/-- The gate's three arrays hold real numbers. -/
theorem split_prompt [Facts] {x0 x1 x2 x3 x4 x5 x6} (h : fn (F := Ideal) x0 x1 x2 x3 x4 x5 x6 = fun _ => 1#1) :
    (∀ i, x2 i = ((EReal.toReal (x2 i) : ℝ) : EReal)) ∧ (∀ i, x3 i = ((EReal.toReal (x3 i) : ℝ) : EReal))
      ∧ (∀ i, x4 i = ((EReal.toReal (x4 i) : ℝ) : EReal)) := by
  have e := congrFun h ix0
  dsimp only [fn] at e
  obtain ⟨e, e4⟩ := IntOp.andi_eq_one.1 e
  obtain ⟨e2, e3⟩ := IntOp.andi_eq_one.1 e
  exact ⟨fun i => Pre.real_of_abs (Host.reduce_andi_all _ _ _ _ _ e2 i), fun i => Pre.real_of_abs (Host.reduce_andi_all _ _ _ _ _ e3 i),
    fun i => Pre.real_of_abs (Host.reduce_andi_all _ _ _ _ _ e4 i)⟩
end

/-! ## The reference -/

section
open Cert.Reference5Ideal Cert.Reference5Ideal.Gen Cert.Reference5Ideal.Read

variable (x0 : (⟨S2x2x128x128x1024, .bf16⟩ : BufTy).Contents (Elt Ideal)) (x1 : (⟨S128x128x256, .bf16⟩ : BufTy).Contents (Elt Ideal))
  (x2 : (⟨S2x128x128x1024, .f32⟩ : BufTy).Contents (Elt Ideal)) (x3 : (⟨S1x1024, .f32⟩ : BufTy).Contents (Elt Ideal))
  (x4 x5 : (⟨S1024x1024, .bf16⟩ : BufTy).Contents (Elt Ideal)) (x6 : (⟨S1x1024, .f32⟩ : BufTy).Contents (Elt Ideal))

/-- The index of the first transform's slice, one unit axis dropped. -/
theorem split_index (b j n d : ℕ) (hj : j < 128) (hn : n < 128) (hd : d < 1024) :
    (((b * 128 + j) * 128 + n) * 1024 + d) / 16777216 = b ∧ (((b * 128 + j) * 128 + n) * 1024 + d) / 131072 % 128 = j
      ∧ (((b * 128 + j) * 128 + n) * 1024 + d) / 1024 % 128 = n ∧ (((b * 128 + j) * 128 + n) * 1024 + d) % 1024 = d := by
  refine ⟨?_, ?_, ?_, ?_⟩ <;> omega

/-- The reference's mixed rows. -/
theorem mix_at (j : S2x128x128x1024.Idx) : val_main_v12 (F := Ideal) x0 x1 j
    = fF 128 (at3 (a := 128) (b := 128) (c := 256) x1 (j 2).val) (fun h => at5 (a := 2) (b := 2) (c := 128) (d := 128) (e := 1024) x0 (j 0).val h (j 2).val) (j 1).val (j 3).val := by
  have hj : (j 2).val < 128 := (j 2).isLt
  have hd : (j 3).val < 1024 := (j 3).isLt
  rw [val_main_v12_apply, val_main_v6_apply, val_main_v11_apply, val_main_v5_apply, val_main_v10_apply, Ideal.addf_def, fF]
  refine congrArg₂ (· + ·) (Finset.sum_congr rfl fun n _ => ?_) (Finset.sum_congr rfl fun n _ => ?_)
  · obtain ⟨e0, e1, e2, e3⟩ := split_index (j 0).val (j 2).val n.val (j 3).val hj n.isLt hd
    rw [val_main_v4_apply, val_main_v3_apply, val_main_v0_apply, val_main_v2_apply, val_main_v1_apply, Ideal.extf_def, Ideal.extf_def, mul_comm,
      idx5 (a := 2) (b := 2) (c := 128) (d := 128) (e := 1024) x0, idx3 (a := 128) (b := 128) (c := 256) x1]
    refine congrArg₂ (· * ·) rfl ?_
    show at5 (a := 2) (b := 2) (c := 128) (d := 128) (e := 1024) x0 _ _ _ _ _ = _
    exact congr (congr (congr (congr (congrArg _ e0) rfl) e1) e2) e3
  · obtain ⟨e0, e1, e2, e3⟩ := split_index (j 0).val (j 2).val n.val (j 3).val hj n.isLt hd
    rw [val_main_v9_apply, val_main_v8_apply, val_main_v0_apply, val_main_v7_apply, val_main_v1_apply, Ideal.extf_def, Ideal.extf_def, mul_comm,
      idx5 (a := 2) (b := 2) (c := 128) (d := 128) (e := 1024) x0, idx3 (a := 128) (b := 128) (c := 256) x1]
    refine congrArg₂ (· * ·) rfl ?_
    show at5 (a := 2) (b := 2) (c := 128) (d := 128) (e := 1024) x0 _ _ _ _ _ = _
    exact congr (congr (congr (congr (congrArg _ e0) rfl) e1) e2) e3

/-- The reference's gate before its sigmoid. -/
theorem gate_at (j : S2x128x128x1024.Idx) : val_main_v28 (F := Ideal) x2 x3 x4 j
    = zF (fun _ => at4 (a := 2) (b := 128) (c := 128) (d := 1024) x2 (j 0).val (j 1).val (j 2).val) (at2 (a := 1) (b := 1024) x3) (at2 (a := 1024) (b := 1024) x4) 0 (j 3).val := by
  have e0 : (val_main_cst (F := Ideal) (Shape.Idx.first h_S_) : EReal) = 0 := by
    rw [val_main_cst_apply, Ideal.ofBits_def]
    simp
  rw [val_main_v28_apply]
  unfold zF
  refine Finset.sum_congr rfl fun e _ => ?_
  rw [val_main_v26_apply, val_main_v23_apply, val_main_v22_apply, val_main_v21_apply, val_main_v20_apply, val_main_v18_apply, val_main_v16_apply, val_main_v15_apply, e0, zero_add,
    val_main_v17_apply, val_main_cst_0_apply, val_main_v19_apply, val_main_cst_1_apply, val_main_v25_apply, val_main_v24_apply, val_main_v13_apply, val_main_v27_apply]
  simp only [val_main_v14_apply, Ideal.mulf_def, Ideal.addf_def, Ideal.hostDivf_def, Ideal.hostUnary_rsqrt_def, Ideal.extf_def, Ideal.ofBits_def,
    idx4 (a := 2) (b := 128) (c := 128) (d := 1024) x2, idx2 (a := 1) (b := 1024) x3, idx2 (a := 1024) (b := 1024) x4]
  have he : e.val % 1024 = e.val := Nat.mod_eq_of_lt e.isLt
  congr 2
  show at2 (a := 1) (b := 1024) x3 0 (e.val % 1024) = _
  rw [he]

/-- The reference's gate. -/
theorem silu_at (j : S2x128x128x1024.Idx) :
    val_main_v29 (F := Ideal) x2 x3 x4 j = val_main_v28 (F := Ideal) x2 x3 x4 j * Ideal.logistic (val_main_v28 (F := Ideal) x2 x3 x4 j) := by
  have e1 : Ideal.ofBits .f32 0x3F800000#32 = 1 := by simp
  rw [val_main_v29_apply, val_main_call0_v5_apply, val_main_call0_v4_apply, val_main_call0_cst_0_apply, val_main_call0_v3_apply, val_main_call0_v2_apply, val_main_call0_cst_apply,
    val_main_call0_v1_apply, val_main_call0_v0_apply, Ideal.ofBits_def, e1]
  rfl

variable (h2 : ∀ i, x2 i = ((EReal.toReal (x2 i) : ℝ) : EReal)) (h3 : ∀ i, x3 i = ((EReal.toReal (x3 i) : ℝ) : EReal))
  (h4 : ∀ i, x4 i = ((EReal.toReal (x4 i) : ℝ) : EReal))

include h2 h3 h4 in
/-- The reference's rows before the last norm. -/
theorem pre_at (j : S2x128x128x1024.Idx) : val_main_v33 (F := Ideal) x0 x1 x2 x3 x4 x5 j
    = preF (at4 (a := 2) (b := 128) (c := 128) (d := 1024) x2 (j 0).val (j 1).val (j 2).val)
        (fF 128 (at3 (a := 128) (b := 128) (c := 256) x1 (j 2).val) (fun h => at5 (a := 2) (b := 2) (c := 128) (d := 128) (e := 1024) x0 (j 0).val h (j 2).val) (j 1).val)
        (at2 (a := 1) (b := 1024) x3) (at2 (a := 1024) (b := 1024) x4) (at2 (a := 1024) (b := 1024) x5) (j 3).val := by
  rw [val_main_v33_apply, val_main_v32_apply, Ideal.addf_def, preF, outF]
  refine congrArg₂ (· + ·) (idx4 (a := 2) (b := 128) (c := 128) (d := 1024) x2 j) (Finset.sum_congr rfl fun e _ => ?_)
  rw [val_main_v30_apply, val_main_v31_apply, Ideal.mulf_def, Ideal.extf_def, mix_at, silu_at, gate_at, idx2 (a := 1024) (b := 1024) x5,
    gF_eq _ _ _ _ _ (Pre.gate_real (fun _ c => EReal.toReal (at4 (a := 2) (b := 128) (c := 128) (d := 1024) x2 (j 0).val (j 1).val (j 2).val c)) _ _
      (fun _ c => at4_real h2 _ _ _ c) (fun r c => Pre.at2_real h3 r c) (fun r c => Pre.at2_real h4 r c) 0 e.val)]

include h2 h3 h4 in
/-- The reference's result. -/
theorem ref_out : val_main_v47 (F := Ideal) x0 x1 x2 x3 x4 x5 x6 = fun j : S2x128x128x1024.Idx =>
    resK x0 x1 x2 x3 x4 x5 x6 (j 0).val (j 1).val (j 2).val (j 3).val := by
  funext j
  have e0 : (val_main_cst_2 (F := Ideal) (Shape.Idx.first h_S_) : EReal) = 0 := by
    rw [val_main_cst_2_apply, Ideal.ofBits_def]
    simp
  have he : (j 3).val % 1024 = (j 3).val := Nat.mod_eq_of_lt (j 3).isLt
  rw [val_main_v47_apply, val_main_v44_apply, val_main_v43_apply, val_main_v42_apply, val_main_v41_apply, val_main_v39_apply, val_main_v37_apply, val_main_v36_apply, e0, zero_add,
    val_main_v38_apply, val_main_cst_3_apply, val_main_v40_apply, val_main_cst_4_apply, val_main_v46_apply, val_main_v45_apply, val_main_v34_apply]
  simp only [val_main_v35_apply, Ideal.mulf_def, Ideal.addf_def, Ideal.hostDivf_def, Ideal.hostUnary_rsqrt_def, Ideal.ofBits_def,
    pre_at x0 x1 x2 x3 x4 x5 h2 h3 h4, idx2 (a := 1) (b := 1024) x6]
  rw [resK, normF]
  congr 1
  show at2 (a := 1) (b := 1024) x6 0 ((j 3).val % 1024) = _
  rw [he]
end

/-- The call and its reference end with the same array, from a memory where the gate's three arrays are finite. -/
theorem stage2_prompt : Cert.algebraic_Kernel5Ideal_Reference5Ideal_pre_finite_prompt := by
  intro m g m' g' hpre hagree
  refine ⟨fun c => (Cert.Kernel5Ideal.Gen.dats (F := Ideal) m 0 c).arrAt 7 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run (F := Ideal) m' g')
  obtain ⟨a0, a1, a2, a3, a4, a5, a6⟩ := hagree c
  obtain ⟨h2, h3, h4⟩ := split_prompt (hpre c)
  refine Eq.trans ?_ (final m c).symm
  rw [Cert.Reference5Ideal.Read.val_main_v47_eq, a0, a1, a2, a3, a4, a5, a6]
  exact ref_out _ _ _ _ _ _ _ h2 h3 h4

end Cert.Proof.Stage2P

end
-- ==== Proof.Stage1.lean ====
/- THE FIRST HALF OF THE DFT: what one grid point stores. Per group of 256 channels the body forms one product per position of
   its tile, stacks the products of the even and of the odd positions, and interleaves the two stacks. -/
module

public import proofs.«01_k».proof.Proof.Stage2
public import proofs.«01_k».proof.Proof.Gen.Kernel4Ideal.Value

@[expose] public section

noncomputable section

namespace Cert.Proof.Stage1

open Idealize.ShloMosaic Idealize.ShloMosaic.TcCoe Idealize.SL.Sem Cert.Proof.Reads Cert.Proof.Values Cert.Proof.Stage2
open Cert.Kernel4Ideal Cert.Kernel4Ideal.Gen

/-! ## The stores -/

section
variable {F : FTy → Type} [FloatOps F]

theorem rows_wf (j : Fin 16) : S2048x512.Slices ![j.val * 128, 0] S128x512 := by
  revert j; decide

/-- The cosine half and the sine half of position `j`'s channel transform, one above the other. -/
def cat (t : FVec F S2048x512 .bf16) (j : Fin 16) : FVec F S256x256 .bf16 :=
  concatenate S256x256 0
    [⟨S128x256, extractStridedSlice S128x256 ![0, 0] (extractStridedSlice S128x512 ![j.val * 128, 0] t (rows_wf j)) slices_S128x512_o0_0_S128x256⟩,
     ⟨S128x256, extractStridedSlice S128x256 ![0, 256] (extractStridedSlice S128x512 ![j.val * 128, 0] t (rows_wf j)) slices_S128x512_o0_256_S128x256⟩]
    concatenates_S128x256_S128x256_S256x256_d0

/-- The product of position `j`. -/
def pos (w : Vec F S256x256 .bf16) (t : FVec F S2048x512 .bf16) (j : Fin 16) : FVec F S256x256 .f32 :=
  matmul dot_S256x256_S256x256_S256x256_1_0_0_1_n_n none w (cat t j) (constant S256x256 .f32 0x00000000#32)

theorem stack_wf : Shape.Concatenates ((List.ofFn fun _ : Fin 8 => S1x256x256)) S8x256x256 0 := by decide

/-- Eight products stacked, then turned so that the output's row comes first. -/
def half (f : Fin 8 → FVec F S256x256 .f32) : FVec F S256x8x256 .f32 :=
  transpose S256x8x256 [1, 0, 2]
    (concatenate S8x256x256 0 (List.ofFn fun n : Fin 8 => (⟨S1x256x256, shapeCast S1x256x256 (f n) shapeCasts_S256x256_S1x256x256⟩ : (s : Shape) × (s.Idx → F .f32)))
      (by rw [List.map_ofFn]; exact stack_wf))
    transposes_S8x256x256_p1_0_2_S256x8x256

/-- The two stacks interleaved by rows. -/
def tile (w : Vec F S256x256 .bf16) (t : FVec F S2048x512 .bf16) : FVec F S1x2x128x16x256 .bf16 :=
  shapeCast S1x2x128x16x256 (shapeCast S2x128x16x256 (interleaveRows S256x16x256
    (truncf .bf16 (half fun n => pos w t ⟨2 * n.val, by omega⟩) bitsLt_bf16_f32) (truncf .bf16 (half fun n => pos w t ⟨2 * n.val + 1, by omega⟩) bitsLt_bf16_f32)
    bitcasts_S256x16x256_w16_S256x8x256_w32) shapeCasts_S256x16x256_S2x128x16x256) shapeCasts_S2x128x16x256_S1x2x128x16x256

variable (x0 : Vec F S256x256 .bf16) (x1 : Vec F S256x512 .bf16) (x2 : Vec F S1x1024 .f32) (x3 : Vec F S1x128x16x1024 .f32)

set_option maxRecDepth 65536 in
/-- The stores of the kernel's body are the four groups' tiles. -/
theorem out_eq : out0_4 (F := F) x0 x1 x2 x3 = View.canon
    [⟨r0_7, tile (View.ld x0 r0_3) (k0_pay64 (k0_pay3 (View.ld x3 r0_0) (View.ld x2 r0_1)) (View.ld x1 r0_2))⟩,
     ⟨r0_6, tile (View.ld x0 r0_3) (k0_pay44 (k0_pay3 (View.ld x3 r0_0) (View.ld x2 r0_1)) (View.ld x1 r0_2))⟩,
     ⟨r0_5, tile (View.ld x0 r0_3) (k0_pay23 (k0_pay3 (View.ld x3 r0_0) (View.ld x2 r0_1)) (View.ld x1 r0_2))⟩,
     ⟨r0_4, tile (View.ld x0 r0_3) (k0_pay4 (View.ld x3 r0_0) (View.ld x2 r0_1) (View.ld x1 r0_2))⟩] := by
  rfl
end

/-! ## The functions -/

/-- The channel transform of a row, group `q`, column `d` of the table. -/
def dF (v : ℕ → EReal) (cs : ℕ → ℕ → EReal) (q d : ℕ) : EReal := ∑ e : Fin 256, v (q * 256 + e.val) * cs e.val d

/-- Row `r` of the table on the cosine halves and on the sine halves of 128 rows. -/
def yF (w : ℕ → ℕ → EReal) (t : ℕ → ℕ → EReal) (r : ℕ) : EReal :=
  (∑ m : Fin 128, w r m.val * t 0 m.val) + ∑ m : Fin 128, w r (128 + m.val) * t 1 m.val

/-- The call's result at half `h`, row `k`, channel `c` of a position whose 128 rows are `x`. -/
def resF (w cs : ℕ → ℕ → EReal) (g : ℕ → ℕ → EReal) (x : ℕ → ℕ → EReal) (h k c : ℕ) : EReal :=
  yF w (fun p m => dF (normF (x m) g) cs (c / 256) (p * 256 + c % 256)) (h * 128 + k)

theorem dF_congr {v v' : ℕ → EReal} (cs : ℕ → ℕ → EReal) (hv : ∀ e, e < 1024 → v e = v' e) (q d : ℕ) (hq : q < 4) : dF v cs q d = dF v' cs q d :=
  Finset.sum_congr rfl fun e _ => by rw [hv _ (by have := e.isLt; omega)]

theorem yF_congr (w : ℕ → ℕ → EReal) {t t' : ℕ → ℕ → EReal} (ht : ∀ p, p < 2 → ∀ m, m < 128 → t p m = t' p m) (r : ℕ) : yF w t r = yF w t' r :=
  congrArg₂ (· + ·) (Finset.sum_congr rfl fun m _ => by rw [ht 0 (by omega) _ m.isLt]) (Finset.sum_congr rfl fun m _ => by rw [ht 1 (by omega) _ m.isLt])

theorem resF_congr (w cs g : ℕ → ℕ → EReal) {x x' : ℕ → ℕ → EReal} (hx : ∀ m, m < 128 → ∀ e, e < 1024 → x m e = x' m e) (h k c : ℕ) (hc : c < 1024) :
    resF w cs g x h k c = resF w cs g x' h k c :=
  yF_congr _ (fun _ _ m hm => dF_congr _ (fun e he => normF_congr g (hx m hm) e he) _ _ (by omega)) _

/-! ## The payloads -/

theorem tile_read (w : Vec Ideal S256x256 .bf16) (t : FVec Ideal S2048x512 .bf16) (a : Fin 1) (h : Fin 2) (k : Fin 128) (n : Fin 16) (c : Fin 256) :
    tile (F := Ideal) w t (ix5 a h k n c) = pos (F := Ideal) w t n (ix2 ⟨h.val * 128 + k.val, by omega⟩ c) := by
  pointwise [tile, half]
  split
  · congr 1
    exact Fin.ext (by show 2 * (n.val / 2) = n.val; omega)
  · congr 1
    exact Fin.ext (by show 2 * (n.val / 2) + 1 = n.val; omega)

theorem pos_read (w : Vec Ideal S256x256 .bf16) (t : FVec Ideal S2048x512 .bf16) (j : Fin 16) (r : Fin 256) (c : Fin 256) :
    pos (F := Ideal) w t j (ix2 r c)
      = yF (at2 (a := 256) (b := 256) w) (fun p m => at2 (a := 2048) (b := 512) t (j.val * 128 + m) (p * 256 + c.val)) r.val := by
  pointwise [pos, cat]
  simp only [to2 (a := 256) (b := 256) w, to2 (a := 2048) (b := 512) t]
  rw [yF]
  simp only [Nat.zero_mul, Nat.zero_add, Nat.one_mul]

theorem pay3_read (x : Vec Ideal S1x128x16x1024 .f32) (g : Vec Ideal S1x1024 .f32) (r : Fin 2048) (e : Fin 1024) :
    k0_pay3 (F := Ideal) x g (ix2 r e) = normF (at4 (a := 1) (b := 128) (c := 16) (d := 1024) x 0 (r.val % 128) (r.val / 128)) (at2 (a := 1) (b := 1024) g) e.val := by
  pointwise [k0_pay3]
  have e1 : (r.val % 128 * 16 + r.val / 128) / 16 = r.val % 128 := by omega
  have e2 : (r.val % 128 * 16 + r.val / 128) % 16 = r.val / 128 := by omega
  simp only [to4 (a := 1) (b := 128) (c := 16) (d := 1024) x, to2 (a := 1) (b := 1024) g, e1, e2]
  rfl

/-- The channel transform of group `q` at a row of the tile. -/
def chanF (x : Vec Ideal S1x128x16x1024 .f32) (g : Vec Ideal S1x1024 .f32) (cs : Vec Ideal S256x512 .bf16) (q r d : ℕ) : EReal :=
  dF (normF (at4 (a := 1) (b := 128) (c := 16) (d := 1024) x 0 (r % 128) (r / 128)) (at2 (a := 1) (b := 1024) g)) (at2 (a := 256) (b := 512) cs) q d

variable (x : Vec Ideal S1x128x16x1024 .f32) (g : Vec Ideal S1x1024 .f32) (cs : Vec Ideal S256x512 .bf16)

theorem pay4_read (r : Fin 2048) (d : Fin 512) : k0_pay4 (F := Ideal) x g cs (ix2 r d) = chanF x g cs 0 r.val d.val := by
  pointwise [k0_pay4]
  simp only [pay3_read, to2 (a := 256) (b := 512) cs]
  rw [chanF, dF]
  simp only [Nat.zero_mul, Nat.zero_add]

theorem pay23_read (r : Fin 2048) (d : Fin 512) : k0_pay23 (F := Ideal) (k0_pay3 x g) cs (ix2 r d) = chanF x g cs 1 r.val d.val := by
  pointwise [k0_pay23]
  simp only [pay3_read, to2 (a := 256) (b := 512) cs]
  rfl

theorem pay44_read (r : Fin 2048) (d : Fin 512) : k0_pay44 (F := Ideal) (k0_pay3 x g) cs (ix2 r d) = chanF x g cs 2 r.val d.val := by
  pointwise [k0_pay44]
  simp only [pay3_read, to2 (a := 256) (b := 512) cs]
  rfl

theorem pay64_read (r : Fin 2048) (d : Fin 512) : k0_pay64 (F := Ideal) (k0_pay3 x g) cs (ix2 r d) = chanF x g cs 3 r.val d.val := by
  pointwise [k0_pay64]
  simp only [pay3_read, to2 (a := 256) (b := 512) cs]
  rfl

/-- A group's tile from its channel transform. -/
theorem tile_apply (w : Vec Ideal S256x256 .bf16) (t : FVec Ideal S2048x512 .bf16) (q : ℕ)
    (ht : ∀ (r : Fin 2048) (d : Fin 512), t (ix2 r d) = chanF x g cs q r.val d.val) (a : Fin 1) (h : Fin 2) (k : Fin 128) (n : Fin 16) (c : Fin 256) :
    tile (F := Ideal) w t (ix5 a h k n c)
      = resF (at2 (a := 256) (b := 256) w) (at2 (a := 256) (b := 512) cs) (at2 (a := 1) (b := 1024) g)
          (fun m => at4 (a := 1) (b := 128) (c := 16) (d := 1024) x 0 m n.val) h.val k.val (q * 256 + c.val) := by
  rw [tile_read, pos_read, resF]
  refine yF_congr _ (fun p hp m hm => ?_) _
  have hn := n.isLt
  have hc := c.isLt
  have e1 : (n.val * 128 + m) % 128 = m := by omega
  have e2 : (n.val * 128 + m) / 128 = n.val := by omega
  have e3 : (q * 256 + c.val) / 256 = q := by omega
  have e4 : (q * 256 + c.val) % 256 = c.val := by omega
  rw [at2, dif_pos ⟨by omega, by omega⟩, ht, chanF]
  show dF (normF (at4 (a := 1) (b := 128) (c := 16) (d := 1024) x 0 ((n.val * 128 + m) % 128) ((n.val * 128 + m) / 128)) _) _ _ _ = _
  rw [e1, e2, e3, e4]

/-! ## One grid point -/

/-- A store into the output's block whose payload is a block of the function `G` of the last four coordinates. -/
theorem piece5 {o : ℕ} {G : ℕ → ℕ → ℕ → ℕ → EReal} {u : S1x2x128x16x256.Idx → EReal}
    (inb : ∀ i, (![0, 0, 0, 0, o] : Fin 5 → ℕ) i + (![1, 2, 128, 16, 256] : Fin 5 → ℕ) i ≤ S1x2x128x16x1024.size i)
    (h : ∀ (p : Fin 1) (q : Fin 2) (r : Fin 128) (s : Fin 16) (t : Fin 256), u (ix5 p q r s t) = G q.val r.val s.val (o + t.val)) (y : S1x2x128x16x256.Idx) :
    u y = G ((Rect.unit (s := S1x2x128x16x1024) ![0, 0, 0, 0, o] ![1, 2, 128, 16, 256] inb).emb y 1).val ((Rect.unit (s := S1x2x128x16x1024) ![0, 0, 0, 0, o] ![1, 2, 128, 16, 256] inb).emb y 2).val
      ((Rect.unit (s := S1x2x128x16x1024) ![0, 0, 0, 0, o] ![1, 2, 128, 16, 256] inb).emb y 3).val ((Rect.unit (s := S1x2x128x16x1024) ![0, 0, 0, 0, o] ![1, 2, 128, 16, 256] inb).emb y 4).val := by
  conv_lhs => rw [eq_ix5 (n0 := 1) (n1 := 2) (n2 := 128) (n3 := 16) (n4 := 256) y]
  refine (h _ _ _ _ _).trans ?_
  show _ = G (0 + 1 * _) (0 + 1 * _) (0 + 1 * _) (o + 1 * _)
  simp only [Nat.one_mul, Nat.zero_add]

/-- What one grid point leaves in its output block. -/
theorem out_apply (w : Vec Ideal S256x256 .bf16) (y : S1x2x128x16x1024.Idx) :
    out0_4 (F := Ideal) w cs g x y
      = resF (at2 (a := 256) (b := 256) w) (at2 (a := 256) (b := 512) cs) (at2 (a := 1) (b := 1024) g)
          (fun m => at4 (a := 1) (b := 128) (c := 16) (d := 1024) x 0 m (y 3).val) (y 1).val (y 2).val (y 4).val := by
  rw [out_eq, View.ld_unit_lit _ _ (by decide), View.ld_unit_lit _ _ (by decide), View.ld_unit_lit _ _ (by decide), View.ld_unit_lit _ _ (by decide)]
  refine canon_eq (e := .bf16) (fun y => resF (at2 (a := 256) (b := 256) w) (at2 (a := 256) (b := 512) cs) (at2 (a := 1) (b := 1024) g)
          (fun m => at4 (a := 1) (b := 128) (c := 16) (d := 1024) x 0 m (y 3).val) (y 1).val (y 2).val (y 4).val) _ ?_ y (cover0_4 _ _ _ _ y)
  intro p hp
  simp only [List.mem_cons, List.not_mem_nil, or_false] at hp
  rcases hp with rfl | rfl | rfl | rfl
  · exact piece5 (G := fun h k n c => resF (at2 (a := 256) (b := 256) w) (at2 (a := 256) (b := 512) cs) (at2 (a := 1) (b := 1024) g)
      (fun m => at4 (a := 1) (b := 128) (c := 16) (d := 1024) x 0 m n) h k c) (by decide) (tile_apply x g cs w _ 3 (pay64_read x g cs))
  · exact piece5 (G := fun h k n c => resF (at2 (a := 256) (b := 256) w) (at2 (a := 256) (b := 512) cs) (at2 (a := 1) (b := 1024) g)
      (fun m => at4 (a := 1) (b := 128) (c := 16) (d := 1024) x 0 m n) h k c) (by decide) (tile_apply x g cs w _ 2 (pay44_read x g cs))
  · exact piece5 (G := fun h k n c => resF (at2 (a := 256) (b := 256) w) (at2 (a := 256) (b := 512) cs) (at2 (a := 1) (b := 1024) g)
      (fun m => at4 (a := 1) (b := 128) (c := 16) (d := 1024) x 0 m n) h k c) (by decide) (tile_apply x g cs w _ 1 (pay23_read x g cs))
  · exact piece5 (G := fun h k n c => resF (at2 (a := 256) (b := 256) w) (at2 (a := 256) (b := 512) cs) (at2 (a := 1) (b := 1024) g)
      (fun m => at4 (a := 1) (b := 128) (c := 16) (d := 1024) x 0 m n) h k c) (by decide) (tile_apply x g cs w _ 0 (pay4_read x g cs))

/-! ## The whole array -/

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0, (grid0.coords t 1).val, 0] := (by decide +kernel : ∀ t : Fin grid0.N, _)
theorem index4 : ∀ t : Fin cfg0.N, win0_4.index t = ![(grid0.coords t 0).val, 0, 0, (grid0.coords t 1).val, 0] := (by decide +kernel : ∀ t : Fin grid0.N, _)

theorem block0 (c : Dev nD) (t : Fin cfg0.N) : iblk (F := Ideal) m c 0 t = m ((c : Thread nD τ).loc main_arg0) := by
  funext y
  rw [iblk]
  blk_simp
  congr 1
  blk_ext [index0]

theorem block1 (c : Dev nD) (t : Fin cfg0.N) : iblk (F := Ideal) m c 1 t = m ((c : Thread nD τ).loc main_arg1) := by
  funext y
  rw [iblk]
  blk_simp
  congr 1
  blk_ext [index1]

theorem block2 (c : Dev nD) (t : Fin cfg0.N) : iblk (F := Ideal) m c 2 t = m ((c : Thread nD τ).loc main_arg2) := by
  funext y
  rw [iblk]
  blk_simp
  congr 1
  blk_ext [index2]

theorem block3 (c : Dev nD) (t : Fin cfg0.N) (k j d : ℕ) (hk : k < 128) (hj : j < 16) (hd : d < 1024) :
    at4 (a := 1) (b := 128) (c := 16) (d := 1024) (iblk (F := Ideal) m c 3 t) 0 k j d
      = at4 (a := 4) (b := 128) (c := 32) (d := 1024) (m ((c : Thread nD τ).loc main_arg3)) (grid0.coords t 0).val k ((grid0.coords t 1).val * 16 + j) d := by
  have hb : (grid0.coords t 0).val < 4 := (grid0.coords t 0).isLt
  have hi : (grid0.coords t 1).val < 2 := (grid0.coords t 1).isLt
  rw [at4, dif_pos ⟨by omega, hk, hj, hd⟩, at4, dif_pos ⟨hb, hk, by omega, hd⟩]
  blk_ext [iblk, V, index3]

/-- The call's result at batch entry `b`, half `h`, row `k`, position `n`, channel `c`. -/
def resY (w : (⟨2, ![256, 256]⟩ : Shape).Idx → EReal) (cs : (⟨2, ![256, 512]⟩ : Shape).Idx → EReal) (g : (⟨2, ![1, 1024]⟩ : Shape).Idx → EReal)
    (x : (⟨4, ![4, 128, 32, 1024]⟩ : Shape).Idx → EReal) (b h k n c : ℕ) : EReal :=
  resF (at2 w) (at2 cs) (at2 g) (fun m => at4 x b m n) h k c

/-- The output array after the run. -/
theorem final (c : Dev nD) : (dats (F := Ideal) m 0 c).arrAt 4 cfg0.N = fun j : S4x2x128x32x1024.Idx =>
    resY (m ((c : Thread nD τ).loc main_arg0)) (m ((c : Thread nD τ).loc main_arg1)) (m ((c : Thread nD τ).loc main_arg2)) (m ((c : Thread nD τ).loc main_arg3))
      (j 0).val (j 1).val (j 2).val (j 3).val (j 4).val := by
  refine (dats m 0 c).arrAt_eq_of_covers 4 _ (by decide +kernel) fun t hf y => ?_
  have hb : (grid0.coords t 0).val < 4 := (grid0.coords t 0).isLt
  have hi : (grid0.coords t 1).val < 2 := (grid0.coords t 1).isLt
  have h0 : (y 0).val < 1 := (y 0).isLt
  have h1 : (y 1).val < 2 := (y 1).isLt
  have h2 : (y 2).val < 128 := (y 2).isLt
  have h3 : (y 3).val < 16 := (y 3).isLt
  have h4 : (y 4).val < 1024 := (y 4).isLt
  blk_simp [index4]
  rw [after0_4, out_apply, block0, block1, block2, resY]
  refine (resF_congr _ _ _ (fun k hk e he => block3 m c t _ _ _ hk h3 he) _ _ _ h4).trans ?_
  rfl

end Cert.Proof.Stage1

end
-- ==== Proof.Stage1Ref.lean ====
/- THE FIRST HALF OF THE DFT, the reference: its norm, its channel transform and its transform over the rows at one element, and
   the claim that the call and its reference end with the same array. -/
module

public import proofs.«01_k».proof.Defs
public import proofs.«01_k».proof.Proof.Stage1
public import proofs.«01_k».proof.Proof.Gen.Reference4Ideal.Read
public import proofs.«01_k».proof.Proof.Gen.Reference4Ideal.Run

@[expose] public section

noncomputable section

namespace Cert.Proof.Stage1

open Idealize.ShloMosaic Idealize.ShloMosaic.TcCoe Idealize.SL.Sem Cert.Proof.Reads Cert.Proof.Values Cert.Proof.Stage2

section
open Cert.Reference4Ideal Cert.Reference4Ideal.Gen Cert.Reference4Ideal.Read

variable (x0 : (⟨S256x256, .bf16⟩ : BufTy).Contents (Elt Ideal)) (x1 : (⟨S256x512, .bf16⟩ : BufTy).Contents (Elt Ideal))
  (x2 : (⟨S1x1024, .f32⟩ : BufTy).Contents (Elt Ideal)) (x3 : (⟨S4x128x32x1024, .f32⟩ : BufTy).Contents (Elt Ideal))

/-- The reference's normalised rows. -/
theorem norm_at (j : S4x128x32x1024.Idx) : val_main_v15 (F := Ideal) x2 x3 j
    = normF (at4 (a := 4) (b := 128) (c := 32) (d := 1024) x3 (j 0).val (j 1).val (j 2).val) (at2 (a := 1) (b := 1024) x2) (j 3).val := by
  have e0 : (val_main_cst (F := Ideal) (Shape.Idx.first h_S_) : EReal) = 0 := by
    rw [val_main_cst_apply, Ideal.ofBits_def]
    simp
  have he : (j 3).val % 1024 = (j 3).val := Nat.mod_eq_of_lt (j 3).isLt
  rw [val_main_v15_apply, val_main_v12_apply, val_main_v11_apply, val_main_v10_apply, val_main_v9_apply, val_main_v7_apply, val_main_v5_apply, val_main_v4_apply, e0, zero_add,
    val_main_v6_apply, val_main_cst_0_apply, val_main_v8_apply, val_main_cst_1_apply, val_main_v14_apply, val_main_v13_apply, val_main_v2_apply]
  simp only [val_main_v3_apply, Ideal.mulf_def, Ideal.addf_def, Ideal.hostDivf_def, Ideal.hostUnary_rsqrt_def, Ideal.ofBits_def,
    idx4 (a := 4) (b := 128) (c := 32) (d := 1024) x3, idx2 (a := 1) (b := 1024) x2]
  rw [normF]
  congr 1
  show at2 (a := 1) (b := 1024) x2 0 ((j 3).val % 1024) = _
  rw [he]

/-- The index of a channel, split into its group and the channel in it. -/
theorem split_channel (b m n c : ℕ) (hm : m < 128) (hn : n < 32) (hc : c < 1024) :
    (((b * 128 + m) * 32 + n) * 1024 + c) / 4194304 = b ∧ (((b * 128 + m) * 32 + n) * 1024 + c) / 32768 % 128 = m
      ∧ (((b * 128 + m) * 32 + n) * 1024 + c) / 1024 % 32 = n ∧ (((b * 128 + m) * 32 + n) * 1024 + c) / 256 % 4 = c / 256
      ∧ (((b * 128 + m) * 32 + n) * 1024 + c) % 256 = c % 256 := by
  refine ⟨?_, ?_, ?_, ?_, ?_⟩ <;> omega

/-- The index of a channel, put together from its group and the channel in it. -/
theorem join_channel (b m n q e : ℕ) (hm : m < 128) (hn : n < 32) (hq : q < 4) (he : e < 256) :
    ((((b * 128 + m) * 32 + n) * 4 + q) * 256 + e) / 4194304 = b ∧ ((((b * 128 + m) * 32 + n) * 4 + q) * 256 + e) / 32768 % 128 = m
      ∧ ((((b * 128 + m) * 32 + n) * 4 + q) * 256 + e) / 1024 % 32 = n ∧ ((((b * 128 + m) * 32 + n) * 4 + q) * 256 + e) % 1024 = q * 256 + e := by
  refine ⟨?_, ?_, ?_, ?_⟩ <;> omega

/-- The normalised rows by groups of channels. -/
theorem group_at (i : S4x128x32x4x256.Idx) : val_main_v16 (F := Ideal) x2 x3 i
    = normF (at4 (a := 4) (b := 128) (c := 32) (d := 1024) x3 (i 0).val (i 1).val (i 2).val) (at2 (a := 1) (b := 1024) x2) ((i 3).val * 256 + (i 4).val) := by
  obtain ⟨e0, e1, e2, e3⟩ := join_channel (i 0).val (i 1).val (i 2).val (i 3).val (i 4).val (i 1).isLt (i 2).isLt (i 3).isLt (i 4).isLt
  rw [val_main_v16_apply, norm_at]
  show normF (at4 (a := 4) (b := 128) (c := 32) (d := 1024) x3 (_ / 4194304) (_ / 32768 % 128) (_ / 1024 % 32)) _ (_ % 1024) = _
  rw [e0, e1, e2, e3]

/-- The channel transform's cosine half. -/
theorem re_at (j : S4x128x32x1024.Idx) : val_main_v19 (F := Ideal) x1 x2 x3 j
    = dF (normF (at4 (a := 4) (b := 128) (c := 32) (d := 1024) x3 (j 0).val (j 1).val (j 2).val) (at2 (a := 1) (b := 1024) x2)) (at2 (a := 256) (b := 512) x1)
        ((j 3).val / 256) (0 * 256 + (j 3).val % 256) := by
  obtain ⟨e0, e1, e2, e3, e4⟩ := split_channel (j 0).val (j 1).val (j 2).val (j 3).val (j 1).isLt (j 2).isLt (j 3).isLt
  rw [val_main_v19_apply, val_main_v18_apply, dF]
  refine Finset.sum_congr rfl fun e _ => ?_
  rw [group_at, val_main_v17_apply, val_main_v1_apply, Ideal.extf_def, idx2 (a := 256) (b := 512) x1, Nat.zero_mul, Nat.zero_add]
  show normF (at4 (a := 4) (b := 128) (c := 32) (d := 1024) x3 (_ / 4194304) (_ / 32768 % 128) (_ / 1024 % 32)) _ (_ / 256 % 4 * 256 + e.val)
    * at2 (a := 256) (b := 512) x1 e.val (_ % 256) = _
  rw [e0, e1, e2, e3, e4]

/-- The channel transform's sine half. -/
theorem im_at (j : S4x128x32x1024.Idx) : val_main_v22 (F := Ideal) x1 x2 x3 j
    = dF (normF (at4 (a := 4) (b := 128) (c := 32) (d := 1024) x3 (j 0).val (j 1).val (j 2).val) (at2 (a := 1) (b := 1024) x2)) (at2 (a := 256) (b := 512) x1)
        ((j 3).val / 256) (1 * 256 + (j 3).val % 256) := by
  obtain ⟨e0, e1, e2, e3, e4⟩ := split_channel (j 0).val (j 1).val (j 2).val (j 3).val (j 1).isLt (j 2).isLt (j 3).isLt
  rw [val_main_v22_apply, val_main_v21_apply, dF]
  refine Finset.sum_congr rfl fun e _ => ?_
  rw [group_at, val_main_v20_apply, val_main_v1_apply, Ideal.extf_def, idx2 (a := 256) (b := 512) x1, Nat.one_mul]
  show normF (at4 (a := 4) (b := 128) (c := 32) (d := 1024) x3 (_ / 4194304) (_ / 32768 % 128) (_ / 1024 % 32)) _ (_ / 256 % 4 * 256 + e.val)
    * at2 (a := 256) (b := 512) x1 e.val (256 + _ % 256) = _
  rw [e0, e1, e2, e3, e4]

/-- The first half of the result: the real parts. -/
theorem low_at (j : S4x128x32x1024.Idx) : val_main_v30 (F := Ideal) x0 x1 x2 x3 j
    = resY x0 x1 x2 x3 (j 0).val 0 (j 1).val (j 2).val (j 3).val := by
  rw [val_main_v30_apply, val_main_v26_apply, val_main_v25_apply, val_main_v29_apply, val_main_v28_apply, Ideal.addf_def, resY, resF, yF, Nat.zero_mul 128, Nat.zero_add (j 1).val]
  refine congrArg₂ (· + ·) (Finset.sum_congr rfl fun k _ => ?_) (Finset.sum_congr rfl fun k _ => ?_)
  · rw [re_at, val_main_v24_apply, val_main_v23_apply, val_main_v0_apply, Ideal.extf_def, idx2 (a := 256) (b := 256) x0, mul_comm]
  · rw [im_at, val_main_v27_apply, val_main_v23_apply, val_main_v0_apply, Ideal.extf_def, idx2 (a := 256) (b := 256) x0, mul_comm]

/-- The second half of the result: the imaginary parts. -/
theorem high_at (j : S4x128x32x1024.Idx) : val_main_v38 (F := Ideal) x0 x1 x2 x3 j
    = resY x0 x1 x2 x3 (j 0).val 1 (j 1).val (j 2).val (j 3).val := by
  rw [val_main_v38_apply, val_main_v34_apply, val_main_v33_apply, val_main_v37_apply, val_main_v36_apply, Ideal.addf_def, resY, resF, yF]
  refine congrArg₂ (· + ·) (Finset.sum_congr rfl fun k _ => ?_) (Finset.sum_congr rfl fun k _ => ?_)
  · rw [re_at, val_main_v32_apply, val_main_v31_apply, val_main_v0_apply, Ideal.extf_def, idx2 (a := 256) (b := 256) x0, mul_comm, Nat.one_mul]
  · rw [im_at, val_main_v35_apply, val_main_v31_apply, val_main_v0_apply, Ideal.extf_def, idx2 (a := 256) (b := 256) x0, mul_comm, Nat.one_mul]

theorem stack_at (b : Fin 4) (h : Fin 2) (k : Fin 128) (n : Fin 32) (c : Fin 1024) :
    val_main_v41 (F := Ideal) x0 x1 x2 x3 (ix5 b h k n c) = resY x0 x1 x2 x3 b.val h.val k.val n.val c.val := by
  fin_cases h
  · pointwise [val_main_v41]
    rw [val_main_v39_apply, low_at]
    rfl
  · pointwise [val_main_v41]
    rw [val_main_v40_apply, high_at]
    rfl

/-- The reference's result. -/
theorem ref_out : val_main_v42 (F := Ideal) x0 x1 x2 x3 = fun j : S4x2x128x32x1024.Idx =>
    resY x0 x1 x2 x3 (j 0).val (j 1).val (j 2).val (j 3).val (j 4).val := by
  funext j
  rw [val_main_v42_apply, Ideal.truncf_def]
  exact (congrArg _ (eq_ix5 (n0 := 4) (n1 := 2) (n2 := 128) (n3 := 32) (n4 := 1024) j)).trans (stack_at x0 x1 x2 x3 _ _ _ _ _)
end

/-- The call and its reference end with the same array. -/
theorem stage1 : Cert.algebraic_Kernel4Ideal_Reference4Ideal := by
  intro m g m' g' _ hagree
  refine ⟨fun c => (Cert.Kernel4Ideal.Gen.dats (F := Ideal) m 0 c).arrAt 4 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨a0, a1, a2, a3⟩ := hagree c
  refine Eq.trans ?_ (final m c).symm
  rw [Cert.Reference4Ideal.Read.val_main_v42_eq, a0, a1, a2, a3]
  exact ref_out _ _ _ _

end Cert.Proof.Stage1

end
-- ==== Proof.FourierCalls.lean ====
/- THE TWO HALVES OF THE DFT IN ONE PROGRAM: each call's output array as a function of the contents the call is entered with. -/
module

public import proofs.«01_k».proof.Proof.Stage1
public import proofs.«01_k».proof.Proof.Gen.Kernel6Ideal.Frame

@[expose] public section

noncomputable section

namespace Cert.Proof.Fourier

open Idealize.ShloMosaic Idealize.ShloMosaic.TcCoe Idealize.SL.Sem Cert.Proof.Reads Cert.Proof.Values Cert.Proof.Stage2 Cert.Proof.Stage1
open Cert.Kernel6Ideal Cert.Kernel6Ideal.Gen

variable (V : (c : Dev nD) → (b : Ref sig .tc) → Buf (Elt Ideal) ((c : Thread nD τ).loc b))

/-! ## The first call -/

set_option maxRecDepth 65536 in
/-- The body's stores are those of the first half's own program. -/
theorem out0_same {F : FTy → Type} [FloatOps F] (x0 : Vec F S256x256 .bf16) (x1 : Vec F S256x512 .bf16) (x2 : Vec F S1x1024 .f32) (x3 : Vec F S1x128x16x1024 .f32) :
    out0_4 (F := F) x0 x1 x2 x3 = Cert.Kernel4Ideal.Gen.out0_4 (F := F) x0 x1 x2 x3 := by
  rfl

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![(grid0.coords t 0).val, 0, (grid0.coords t 1).val, 0] := (by decide +kernel : ∀ t : Fin grid0.N, _)
theorem index0_4 : ∀ t : Fin cfg0.N, win0_4.index t = ![(grid0.coords t 0).val, 0, 0, (grid0.coords t 1).val, 0] := (by decide +kernel : ∀ t : Fin grid0.N, _)

theorem block0_0 (c : Dev nD) (t : Fin cfg0.N) : iblk0 (F := Ideal) V c 0 t = V c main_arg0 := by
  funext y
  rw [iblk0]
  blk_simp
  congr 1
  blk_ext [index0_0]

theorem block0_1 (c : Dev nD) (t : Fin cfg0.N) : iblk0 (F := Ideal) V c 1 t = V c main_arg1 := by
  funext y
  rw [iblk0]
  blk_simp
  congr 1
  blk_ext [index0_1]

theorem block0_2 (c : Dev nD) (t : Fin cfg0.N) : iblk0 (F := Ideal) V c 2 t = V c main_arg4 := by
  funext y
  rw [iblk0]
  blk_simp
  congr 1
  blk_ext [index0_2]

theorem block0_3 (c : Dev nD) (t : Fin cfg0.N) (k j d : ℕ) (hk : k < 128) (hj : j < 16) (hd : d < 1024) :
    at4 (a := 1) (b := 128) (c := 16) (d := 1024) (iblk0 (F := Ideal) V c 3 t) 0 k j d
      = at4 (a := 4) (b := 128) (c := 32) (d := 1024) (V c main_v0) (grid0.coords t 0).val k ((grid0.coords t 1).val * 16 + j) d := by
  have hb : (grid0.coords t 0).val < 4 := (grid0.coords t 0).isLt
  have hi : (grid0.coords t 1).val < 2 := (grid0.coords t 1).isLt
  rw [at4, dif_pos ⟨by omega, hk, hj, hd⟩, at4, dif_pos ⟨hb, hk, by omega, hd⟩]
  blk_ext [iblk0, index0_3]

/-- The first call's output array. -/
theorem final0 (c : Dev nD) : (dat0 (F := Ideal) V c).arrAt 4 cfg0.N = fun j : S4x2x128x32x1024.Idx =>
    resY (V c main_arg0) (V c main_arg1) (V c main_arg4) (V c main_v0) (j 0).val (j 1).val (j 2).val (j 3).val (j 4).val := by
  refine (dat0 V c).arrAt_eq_of_covers 4 _ (by decide +kernel) fun t hf y => ?_
  have hb : (grid0.coords t 0).val < 4 := (grid0.coords t 0).isLt
  have hi : (grid0.coords t 1).val < 2 := (grid0.coords t 1).isLt
  have h0 : (y 0).val < 1 := (y 0).isLt
  have h1 : (y 1).val < 2 := (y 1).isLt
  have h2 : (y 2).val < 128 := (y 2).isLt
  have h3 : (y 3).val < 16 := (y 3).isLt
  have h4 : (y 4).val < 1024 := (y 4).isLt
  blk_simp [index0_4]
  rw [after0_4, out0_same, block0_0, block0_1, block0_2, resY]
  refine (Stage1.out_apply _ _ _ _ _).trans ?_
  refine (resF_congr _ _ _ (fun k hk e he => block0_3 V c t _ _ _ hk h3 he) _ _ _ h4).trans ?_
  rfl

/-! ## The second call -/

section
variable {F : FTy → Type} [FloatOps F]
variable (arg2 : Memref sig .tc .vmem S1x2x32x32x1024 .bf16) (harg2 : arg2.IsWhole) (arg3 : Memref sig .tc .vmem S32x32x64 .bf16) (harg3 : arg3.IsWhole)
  (arg4 : Memref sig .tc .vmem S1x32x32x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x32x32x1024 .f32) (harg9 : arg9.IsWhole)
  (arg10 : Memref sig .tc .vmem S32x32x1024 .f32) (harg10 : arg10.IsWhole)
  (x0 : Vec F S1x2x32x32x1024 .bf16) (x1 : Vec F S32x32x64 .bf16) (x2 : Vec F S1x32x32x1024 .f32) (x3 : Vec F S1x1024 .f32)
  (x4 : Vec F S1024x1024 .bf16) (x5 : Vec F S1024x1024 .bf16) (x6 : Vec F S1x1024 .f32)

set_option maxRecDepth 65536 in
/-- The output stores of the body are those of the second half's lists. -/
theorem run1_eq (c : Dev nD) (i : grid1.Coords) :
    (kernelRun1_A (F := F) c i arg2 harg2 arg3 harg3 arg4 harg4 arg5 harg5 arg6 harg6 arg7 harg7 arg8 harg8 arg9 harg9 arg10 harg10 x0 x1 x2 x3 x4 x5 x6).1
      = Stage2.outL arg2 harg2 arg3 harg3 arg4 harg4 arg5 harg5 arg6 harg6 arg7 harg7 arg8 harg8 arg10 x0 x1 x2 x3 x4 x5 x6 := by
  sl_kernel_rfl
end

section
variable (arg2 : Memref sig .tc .vmem S1x2x32x32x1024 .bf16) (harg2 : arg2.IsWhole) (arg3 : Memref sig .tc .vmem S32x32x64 .bf16) (harg3 : arg3.IsWhole)
  (arg4 : Memref sig .tc .vmem S1x32x32x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x32x32x1024 .f32) (harg9 : arg9.IsWhole)
  (arg10 : Memref sig .tc .vmem S32x32x1024 .f32) (harg10 : arg10.IsWhole)
  (x0 : Vec Ideal S1x2x32x32x1024 .bf16) (x1 : Vec Ideal S32x32x64 .bf16) (x2 : Vec Ideal S1x32x32x1024 .f32) (x3 : Vec Ideal S1x1024 .f32)
  (x4 : Vec Ideal S1024x1024 .bf16) (x5 : Vec Ideal S1024x1024 .bf16) (x6 : Vec Ideal S1x1024 .f32)

/-- What one grid point of the second call leaves in its output block. -/
theorem tile1_apply (c : Dev nD) (i : grid1.Coords) (y : S1x32x32x1024.Idx) :
    out1_A_7 (F := Ideal) c i arg2 harg2 arg3 harg3 arg4 harg4 arg5 harg5 arg6 harg6 arg7 harg7 arg8 harg8 arg9 harg9 arg10 harg10 x0 x1 x2 x3 x4 x5 x6 y
      = tileR x0 x1 x2 x3 x4 x5 x6 (y 1).val (y 2).val (y 3).val := by
  rw [out1_A_7, View.read_writes_junk_eq_canon, run1_eq]
  exact Stage2.out_canon arg2 harg2 arg3 harg3 arg4 harg4 arg5 harg5 arg6 harg6 arg7 harg7 arg8 harg8 arg10 x0 x1 x2 x3 x4 x5 x6 y
end

theorem index1_0 : ∀ t : Fin cfg1.N, win1_0.index t = ![(grid1.coords t 0).val, 0, (grid1.coords t 1).val, 0, 0] := (by decide +kernel : ∀ t : Fin grid1.N, _)
theorem index1_1 : ∀ t : Fin cfg1.N, win1_1.index t = ![(grid1.coords t 1).val, 0, 0] := (by decide +kernel : ∀ t : Fin grid1.N, _)
theorem index1_2 : ∀ t : Fin cfg1.N, win1_2.index t = ![(grid1.coords t 0).val, 0, (grid1.coords t 1).val, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![(grid1.coords t 0).val, 0, (grid1.coords t 1).val, 0] := (by decide +kernel : ∀ t : Fin grid1.N, _)

theorem block1_0 (c : Dev nD) (t : Fin cfg1.N) (h j n d : ℕ) (hh : h < 2) (hj : j < 32) (hn : n < 32) (hd : d < 1024) :
    at5 (a := 1) (b := 2) (c := 32) (d := 32) (e := 1024) (iblk1 (F := Ideal) V c 0 t) 0 h j n d
      = at5 (a := 4) (b := 2) (c := 128) (d := 32) (e := 1024) (V c main_v1) (grid1.coords t 0).val h ((grid1.coords t 1).val * 32 + j) n d := by
  have hb : (grid1.coords t 0).val < 4 := (grid1.coords t 0).isLt
  have hi : (grid1.coords t 1).val < 4 := (grid1.coords t 1).isLt
  rw [at5, dif_pos ⟨by omega, hh, hj, hn, hd⟩, at5, dif_pos ⟨hb, hh, by omega, hn, hd⟩]
  blk_ext [iblk1, index1_0]

theorem block1_1 (c : Dev nD) (t : Fin cfg1.N) (j k n : ℕ) (hj : j < 32) (hk : k < 32) (hn : n < 64) :
    at3 (a := 32) (b := 32) (c := 64) (iblk1 (F := Ideal) V c 1 t) j k n
      = at3 (a := 128) (b := 32) (c := 64) (V c main_arg2) ((grid1.coords t 1).val * 32 + j) k n := by
  have hi : (grid1.coords t 1).val < 4 := (grid1.coords t 1).isLt
  rw [at3, dif_pos ⟨hj, hk, hn⟩, at3, dif_pos ⟨by omega, hk, hn⟩]
  blk_ext [iblk1, index1_1]

theorem block1_2 (c : Dev nD) (t : Fin cfg1.N) (k j d : ℕ) (hk : k < 32) (hj : j < 32) (hd : d < 1024) :
    at4 (a := 1) (b := 32) (c := 32) (d := 1024) (iblk1 (F := Ideal) V c 2 t) 0 k j d
      = at4 (a := 4) (b := 32) (c := 128) (d := 1024) (V c main_v2) (grid1.coords t 0).val k ((grid1.coords t 1).val * 32 + j) d := by
  have hb : (grid1.coords t 0).val < 4 := (grid1.coords t 0).isLt
  have hi : (grid1.coords t 1).val < 4 := (grid1.coords t 1).isLt
  rw [at4, dif_pos ⟨by omega, hk, hj, hd⟩, at4, dif_pos ⟨hb, hk, by omega, hd⟩]
  blk_ext [iblk1, index1_2]

theorem block1_3 (c : Dev nD) (t : Fin cfg1.N) : iblk1 (F := Ideal) V c 3 t = V c main_arg4 := by
  funext y
  rw [iblk1]
  blk_simp
  congr 1
  blk_ext [index1_3]

theorem block1_4 (c : Dev nD) (t : Fin cfg1.N) : iblk1 (F := Ideal) V c 4 t = V c main_arg5 := by
  funext y
  rw [iblk1]
  blk_simp
  congr 1
  blk_ext [index1_4]

theorem block1_5 (c : Dev nD) (t : Fin cfg1.N) : iblk1 (F := Ideal) V c 5 t = V c main_arg6 := by
  funext y
  rw [iblk1]
  blk_simp
  congr 1
  blk_ext [index1_5]

theorem block1_6 (c : Dev nD) (t : Fin cfg1.N) : iblk1 (F := Ideal) V c 6 t = V c main_arg7 := by
  funext y
  rw [iblk1]
  blk_simp
  congr 1
  blk_ext [index1_6]

/-- The second call's output array. -/
theorem final1 (c : Dev nD) : (dat1 (F := Ideal) V c).arrAt 7 cfg1.N = fun j : S4x32x128x1024.Idx =>
    resK (V c main_v1) (V c main_arg2) (V c main_v2) (V c main_arg4) (V c main_arg5) (V c main_arg6) (V c main_arg7) (j 0).val (j 1).val (j 2).val (j 3).val := by
  refine (dat1 V c).arrAt_eq_of_covers 7 _ (by decide +kernel) fun t hf y => ?_
  have hb : (grid1.coords t 0).val < 4 := (grid1.coords t 0).isLt
  have hi : (grid1.coords t 1).val < 4 := (grid1.coords t 1).isLt
  have h0 : (y 0).val < 1 := (y 0).isLt
  have h1 : (y 1).val < 32 := (y 1).isLt
  have h2 : (y 2).val < 32 := (y 2).isLt
  have h3 : (y 3).val < 1024 := (y 3).isLt
  blk_simp [index1_7]
  rw [after1_7, outsAt1, tile1_apply, block1_3, block1_4, block1_5, block1_6, tileR, resK]
  have hF : ∀ k, k < 1024 → tileF (iblk1 (F := Ideal) V c 0 t) (iblk1 (F := Ideal) V c 1 t) (y 1).val (y 2).val k
      = fF 32 (at3 (a := 128) (b := 32) (c := 64) (V c main_arg2) ((grid1.coords t 1).val * 32 + (y 2).val))
          (fun h => at5 (a := 4) (b := 2) (c := 128) (d := 32) (e := 1024) (V c main_v1) (grid1.coords t 0).val h ((grid1.coords t 1).val * 32 + (y 2).val)) (y 1).val k := by
    intro k hk
    rw [tileF, fF, fF]
    exact congrArg₂ (· + ·)
      (Finset.sum_congr rfl fun n _ => by rw [block1_1 V c t _ _ _ h2 h1 (by omega), block1_0 V c t _ _ _ _ (by omega) h2 n.isLt hk])
      (Finset.sum_congr rfl fun n _ => by rw [block1_1 V c t _ _ _ h2 h1 (by omega), block1_0 V c t _ _ _ _ (by omega) h2 n.isLt hk])
  refine (normF_congr _ (fun e he => preF_congr _ _ _ (fun k hk => block1_2 V c t _ _ _ h1 h2 hk) hF e he) _ h3).trans ?_
  rfl

end Cert.Proof.Fourier

end
-- ==== Proof.Fourier.lean ====
/- THE TWO HALVES OF THE DFT IN ONE PROGRAM: what each call leaves of the contents it is entered with, and what the program ends with. -/
module

public import proofs.«01_k».proof.Proof.FourierCalls
public import proofs.«01_k».proof.Proof.Gen.Kernel6Ideal.Frame
public import Idealize.ShloMosaic.Lib.StableHlo.ReadAt

@[expose] public section

set_option maxRecDepth 16384

noncomputable section

namespace Cert.Proof.Fourier

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

/-! ## The run, with every buffer's contents at its end -/

section
variable {F : FTy → Type} [FloatOps F]
variable (m : (ℓ : Loc nD τ sig) → Buf (Elt F) ℓ) (ρ : Dev nD → PrngReg)

set_option backward.isDefEq.respectTransparency.types false in
/-- The run ends with every buffer of a core at the contents of the last boundary. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The run names the result and leaves the arguments as they were. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v4 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run_all m ρ)
end

/-! ## The values at the boundaries -/

section
open Cert.Proof.Reads Cert.Proof.Values Cert.Proof.Stage2 Cert.Proof.Stage1

variable (m : (ℓ : Loc nD τ sig) → Buf (Elt Ideal) ℓ) (ρ : Dev nD → PrngReg)

/-- The rows the first call reads. -/
theorem rows0 (c : Dev nD) (b k n d : ℕ) (hb : b < 4) (hk : k < 128) (hn : n < 32) (hd : d < 1024) :
    at4 (a := 4) (b := 128) (c := 32) (d := 1024) (V1 m ρ c main_v0) b k n d
      = at3 (a := 4) (b := 4096) (c := 1024) (m ((c : Thread nD τ).loc main_arg3)) b (k * 32 + n) d := by
  rw [at4, dif_pos ⟨hb, hk, hn, hd⟩, at3, dif_pos ⟨hb, by omega, hd⟩]
  show StableHlo.after hostOps0 (W0 m ρ c) (Proc.devRef .tc main_v0) _ = _
  after_reads_at

/-- The rows the second call reads. -/
theorem rows1 (c : Dev nD) (b k n d : ℕ) (hb : b < 4) (hk : k < 32) (hn : n < 128) (hd : d < 1024) :
    at4 (a := 4) (b := 32) (c := 128) (d := 1024) (V3 m ρ c main_v2) b k n d
      = at3 (a := 4) (b := 4096) (c := 1024) (m ((c : Thread nD τ).loc main_arg3)) b (k * 128 + n) d := by
  rw [at4, dif_pos ⟨hb, hk, hn, hd⟩, at3, dif_pos ⟨hb, by omega, hd⟩, ← W2_args m ρ c main_arg3 (by decide)]
  show StableHlo.after hostOps1 (W2 m ρ c) (Proc.devRef .tc main_v2) _ = _
  after_reads_at

/-- The program's result, a row of the second call's. -/
theorem rows2 (c : Dev nD) (b : Fin 4) (s : Fin 4096) (d : Fin 1024) :
    W5 m ρ c (Proc.devRef .tc main_v4) (ix3 b s d)
      = W4 m ρ c (Proc.devRef .tc main_v3) (ix4 b ⟨s.val / 128, by omega⟩ ⟨s.val % 128, by omega⟩ d) := by
  show StableHlo.after hostOps2 (W4 m ρ c) (Proc.devRef .tc main_v4) _ = _
  after_reads_at
/-- The first half's result from the rows of the residual. -/
def yX (w : (⟨2, ![256, 256]⟩ : Shape).Idx → EReal) (cs : (⟨2, ![256, 512]⟩ : Shape).Idx → EReal) (g : (⟨2, ![1, 1024]⟩ : Shape).Idx → EReal)
    (x : (⟨3, ![4, 4096, 1024]⟩ : Shape).Idx → EReal) (b h k n c : ℕ) : EReal :=
  resF (at2 w) (at2 cs) (at2 g) (fun r => at3 x b (r * 32 + n)) h k c

/-- The transform at block `k` and position `j` of a row of the residual. -/
def fX (w : (⟨2, ![256, 256]⟩ : Shape).Idx → EReal) (cs : (⟨2, ![256, 512]⟩ : Shape).Idx → EReal) (t : (⟨3, ![128, 32, 64]⟩ : Shape).Idx → EReal)
    (x : (⟨3, ![4, 4096, 1024]⟩ : Shape).Idx → EReal) (g : (⟨2, ![1, 1024]⟩ : Shape).Idx → EReal) (b k j d : ℕ) : EReal :=
  fF 32 (at3 t j) (fun h => yX w cs g x b h j) k d

/-- The layer's result at batch entry `b`, row `s`, channel `d`. -/
def resX (w : (⟨2, ![256, 256]⟩ : Shape).Idx → EReal) (cs : (⟨2, ![256, 512]⟩ : Shape).Idx → EReal) (t : (⟨3, ![128, 32, 64]⟩ : Shape).Idx → EReal)
    (x : (⟨3, ![4, 4096, 1024]⟩ : Shape).Idx → EReal) (g : (⟨2, ![1, 1024]⟩ : Shape).Idx → EReal) (wg wo : (⟨2, ![1024, 1024]⟩ : Shape).Idx → EReal)
    (gl : (⟨2, ![1, 1024]⟩ : Shape).Idx → EReal) (b s d : ℕ) : EReal :=
  normF (preF (at3 x b s) (fX w cs t x g b (s / 128) (s % 128)) (at2 g) (at2 wg) (at2 wo)) (at2 gl) d

/-- What the second call finds in the first one's output. -/
theorem mid (c : Dev nD) (b h j n d : ℕ) (hb : b < 4) (hh : h < 2) (hj : j < 128) (hn : n < 32) (hd : d < 1024) :
    at5 (a := 4) (b := 2) (c := 128) (d := 32) (e := 1024) (V3 m ρ c main_v1) b h j n d
      = yX (m ((c : Thread nD τ).loc main_arg0)) (m ((c : Thread nD τ).loc main_arg1)) (m ((c : Thread nD τ).loc main_arg4)) (m ((c : Thread nD τ).loc main_arg3)) b h j n d := by
  have e : V3 m ρ c main_v1 = _ := ((W3_of m ρ c main_v1 (by decide)).trans (W2_arr m ρ c 4)).trans (final0 (V1 m ρ) c)
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a4 : V1 m ρ c main_arg4 = m ((c : Thread nD τ).loc main_arg4) := W1_args m ρ c main_arg4 (by decide)
  rw [e, at5, dif_pos ⟨hb, hh, hj, hn, hd⟩, a0, a1, a4]
  exact resF_congr _ _ _ (fun k hk e he => rows0 m ρ c b k n e hb hk hn he) _ _ _ hd

/-- The program's result. -/
theorem result (c : Dev nD) : W5 m ρ c (Proc.devRef .tc main_v4) = fun j : S4x4096x1024.Idx =>
    resX (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (j 0).val (j 1).val (j 2).val := by
  funext j
  have hb : (j 0).val < 4 := (j 0).isLt
  have hs : (j 1).val < 4096 := (j 1).isLt
  have hd : (j 2).val < 1024 := (j 2).isLt
  have hk : (j 1).val / 128 < 32 := by omega
  have hj : (j 1).val % 128 < 128 := by omega
  have hr : (j 1).val / 128 * 128 + (j 1).val % 128 = (j 1).val := by omega
  have e : W4 m ρ c (Proc.devRef .tc main_v3) = _ := (W4_arr m ρ c 7).trans (final1 (V3 m ρ) c)
  have a2 : V3 m ρ c main_arg2 = m ((c : Thread nD τ).loc main_arg2) := W3_args m ρ c main_arg2 (by decide)
  have a4 : V3 m ρ c main_arg4 = m ((c : Thread nD τ).loc main_arg4) := W3_args m ρ c main_arg4 (by decide)
  have a5 : V3 m ρ c main_arg5 = m ((c : Thread nD τ).loc main_arg5) := W3_args m ρ c main_arg5 (by decide)
  have a6 : V3 m ρ c main_arg6 = m ((c : Thread nD τ).loc main_arg6) := W3_args m ρ c main_arg6 (by decide)
  have a7 : V3 m ρ c main_arg7 = m ((c : Thread nD τ).loc main_arg7) := W3_args m ρ c main_arg7 (by decide)
  refine (congrArg _ (eq_ix3 (n0 := 4) (n1 := 4096) (n2 := 1024) j)).trans ((rows2 m ρ c _ _ _).trans ?_)
  rw [e, a2, a4, a5, a6, a7, resX]
  show resK (V3 m ρ c main_v1) _ (V3 m ρ c main_v2) _ _ _ _ (j 0).val ((j 1).val / 128) ((j 1).val % 128) (j 2).val = _
  rw [resK]
  refine normF_congr _ (fun d hd => preF_congr _ _ _ (fun k hk' => ?_) (fun k hk' => ?_) d hd) _ hd
  · exact (rows1 m ρ c _ _ _ k hb hk hj hk').trans (by rw [hr])
  · rw [fX, fF, fF]
    exact congrArg₂ (· + ·)
      (Finset.sum_congr rfl fun n _ => by rw [mid m ρ c _ _ _ _ _ hb (by omega) hj n.isLt hk'])
      (Finset.sum_congr rfl fun n _ => by rw [mid m ρ c _ _ _ _ _ hb (by omega) hj n.isLt hk'])
end

end Cert.Proof.Fourier

end
-- ==== Proof.FourierRef.lean ====
/- THE FOURIER LAYER, the reference: its norm, its two transforms, its gate, its residual and its last norm at one element, and the
   claim that the program of the two calls and its reference end with the same array. -/
module

public import proofs.«01_k».proof.Pre_finite_fourier
public import proofs.«01_k».proof.Defs
public import proofs.«01_k».proof.Proof.Pre
public import proofs.«01_k».proof.Proof.Fourier
public import proofs.«01_k».proof.Proof.Stage1Ref
public import proofs.«01_k».proof.Proof.Gen.Reference6Ideal.Read
public import proofs.«01_k».proof.Proof.Gen.Reference6Ideal.Run
public import proofs.«01_k».proof.Proof.Gen.Pre_finite_fourier

@[expose] public section

noncomputable section

namespace Cert.Proof.Fourier

open Idealize.ShloMosaic Idealize.ShloMosaic.TcCoe Idealize.SL.Sem Cert.Proof.Reads Cert.Proof.Values Cert.Proof.Stage2 Cert.Proof.Stage1

/-! ## What the precondition gives -/

section
open Cert.Pre_finite_fourier

instance : Subsingleton Cert.Pre_finite_fourier.S_.Idx := ⟨fun a b => funext fun i => i.elim0⟩

/-- The residual, the gain and the gate's weights hold real numbers. -/
theorem split_fourier [Facts] {x0 x1 x2 x3 x4 x5 x6 x7} (h : fn (F := Ideal) x0 x1 x2 x3 x4 x5 x6 x7 = fun _ => 1#1) :
    (∀ i, x3 i = ((EReal.toReal (x3 i) : ℝ) : EReal)) ∧ (∀ i, x4 i = ((EReal.toReal (x4 i) : ℝ) : EReal))
      ∧ (∀ i, x5 i = ((EReal.toReal (x5 i) : ℝ) : EReal)) := by
  have e := congrFun h ix0
  dsimp only [fn] at e
  obtain ⟨e, e5⟩ := IntOp.andi_eq_one.1 e
  obtain ⟨e3, e4⟩ := IntOp.andi_eq_one.1 e
  exact ⟨fun i => Pre.real_of_abs (Host.reduce_andi_all _ _ _ _ _ e3 i), fun i => Pre.real_of_abs (Host.reduce_andi_all _ _ _ _ _ e4 i),
    fun i => Pre.real_of_abs (Host.reduce_andi_all _ _ _ _ _ e5 i)⟩
end

/-! ## The reference -/

section
open Cert.Reference6Ideal Cert.Reference6Ideal.Gen Cert.Reference6Ideal.Read

variable (x0 : (⟨S256x256, .bf16⟩ : BufTy).Contents (Elt Ideal)) (x1 : (⟨S256x512, .bf16⟩ : BufTy).Contents (Elt Ideal))
  (x2 : (⟨S128x32x64, .bf16⟩ : BufTy).Contents (Elt Ideal)) (x3 : (⟨S4x4096x1024, .f32⟩ : BufTy).Contents (Elt Ideal)) (x4 : (⟨S1x1024, .f32⟩ : BufTy).Contents (Elt Ideal))
  (x5 x6 : (⟨S1024x1024, .bf16⟩ : BufTy).Contents (Elt Ideal)) (x7 : (⟨S1x1024, .f32⟩ : BufTy).Contents (Elt Ideal))

/-- The reference's normalised rows. -/
theorem norm_at (j : S4x4096x1024.Idx) : val_main_v16 (F := Ideal) x3 x4 j
    = normF (at3 (a := 4) (b := 4096) (c := 1024) x3 (j 0).val (j 1).val) (at2 (a := 1) (b := 1024) x4) (j 2).val := by
  have e0 : (val_main_cst (F := Ideal) (Shape.Idx.first h_S_) : EReal) = 0 := by
    rw [val_main_cst_apply, Ideal.ofBits_def]
    simp
  have he : (j 2).val % 1024 = (j 2).val := Nat.mod_eq_of_lt (j 2).isLt
  rw [val_main_v16_apply, val_main_v13_apply, val_main_v12_apply, val_main_v11_apply, val_main_v10_apply, val_main_v8_apply, val_main_v6_apply, val_main_v5_apply, e0, zero_add,
    val_main_v7_apply, val_main_cst_0_apply, val_main_v9_apply, val_main_cst_1_apply, val_main_v15_apply, val_main_v14_apply, val_main_v3_apply]
  simp only [val_main_v4_apply, Ideal.mulf_def, Ideal.addf_def, Ideal.hostDivf_def, Ideal.hostUnary_rsqrt_def, Ideal.ofBits_def,
    idx3 (a := 4) (b := 4096) (c := 1024) x3, idx2 (a := 1) (b := 1024) x4]
  rw [normF]
  congr 1
  show at2 (a := 1) (b := 1024) x4 0 ((j 2).val % 1024) = _
  rw [he]

/-- The index of a channel, put together from its group and the channel in it, and the row from its block and its position. -/
theorem join_row (b r n q e : ℕ) (hr : r < 128) (hn : n < 32) (hq : q < 4) (he : e < 256) :
    ((((b * 128 + r) * 32 + n) * 4 + q) * 256 + e) / 4194304 = b ∧ ((((b * 128 + r) * 32 + n) * 4 + q) * 256 + e) / 1024 % 4096 = r * 32 + n
      ∧ ((((b * 128 + r) * 32 + n) * 4 + q) * 256 + e) % 1024 = q * 256 + e := by
  refine ⟨?_, ?_, ?_⟩ <;> omega

/-- The normalised rows by groups of channels. -/
theorem group_at (i : S4x128x32x4x256.Idx) : val_main_v17 (F := Ideal) x3 x4 i
    = normF (at3 (a := 4) (b := 4096) (c := 1024) x3 (i 0).val ((i 1).val * 32 + (i 2).val)) (at2 (a := 1) (b := 1024) x4) ((i 3).val * 256 + (i 4).val) := by
  obtain ⟨e0, e1, e2⟩ := join_row (i 0).val (i 1).val (i 2).val (i 3).val (i 4).val (i 1).isLt (i 2).isLt (i 3).isLt (i 4).isLt
  rw [val_main_v17_apply, norm_at]
  show normF (at3 (a := 4) (b := 4096) (c := 1024) x3 (_ / 4194304) (_ / 1024 % 4096)) _ (_ % 1024) = _
  rw [e0, e1, e2]

/-- The channel transform's cosine half. -/
theorem re_at (j : S4x128x32x1024.Idx) : val_main_v20 (F := Ideal) x1 x3 x4 j
    = dF (normF (at3 (a := 4) (b := 4096) (c := 1024) x3 (j 0).val ((j 1).val * 32 + (j 2).val)) (at2 (a := 1) (b := 1024) x4)) (at2 (a := 256) (b := 512) x1)
        ((j 3).val / 256) (0 * 256 + (j 3).val % 256) := by
  obtain ⟨e0, e1, e2, e3, e4⟩ := split_channel (j 0).val (j 1).val (j 2).val (j 3).val (j 1).isLt (j 2).isLt (j 3).isLt
  rw [val_main_v20_apply, val_main_v19_apply, dF]
  refine Finset.sum_congr rfl fun e _ => ?_
  rw [group_at, val_main_v18_apply, val_main_v1_apply, Ideal.extf_def, idx2 (a := 256) (b := 512) x1, Nat.zero_mul, Nat.zero_add]
  show normF (at3 (a := 4) (b := 4096) (c := 1024) x3 (_ / 4194304) (_ / 32768 % 128 * 32 + _ / 1024 % 32)) _ (_ / 256 % 4 * 256 + e.val)
    * at2 (a := 256) (b := 512) x1 e.val (_ % 256) = _
  rw [e0, e1, e2, e3, e4]

/-- The channel transform's sine half. -/
theorem im_at (j : S4x128x32x1024.Idx) : val_main_v23 (F := Ideal) x1 x3 x4 j
    = dF (normF (at3 (a := 4) (b := 4096) (c := 1024) x3 (j 0).val ((j 1).val * 32 + (j 2).val)) (at2 (a := 1) (b := 1024) x4)) (at2 (a := 256) (b := 512) x1)
        ((j 3).val / 256) (1 * 256 + (j 3).val % 256) := by
  obtain ⟨e0, e1, e2, e3, e4⟩ := split_channel (j 0).val (j 1).val (j 2).val (j 3).val (j 1).isLt (j 2).isLt (j 3).isLt
  rw [val_main_v23_apply, val_main_v22_apply, dF]
  refine Finset.sum_congr rfl fun e _ => ?_
  rw [group_at, val_main_v21_apply, val_main_v1_apply, Ideal.extf_def, idx2 (a := 256) (b := 512) x1, Nat.one_mul]
  show normF (at3 (a := 4) (b := 4096) (c := 1024) x3 (_ / 4194304) (_ / 32768 % 128 * 32 + _ / 1024 % 32)) _ (_ / 256 % 4 * 256 + e.val)
    * at2 (a := 256) (b := 512) x1 e.val (256 + _ % 256) = _
  rw [e0, e1, e2, e3, e4]

/-- The transform over the blocks of rows: the real parts. -/
theorem low_at (j : S4x128x32x1024.Idx) : val_main_v32 (F := Ideal) x0 x1 x3 x4 j = yX x0 x1 x4 x3 (j 0).val 0 (j 1).val (j 2).val (j 3).val := by
  rw [val_main_v32_apply, val_main_v28_apply, val_main_v27_apply, val_main_v31_apply, val_main_v30_apply, Ideal.addf_def, yX, resF, yF, Nat.zero_mul 128, Nat.zero_add (j 1).val]
  refine congrArg₂ (· + ·) (Finset.sum_congr rfl fun k _ => ?_) (Finset.sum_congr rfl fun k _ => ?_)
  · rw [re_at, val_main_v26_apply, val_main_v25_apply, val_main_v0_apply, Ideal.extf_def, idx2 (a := 256) (b := 256) x0, mul_comm]
  · rw [im_at, val_main_v29_apply, val_main_v25_apply, val_main_v0_apply, Ideal.extf_def, idx2 (a := 256) (b := 256) x0, mul_comm]

/-- The transform over the blocks of rows: the imaginary parts. -/
theorem high_at (j : S4x128x32x1024.Idx) : val_main_v43 (F := Ideal) x0 x1 x3 x4 j = yX x0 x1 x4 x3 (j 0).val 1 (j 1).val (j 2).val (j 3).val := by
  rw [val_main_v43_apply, val_main_v39_apply, val_main_v38_apply, val_main_v42_apply, val_main_v41_apply, Ideal.addf_def, yX, resF, yF]
  refine congrArg₂ (· + ·) (Finset.sum_congr rfl fun k _ => ?_) (Finset.sum_congr rfl fun k _ => ?_)
  · rw [re_at, val_main_v37_apply, val_main_v36_apply, val_main_v0_apply, Ideal.extf_def, idx2 (a := 256) (b := 256) x0, mul_comm, Nat.one_mul]
  · rw [im_at, val_main_v40_apply, val_main_v36_apply, val_main_v0_apply, Ideal.extf_def, idx2 (a := 256) (b := 256) x0, mul_comm, Nat.one_mul]

/-- The reference's mixed rows. -/
theorem mix_at (j : S4x32x128x1024.Idx) : val_main_v46 (F := Ideal) x0 x1 x2 x3 x4 j = fX x0 x1 x2 x3 x4 (j 0).val (j 1).val (j 2).val (j 3).val := by
  rw [val_main_v46_apply, val_main_v34_apply, val_main_v33_apply, val_main_v45_apply, val_main_v44_apply, Ideal.addf_def, fX, fF]
  refine congrArg₂ (· + ·) (Finset.sum_congr rfl fun n _ => ?_) (Finset.sum_congr rfl fun n _ => ?_)
  · rw [low_at, val_main_v24_apply, val_main_v2_apply, Ideal.extf_def, idx3 (a := 128) (b := 32) (c := 64) x2, mul_comm]
  · rw [high_at, val_main_v35_apply, val_main_v2_apply, Ideal.extf_def, idx3 (a := 128) (b := 32) (c := 64) x2, mul_comm]

/-- The index of a row, split into its block and its position. -/
theorem split_row (b s d : ℕ) (hs : s < 4096) (hd : d < 1024) :
    ((b * 4096 + s) * 1024 + d) / 4194304 = b ∧ ((b * 4096 + s) * 1024 + d) / 131072 % 32 = s / 128
      ∧ ((b * 4096 + s) * 1024 + d) / 1024 % 128 = s % 128 ∧ ((b * 4096 + s) * 1024 + d) % 1024 = d := by
  refine ⟨?_, ?_, ?_, ?_⟩ <;> omega

/-- The mixed rows in the order of the residual's. -/
theorem mixed_at (j : S4x4096x1024.Idx) : val_main_v49 (F := Ideal) x0 x1 x2 x3 x4 j
    = fX x0 x1 x2 x3 x4 (j 0).val ((j 1).val / 128) ((j 1).val % 128) (j 2).val := by
  obtain ⟨e0, e1, e2, e3⟩ := split_row (j 0).val (j 1).val (j 2).val (j 1).isLt (j 2).isLt
  rw [val_main_v49_apply, mix_at]
  show fX x0 x1 x2 x3 x4 (_ / 4194304) (_ / 131072 % 32) (_ / 1024 % 128) (_ % 1024) = _
  rw [e0, e1, e2, e3]

/-- The reference's gate before its sigmoid. -/
theorem gate_at (j : S4x4096x1024.Idx) : val_main_v48 (F := Ideal) x3 x4 x5 j
    = zF (fun _ => at3 (a := 4) (b := 4096) (c := 1024) x3 (j 0).val (j 1).val) (at2 (a := 1) (b := 1024) x4) (at2 (a := 1024) (b := 1024) x5) 0 (j 2).val := by
  rw [val_main_v48_apply]
  unfold zF
  refine Finset.sum_congr rfl fun e _ => ?_
  rw [norm_at, val_main_v47_apply, Ideal.extf_def, idx2 (a := 1024) (b := 1024) x5]
  rfl

/-- The reference's gate. -/
theorem silu_at (j : S4x4096x1024.Idx) :
    val_main_v50 (F := Ideal) x3 x4 x5 j = val_main_v48 (F := Ideal) x3 x4 x5 j * Ideal.logistic (val_main_v48 (F := Ideal) x3 x4 x5 j) := by
  have e1 : Ideal.ofBits .f32 0x3F800000#32 = 1 := by simp
  rw [val_main_v50_apply, val_main_call0_v5_apply, val_main_call0_v4_apply, val_main_call0_cst_0_apply, val_main_call0_v3_apply, val_main_call0_v2_apply, val_main_call0_cst_apply,
    val_main_call0_v1_apply, val_main_call0_v0_apply, Ideal.ofBits_def, e1]
  rfl

variable (h3 : ∀ i, x3 i = ((EReal.toReal (x3 i) : ℝ) : EReal)) (h4 : ∀ i, x4 i = ((EReal.toReal (x4 i) : ℝ) : EReal))
  (h5 : ∀ i, x5 i = ((EReal.toReal (x5 i) : ℝ) : EReal))

include h3 h4 h5 in
/-- The reference's rows before the last norm. -/
theorem pre_at (j : S4x4096x1024.Idx) : val_main_v54 (F := Ideal) x0 x1 x2 x3 x4 x5 x6 j
    = preF (at3 (a := 4) (b := 4096) (c := 1024) x3 (j 0).val (j 1).val) (fX x0 x1 x2 x3 x4 (j 0).val ((j 1).val / 128) ((j 1).val % 128))
        (at2 (a := 1) (b := 1024) x4) (at2 (a := 1024) (b := 1024) x5) (at2 (a := 1024) (b := 1024) x6) (j 2).val := by
  rw [val_main_v54_apply, val_main_v53_apply, Ideal.addf_def, preF, outF]
  refine congrArg₂ (· + ·) (idx3 (a := 4) (b := 4096) (c := 1024) x3 j) (Finset.sum_congr rfl fun e _ => ?_)
  rw [val_main_v51_apply, val_main_v52_apply, Ideal.mulf_def, Ideal.extf_def, mixed_at, silu_at, gate_at, idx2 (a := 1024) (b := 1024) x6,
    gF_eq _ _ _ _ _ (Pre.gate_real (fun _ c => EReal.toReal (at3 (a := 4) (b := 4096) (c := 1024) x3 (j 0).val (j 1).val c)) _ _
      (fun _ c => Pre.at3_real h3 _ _ c) (fun r c => Pre.at2_real h4 r c) (fun r c => Pre.at2_real h5 r c) 0 e.val)]

include h3 h4 h5 in
/-- The reference's result. -/
theorem ref_out : val_main_v68 (F := Ideal) x0 x1 x2 x3 x4 x5 x6 x7 = fun j : S4x4096x1024.Idx =>
    resX x0 x1 x2 x3 x4 x5 x6 x7 (j 0).val (j 1).val (j 2).val := by
  funext j
  have e0 : (val_main_cst_2 (F := Ideal) (Shape.Idx.first h_S_) : EReal) = 0 := by
    rw [val_main_cst_2_apply, Ideal.ofBits_def]
    simp
  have he : (j 2).val % 1024 = (j 2).val := Nat.mod_eq_of_lt (j 2).isLt
  rw [val_main_v68_apply, val_main_v65_apply, val_main_v64_apply, val_main_v63_apply, val_main_v62_apply, val_main_v60_apply, val_main_v58_apply, val_main_v57_apply, e0, zero_add,
    val_main_v59_apply, val_main_cst_3_apply, val_main_v61_apply, val_main_cst_4_apply, val_main_v67_apply, val_main_v66_apply, val_main_v55_apply]
  simp only [val_main_v56_apply, Ideal.mulf_def, Ideal.addf_def, Ideal.hostDivf_def, Ideal.hostUnary_rsqrt_def, Ideal.ofBits_def,
    pre_at x0 x1 x2 x3 x4 x5 x6 h3 h4 h5, idx2 (a := 1) (b := 1024) x7]
  rw [resX, normF]
  congr 1
  show at2 (a := 1) (b := 1024) x7 0 ((j 2).val % 1024) = _
  rw [he]
end

/-- The program of the two calls and its reference end with the same array, from a memory where the residual, the gain and the
    gate's weights are finite. -/
theorem fourier : Cert.algebraic_Kernel6Ideal_Reference6Ideal_pre_finite_fourier := by
  intro m g m' g' hpre hagree
  refine ⟨fun c => Cert.Kernel6Ideal.Gen.W5 m g c (Proc.devRef .tc Cert.Kernel6Ideal.main_v4), run m g, ?_⟩
  refine (θ_run Cert.Reference6Ideal.defs _ _).mono (fun r h c => ⟨(h c).1.trans ?_, (h c).2⟩) (Cert.Reference6Ideal.Value.run (F := Ideal) m' g')
  obtain ⟨a0, a1, a2, a3, a4, a5, a6, a7⟩ := hagree c
  obtain ⟨h3, h4, h5⟩ := split_fourier (hpre c)
  refine Eq.trans ?_ (result m g c).symm
  rw [Cert.Reference6Ideal.Read.val_main_v68_eq, a0, a1, a2, a3, a4, a5, a6, a7]
  exact ref_out _ _ _ _ _ _ _ _ h3 h4 h5

end Cert.Proof.Fourier

end
-- ==== Proof.FourierPromptCalls.lean ====
/- THE TWO HALVES OF THE DFT IN ONE PROGRAM AT THE PROMPT'S SHAPES: each call's output array as a function of the contents the call is entered with. -/
module

public import proofs.«01_k».proof.Proof.Stage1
public import proofs.«01_k».proof.Proof.Stage2Prompt
public import proofs.«01_k».proof.Proof.Gen.Kernel7Ideal.Frame

@[expose] public section

noncomputable section

namespace Cert.Proof.FourierP

open Idealize.ShloMosaic Idealize.ShloMosaic.TcCoe Idealize.SL.Sem Cert.Proof.Reads Cert.Proof.Values Cert.Proof.Stage1
open Cert.Proof.Stage2 (at4 at5 idx4 idx5 fF preF normF preF_congr normF_congr)
open Cert.Proof.Stage2P (resK tileF tileR)
open Cert.Kernel7Ideal Cert.Kernel7Ideal.Gen

variable (V : (c : Dev nD) → (b : Ref sig .tc) → Buf (Elt Ideal) ((c : Thread nD τ).loc b))

/-! ## The first call -/

set_option maxRecDepth 65536 in
/-- The body's stores are those of the first half's own program. -/
theorem out0_same {F : FTy → Type} [FloatOps F] (x0 : Vec F S256x256 .bf16) (x1 : Vec F S256x512 .bf16) (x2 : Vec F S1x1024 .f32) (x3 : Vec F S1x128x16x1024 .f32) :
    out0_4 (F := F) x0 x1 x2 x3 = Cert.Kernel4Ideal.Gen.out0_4 (F := F) x0 x1 x2 x3 := by
  rfl

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![(grid0.coords t 0).val, 0, (grid0.coords t 1).val, 0] := (by decide +kernel : ∀ t : Fin grid0.N, _)
theorem index0_4 : ∀ t : Fin cfg0.N, win0_4.index t = ![(grid0.coords t 0).val, 0, 0, (grid0.coords t 1).val, 0] := (by decide +kernel : ∀ t : Fin grid0.N, _)

theorem block0_0 (c : Dev nD) (t : Fin cfg0.N) : iblk0 (F := Ideal) V c 0 t = V c main_arg0 := by
  funext y
  rw [iblk0]
  blk_simp
  congr 1
  blk_ext [index0_0]

theorem block0_1 (c : Dev nD) (t : Fin cfg0.N) : iblk0 (F := Ideal) V c 1 t = V c main_arg1 := by
  funext y
  rw [iblk0]
  blk_simp
  congr 1
  blk_ext [index0_1]

theorem block0_2 (c : Dev nD) (t : Fin cfg0.N) : iblk0 (F := Ideal) V c 2 t = V c main_arg4 := by
  funext y
  rw [iblk0]
  blk_simp
  congr 1
  blk_ext [index0_2]

theorem block0_3 (c : Dev nD) (t : Fin cfg0.N) (k j d : ℕ) (hk : k < 128) (hj : j < 16) (hd : d < 1024) :
    at4 (a := 1) (b := 128) (c := 16) (d := 1024) (iblk0 (F := Ideal) V c 3 t) 0 k j d
      = at4 (a := 2) (b := 128) (c := 128) (d := 1024) (V c main_v0) (grid0.coords t 0).val k ((grid0.coords t 1).val * 16 + j) d := by
  have hb : (grid0.coords t 0).val < 2 := (grid0.coords t 0).isLt
  have hi : (grid0.coords t 1).val < 8 := (grid0.coords t 1).isLt
  rw [at4, dif_pos ⟨by omega, hk, hj, hd⟩, at4, dif_pos ⟨hb, hk, by omega, hd⟩]
  blk_ext [iblk0, index0_3]

/-- The first call's output array. -/
theorem final0 (c : Dev nD) : (dat0 (F := Ideal) V c).arrAt 4 cfg0.N = fun j : S2x2x128x128x1024.Idx =>
    resF (at2 (a := 256) (b := 256) (V c main_arg0)) (at2 (a := 256) (b := 512) (V c main_arg1)) (at2 (a := 1) (b := 1024) (V c main_arg4))
      (fun r => at4 (a := 2) (b := 128) (c := 128) (d := 1024) (V c main_v0) (j 0).val r (j 3).val) (j 1).val (j 2).val (j 4).val := by
  refine (dat0 V c).arrAt_eq_of_covers 4 _ (by decide +kernel) fun t hf y => ?_
  have hb : (grid0.coords t 0).val < 2 := (grid0.coords t 0).isLt
  have hi : (grid0.coords t 1).val < 8 := (grid0.coords t 1).isLt
  have h0 : (y 0).val < 1 := (y 0).isLt
  have h1 : (y 1).val < 2 := (y 1).isLt
  have h2 : (y 2).val < 128 := (y 2).isLt
  have h3 : (y 3).val < 16 := (y 3).isLt
  have h4 : (y 4).val < 1024 := (y 4).isLt
  blk_simp [index0_4]
  rw [after0_4, out0_same, block0_0, block0_1, block0_2]
  refine (Stage1.out_apply _ _ _ _ _).trans ?_
  refine (resF_congr _ _ _ (fun k hk e he => block0_3 V c t _ _ _ hk h3 he) _ _ _ h4).trans ?_
  rfl

/-! ## The second call -/

section
variable {F : FTy → Type} [FloatOps F]
variable (arg2 : Memref sig .tc .vmem S1x2x8x128x1024 .bf16) (harg2 : arg2.IsWhole) (arg3 : Memref sig .tc .vmem S8x128x256 .bf16) (harg3 : arg3.IsWhole)
  (arg4 : Memref sig .tc .vmem S1x128x8x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x128x8x1024 .f32) (harg9 : arg9.IsWhole)
  (arg10 : Memref sig .tc .vmem S128x8x1024 .f32) (harg10 : arg10.IsWhole)
  (x0 : Vec F S1x2x8x128x1024 .bf16) (x1 : Vec F S8x128x256 .bf16) (x2 : Vec F S1x128x8x1024 .f32) (x3 : Vec F S1x1024 .f32)
  (x4 : Vec F S1024x1024 .bf16) (x5 : Vec F S1024x1024 .bf16) (x6 : Vec F S1x1024 .f32)

set_option maxRecDepth 65536 in
/-- The output stores of the body are those of the second half's lists. -/
theorem run1_eq (c : Dev nD) (i : grid1.Coords) :
    (kernelRun1_A (F := F) c i arg2 harg2 arg3 harg3 arg4 harg4 arg5 harg5 arg6 harg6 arg7 harg7 arg8 harg8 arg9 harg9 arg10 harg10 x0 x1 x2 x3 x4 x5 x6).1
      = Stage2P.outL arg2 harg2 arg3 harg3 arg4 harg4 arg5 harg5 arg6 harg6 arg7 harg7 arg8 harg8 arg10 x0 x1 x2 x3 x4 x5 x6 := by
  sl_kernel_rfl
end

section
variable (arg2 : Memref sig .tc .vmem S1x2x8x128x1024 .bf16) (harg2 : arg2.IsWhole) (arg3 : Memref sig .tc .vmem S8x128x256 .bf16) (harg3 : arg3.IsWhole)
  (arg4 : Memref sig .tc .vmem S1x128x8x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x128x8x1024 .f32) (harg9 : arg9.IsWhole)
  (arg10 : Memref sig .tc .vmem S128x8x1024 .f32) (harg10 : arg10.IsWhole)
  (x0 : Vec Ideal S1x2x8x128x1024 .bf16) (x1 : Vec Ideal S8x128x256 .bf16) (x2 : Vec Ideal S1x128x8x1024 .f32) (x3 : Vec Ideal S1x1024 .f32)
  (x4 : Vec Ideal S1024x1024 .bf16) (x5 : Vec Ideal S1024x1024 .bf16) (x6 : Vec Ideal S1x1024 .f32)

/-- What one grid point of the second call leaves in its output block. -/
theorem tile1_apply (c : Dev nD) (i : grid1.Coords) (y : S1x128x8x1024.Idx) :
    out1_A_7 (F := Ideal) c i arg2 harg2 arg3 harg3 arg4 harg4 arg5 harg5 arg6 harg6 arg7 harg7 arg8 harg8 arg9 harg9 arg10 harg10 x0 x1 x2 x3 x4 x5 x6 y
      = tileR x0 x1 x2 x3 x4 x5 x6 (y 1).val (y 2).val (y 3).val := by
  rw [out1_A_7, View.read_writes_junk_eq_canon, run1_eq]
  exact Stage2P.out_canon arg2 harg2 arg3 harg3 arg4 harg4 arg5 harg5 arg6 harg6 arg7 harg7 arg8 harg8 arg10 x0 x1 x2 x3 x4 x5 x6 y
end

theorem index1_0 : ∀ t : Fin cfg1.N, win1_0.index t = ![(grid1.coords t 0).val, 0, (grid1.coords t 1).val, 0, 0] := (by decide +kernel : ∀ t : Fin grid1.N, _)
theorem index1_1 : ∀ t : Fin cfg1.N, win1_1.index t = ![(grid1.coords t 1).val, 0, 0] := (by decide +kernel : ∀ t : Fin grid1.N, _)
theorem index1_2 : ∀ t : Fin cfg1.N, win1_2.index t = ![(grid1.coords t 0).val, 0, (grid1.coords t 1).val, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![(grid1.coords t 0).val, 0, (grid1.coords t 1).val, 0] := (by decide +kernel : ∀ t : Fin grid1.N, _)

theorem block1_0 (c : Dev nD) (t : Fin cfg1.N) (h j n d : ℕ) (hh : h < 2) (hj : j < 8) (hn : n < 128) (hd : d < 1024) :
    at5 (a := 1) (b := 2) (c := 8) (d := 128) (e := 1024) (iblk1 (F := Ideal) V c 0 t) 0 h j n d
      = at5 (a := 2) (b := 2) (c := 128) (d := 128) (e := 1024) (V c main_v1) (grid1.coords t 0).val h ((grid1.coords t 1).val * 8 + j) n d := by
  have hb : (grid1.coords t 0).val < 2 := (grid1.coords t 0).isLt
  have hi : (grid1.coords t 1).val < 16 := (grid1.coords t 1).isLt
  rw [at5, dif_pos ⟨by omega, hh, hj, hn, hd⟩, at5, dif_pos ⟨hb, hh, by omega, hn, hd⟩]
  blk_ext [iblk1, index1_0]

theorem block1_1 (c : Dev nD) (t : Fin cfg1.N) (j k n : ℕ) (hj : j < 8) (hk : k < 128) (hn : n < 256) :
    at3 (a := 8) (b := 128) (c := 256) (iblk1 (F := Ideal) V c 1 t) j k n
      = at3 (a := 128) (b := 128) (c := 256) (V c main_arg2) ((grid1.coords t 1).val * 8 + j) k n := by
  have hi : (grid1.coords t 1).val < 16 := (grid1.coords t 1).isLt
  rw [at3, dif_pos ⟨hj, hk, hn⟩, at3, dif_pos ⟨by omega, hk, hn⟩]
  blk_ext [iblk1, index1_1]

theorem block1_2 (c : Dev nD) (t : Fin cfg1.N) (k j d : ℕ) (hk : k < 128) (hj : j < 8) (hd : d < 1024) :
    at4 (a := 1) (b := 128) (c := 8) (d := 1024) (iblk1 (F := Ideal) V c 2 t) 0 k j d
      = at4 (a := 2) (b := 128) (c := 128) (d := 1024) (V c main_v2) (grid1.coords t 0).val k ((grid1.coords t 1).val * 8 + j) d := by
  have hb : (grid1.coords t 0).val < 2 := (grid1.coords t 0).isLt
  have hi : (grid1.coords t 1).val < 16 := (grid1.coords t 1).isLt
  rw [at4, dif_pos ⟨by omega, hk, hj, hd⟩, at4, dif_pos ⟨hb, hk, by omega, hd⟩]
  blk_ext [iblk1, index1_2]

theorem block1_3 (c : Dev nD) (t : Fin cfg1.N) : iblk1 (F := Ideal) V c 3 t = V c main_arg4 := by
  funext y
  rw [iblk1]
  blk_simp
  congr 1
  blk_ext [index1_3]

theorem block1_4 (c : Dev nD) (t : Fin cfg1.N) : iblk1 (F := Ideal) V c 4 t = V c main_arg5 := by
  funext y
  rw [iblk1]
  blk_simp
  congr 1
  blk_ext [index1_4]

theorem block1_5 (c : Dev nD) (t : Fin cfg1.N) : iblk1 (F := Ideal) V c 5 t = V c main_arg6 := by
  funext y
  rw [iblk1]
  blk_simp
  congr 1
  blk_ext [index1_5]

theorem block1_6 (c : Dev nD) (t : Fin cfg1.N) : iblk1 (F := Ideal) V c 6 t = V c main_arg7 := by
  funext y
  rw [iblk1]
  blk_simp
  congr 1
  blk_ext [index1_6]

/-- The second call's output array. -/
theorem final1 (c : Dev nD) : (dat1 (F := Ideal) V c).arrAt 7 cfg1.N = fun j : S2x128x128x1024.Idx =>
    resK (V c main_v1) (V c main_arg2) (V c main_v2) (V c main_arg4)
      (V c main_arg5) (V c main_arg6) (V c main_arg7) (j 0).val (j 1).val (j 2).val (j 3).val := by
  refine (dat1 V c).arrAt_eq_of_covers 7 _ (by decide +kernel) fun t hf y => ?_
  have hb : (grid1.coords t 0).val < 2 := (grid1.coords t 0).isLt
  have hi : (grid1.coords t 1).val < 16 := (grid1.coords t 1).isLt
  have h0 : (y 0).val < 1 := (y 0).isLt
  have h1 : (y 1).val < 128 := (y 1).isLt
  have h2 : (y 2).val < 8 := (y 2).isLt
  have h3 : (y 3).val < 1024 := (y 3).isLt
  blk_simp [index1_7]
  rw [after1_7, outsAt1, tile1_apply, block1_3, block1_4, block1_5, block1_6, tileR, resK]
  have hF : ∀ k, k < 1024 → tileF (iblk1 (F := Ideal) V c 0 t) (iblk1 (F := Ideal) V c 1 t) (y 1).val (y 2).val k
      = fF 128 (at3 (a := 128) (b := 128) (c := 256) (V c main_arg2) ((grid1.coords t 1).val * 8 + (y 2).val))
          (fun h => at5 (a := 2) (b := 2) (c := 128) (d := 128) (e := 1024) (V c main_v1) (grid1.coords t 0).val h ((grid1.coords t 1).val * 8 + (y 2).val)) (y 1).val k := by
    intro k hk
    rw [tileF, fF, fF]
    exact congrArg₂ (· + ·)
      (Finset.sum_congr rfl fun n _ => by rw [block1_1 V c t _ _ _ h2 h1 (by omega), block1_0 V c t _ _ _ _ (by omega) h2 n.isLt hk])
      (Finset.sum_congr rfl fun n _ => by rw [block1_1 V c t _ _ _ h2 h1 (by omega), block1_0 V c t _ _ _ _ (by omega) h2 n.isLt hk])
  refine (normF_congr _ (fun e he => preF_congr _ _ _ (fun k hk => block1_2 V c t _ _ _ h1 h2 hk) hF e he) _ h3).trans ?_
  rfl

end Cert.Proof.FourierP

end
-- ==== Proof.FourierPrompt.lean ====
/- THE TWO HALVES OF THE DFT IN ONE PROGRAM AT THE PROMPT'S SHAPES: what each call leaves of the contents it is entered with, and what the program ends with. -/
module

public import proofs.«01_k».proof.Proof.FourierPromptCalls
public import proofs.«01_k».proof.Proof.Gen.Kernel7Ideal.Frame
public import Idealize.ShloMosaic.Lib.StableHlo.ReadAt

@[expose] public section

set_option maxRecDepth 16384

noncomputable section

namespace Cert.Proof.FourierP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal Cert.Kernel7Ideal.Gen

/-! ## The run, with every buffer's contents at its end -/

section
variable {F : FTy → Type} [FloatOps F]
variable (m : (ℓ : Loc nD τ sig) → Buf (Elt F) ℓ) (ρ : Dev nD → PrngReg)

set_option backward.isDefEq.respectTransparency.types false in
/-- The run ends with every buffer of a core at the contents of the last boundary. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The run names the result and leaves the arguments as they were. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v4 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run_all m ρ)
end

/-! ## The values at the boundaries -/

section
open Cert.Proof.Reads Cert.Proof.Values Cert.Proof.Stage1
open Cert.Proof.Stage2 (at4 at5 idx4 idx5 fF preF normF preF_congr normF_congr)
open Cert.Proof.Stage2P (resK)

variable (m : (ℓ : Loc nD τ sig) → Buf (Elt Ideal) ℓ) (ρ : Dev nD → PrngReg)

/-- The rows the first call reads. -/
theorem rows0 (c : Dev nD) (b k n d : ℕ) (hb : b < 2) (hk : k < 128) (hn : n < 128) (hd : d < 1024) :
    at4 (a := 2) (b := 128) (c := 128) (d := 1024) (V1 m ρ c main_v0) b k n d
      = at3 (a := 2) (b := 16384) (c := 1024) (m ((c : Thread nD τ).loc main_arg3)) b (k * 128 + n) d := by
  rw [at4, dif_pos ⟨hb, hk, hn, hd⟩, at3, dif_pos ⟨hb, by omega, hd⟩]
  show StableHlo.after hostOps0 (W0 m ρ c) (Proc.devRef .tc main_v0) _ = _
  after_reads_at

/-- The rows the second call reads. -/
theorem rows1 (c : Dev nD) (b k n d : ℕ) (hb : b < 2) (hk : k < 128) (hn : n < 128) (hd : d < 1024) :
    at4 (a := 2) (b := 128) (c := 128) (d := 1024) (V3 m ρ c main_v2) b k n d
      = at3 (a := 2) (b := 16384) (c := 1024) (m ((c : Thread nD τ).loc main_arg3)) b (k * 128 + n) d := by
  rw [at4, dif_pos ⟨hb, hk, hn, hd⟩, at3, dif_pos ⟨hb, by omega, hd⟩, ← W2_args m ρ c main_arg3 (by decide)]
  show StableHlo.after hostOps1 (W2 m ρ c) (Proc.devRef .tc main_v2) _ = _
  after_reads_at

/-- The program's result, a row of the second call's. -/
theorem rows2 (c : Dev nD) (b : Fin 2) (s : Fin 16384) (d : Fin 1024) :
    W5 m ρ c (Proc.devRef .tc main_v4) (ix3 b s d)
      = W4 m ρ c (Proc.devRef .tc main_v3) (ix4 b ⟨s.val / 128, by omega⟩ ⟨s.val % 128, by omega⟩ d) := by
  show StableHlo.after hostOps2 (W4 m ρ c) (Proc.devRef .tc main_v4) _ = _
  after_reads_at
/-- The first half's result from the rows of the residual. -/
def yX (w : (⟨2, ![256, 256]⟩ : Shape).Idx → EReal) (cs : (⟨2, ![256, 512]⟩ : Shape).Idx → EReal) (g : (⟨2, ![1, 1024]⟩ : Shape).Idx → EReal)
    (x : (⟨3, ![2, 16384, 1024]⟩ : Shape).Idx → EReal) (b h k n c : ℕ) : EReal :=
  resF (at2 w) (at2 cs) (at2 g) (fun r => at3 x b (r * 128 + n)) h k c

/-- The transform at block `k` and position `j` of a row of the residual. -/
def fX (w : (⟨2, ![256, 256]⟩ : Shape).Idx → EReal) (cs : (⟨2, ![256, 512]⟩ : Shape).Idx → EReal) (t : (⟨3, ![128, 128, 256]⟩ : Shape).Idx → EReal)
    (x : (⟨3, ![2, 16384, 1024]⟩ : Shape).Idx → EReal) (g : (⟨2, ![1, 1024]⟩ : Shape).Idx → EReal) (b k j d : ℕ) : EReal :=
  fF 128 (at3 t j) (fun h => yX w cs g x b h j) k d

/-- The layer's result at batch entry `b`, row `s`, channel `d`. -/
def resX (w : (⟨2, ![256, 256]⟩ : Shape).Idx → EReal) (cs : (⟨2, ![256, 512]⟩ : Shape).Idx → EReal) (t : (⟨3, ![128, 128, 256]⟩ : Shape).Idx → EReal)
    (x : (⟨3, ![2, 16384, 1024]⟩ : Shape).Idx → EReal) (g : (⟨2, ![1, 1024]⟩ : Shape).Idx → EReal) (wg wo : (⟨2, ![1024, 1024]⟩ : Shape).Idx → EReal)
    (gl : (⟨2, ![1, 1024]⟩ : Shape).Idx → EReal) (b s d : ℕ) : EReal :=
  normF (preF (at3 x b s) (fX w cs t x g b (s / 128) (s % 128)) (at2 g) (at2 wg) (at2 wo)) (at2 gl) d

/-- What the second call finds in the first one's output. -/
theorem mid (c : Dev nD) (b h j n d : ℕ) (hb : b < 2) (hh : h < 2) (hj : j < 128) (hn : n < 128) (hd : d < 1024) :
    at5 (a := 2) (b := 2) (c := 128) (d := 128) (e := 1024) (V3 m ρ c main_v1) b h j n d
      = yX (m ((c : Thread nD τ).loc main_arg0)) (m ((c : Thread nD τ).loc main_arg1)) (m ((c : Thread nD τ).loc main_arg4)) (m ((c : Thread nD τ).loc main_arg3)) b h j n d := by
  have e : V3 m ρ c main_v1 = _ := ((W3_of m ρ c main_v1 (by decide)).trans (W2_arr m ρ c 4)).trans (final0 (V1 m ρ) c)
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a4 : V1 m ρ c main_arg4 = m ((c : Thread nD τ).loc main_arg4) := W1_args m ρ c main_arg4 (by decide)
  rw [e, at5, dif_pos ⟨hb, hh, hj, hn, hd⟩, a0, a1, a4]
  exact resF_congr _ _ _ (fun k hk e he => rows0 m ρ c b k n e hb hk hn he) _ _ _ hd

/-- The program's result. -/
theorem result (c : Dev nD) : W5 m ρ c (Proc.devRef .tc main_v4) = fun j : S2x16384x1024.Idx =>
    resX (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (j 0).val (j 1).val (j 2).val := by
  funext j
  have hb : (j 0).val < 2 := (j 0).isLt
  have hs : (j 1).val < 16384 := (j 1).isLt
  have hd : (j 2).val < 1024 := (j 2).isLt
  have hk : (j 1).val / 128 < 128 := by omega
  have hj : (j 1).val % 128 < 128 := by omega
  have hr : (j 1).val / 128 * 128 + (j 1).val % 128 = (j 1).val := by omega
  have e : W4 m ρ c (Proc.devRef .tc main_v3) = _ := (W4_arr m ρ c 7).trans (final1 (V3 m ρ) c)
  have a2 : V3 m ρ c main_arg2 = m ((c : Thread nD τ).loc main_arg2) := W3_args m ρ c main_arg2 (by decide)
  have a4 : V3 m ρ c main_arg4 = m ((c : Thread nD τ).loc main_arg4) := W3_args m ρ c main_arg4 (by decide)
  have a5 : V3 m ρ c main_arg5 = m ((c : Thread nD τ).loc main_arg5) := W3_args m ρ c main_arg5 (by decide)
  have a6 : V3 m ρ c main_arg6 = m ((c : Thread nD τ).loc main_arg6) := W3_args m ρ c main_arg6 (by decide)
  have a7 : V3 m ρ c main_arg7 = m ((c : Thread nD τ).loc main_arg7) := W3_args m ρ c main_arg7 (by decide)
  refine (congrArg _ (eq_ix3 (n0 := 2) (n1 := 16384) (n2 := 1024) j)).trans ((rows2 m ρ c _ _ _).trans ?_)
  rw [e, a2, a4, a5, a6, a7, resX]
  show resK (V3 m ρ c main_v1) _ (V3 m ρ c main_v2) _ _ _ _ (j 0).val ((j 1).val / 128) ((j 1).val % 128) (j 2).val = _
  rw [resK]
  refine normF_congr _ (fun d hd => preF_congr _ _ _ (fun k hk' => ?_) (fun k hk' => ?_) d hd) _ hd
  · exact (rows1 m ρ c _ _ _ k hb hk hj hk').trans (by rw [hr])
  · rw [fX, fF, fF]
    exact congrArg₂ (· + ·)
      (Finset.sum_congr rfl fun n _ => by rw [mid m ρ c _ _ _ _ _ hb (by omega) hj n.isLt hk'])
      (Finset.sum_congr rfl fun n _ => by rw [mid m ρ c _ _ _ _ _ hb (by omega) hj n.isLt hk'])
end

end Cert.Proof.FourierP

end
-- ==== Proof.FourierPromptRef.lean ====
/- THE FOURIER LAYER AT THE PROMPT'S SHAPES, the reference: its norm, its two transforms, its gate, its residual and its last norm at one element, and the
   claim that the program of the two calls and its reference end with the same array. -/
module

public import proofs.«01_k».proof.Pre_finite_fourier_prompt
public import proofs.«01_k».proof.Defs
public import proofs.«01_k».proof.Proof.Pre
public import proofs.«01_k».proof.Proof.FourierPrompt
public import proofs.«01_k».proof.Proof.Stage1Ref
public import proofs.«01_k».proof.Proof.Gen.Reference7Ideal.Read
public import proofs.«01_k».proof.Proof.Gen.Reference7Ideal.Run
public import proofs.«01_k».proof.Proof.Gen.Pre_finite_fourier_prompt

@[expose] public section

noncomputable section

namespace Cert.Proof.FourierP

open Idealize.ShloMosaic Idealize.ShloMosaic.TcCoe Idealize.SL.Sem Cert.Proof.Reads Cert.Proof.Values Cert.Proof.Stage1
open Cert.Proof.Stage2 (fF preF normF)

/-! ## What the precondition gives -/

section
open Cert.Pre_finite_fourier_prompt

instance : Subsingleton Cert.Pre_finite_fourier_prompt.S_.Idx := ⟨fun a b => funext fun i => i.elim0⟩

/-- The residual, the gain and the gate's weights hold real numbers. -/
theorem split_fourier_prompt [Facts] {x0 x1 x2 x3 x4 x5 x6 x7} (h : fn (F := Ideal) x0 x1 x2 x3 x4 x5 x6 x7 = fun _ => 1#1) :
    (∀ i, x3 i = ((EReal.toReal (x3 i) : ℝ) : EReal)) ∧ (∀ i, x4 i = ((EReal.toReal (x4 i) : ℝ) : EReal))
      ∧ (∀ i, x5 i = ((EReal.toReal (x5 i) : ℝ) : EReal)) := by
  have e := congrFun h ix0
  dsimp only [fn] at e
  obtain ⟨e, e5⟩ := IntOp.andi_eq_one.1 e
  obtain ⟨e3, e4⟩ := IntOp.andi_eq_one.1 e
  exact ⟨fun i => Pre.real_of_abs (Host.reduce_andi_all _ _ _ _ _ e3 i), fun i => Pre.real_of_abs (Host.reduce_andi_all _ _ _ _ _ e4 i),
    fun i => Pre.real_of_abs (Host.reduce_andi_all _ _ _ _ _ e5 i)⟩
end

/-! ## The reference -/

section
open Cert.Reference7Ideal Cert.Reference7Ideal.Gen Cert.Reference7Ideal.Read

variable (x0 : (⟨S256x256, .bf16⟩ : BufTy).Contents (Elt Ideal)) (x1 : (⟨S256x512, .bf16⟩ : BufTy).Contents (Elt Ideal))
  (x2 : (⟨S128x128x256, .bf16⟩ : BufTy).Contents (Elt Ideal)) (x3 : (⟨S2x16384x1024, .f32⟩ : BufTy).Contents (Elt Ideal)) (x4 : (⟨S1x1024, .f32⟩ : BufTy).Contents (Elt Ideal))
  (x5 x6 : (⟨S1024x1024, .bf16⟩ : BufTy).Contents (Elt Ideal)) (x7 : (⟨S1x1024, .f32⟩ : BufTy).Contents (Elt Ideal))

/-- The reference's normalised rows. -/
theorem norm_at (j : S2x16384x1024.Idx) : val_main_v16 (F := Ideal) x3 x4 j
    = normF (at3 (a := 2) (b := 16384) (c := 1024) x3 (j 0).val (j 1).val) (at2 (a := 1) (b := 1024) x4) (j 2).val := by
  have e0 : (val_main_cst (F := Ideal) (Shape.Idx.first h_S_) : EReal) = 0 := by
    rw [val_main_cst_apply, Ideal.ofBits_def]
    simp
  have he : (j 2).val % 1024 = (j 2).val := Nat.mod_eq_of_lt (j 2).isLt
  rw [val_main_v16_apply, val_main_v13_apply, val_main_v12_apply, val_main_v11_apply, val_main_v10_apply, val_main_v8_apply, val_main_v6_apply, val_main_v5_apply, e0, zero_add,
    val_main_v7_apply, val_main_cst_0_apply, val_main_v9_apply, val_main_cst_1_apply, val_main_v15_apply, val_main_v14_apply, val_main_v3_apply]
  simp only [val_main_v4_apply, Ideal.mulf_def, Ideal.addf_def, Ideal.hostDivf_def, Ideal.hostUnary_rsqrt_def, Ideal.ofBits_def,
    idx3 (a := 2) (b := 16384) (c := 1024) x3, idx2 (a := 1) (b := 1024) x4]
  rw [normF]
  congr 1
  show at2 (a := 1) (b := 1024) x4 0 ((j 2).val % 1024) = _
  rw [he]

/-- The index of a channel, put together from its group and the channel in it, and the row from its block and its position. -/
theorem join_row (b r n q e : ℕ) (hr : r < 128) (hn : n < 128) (hq : q < 4) (he : e < 256) :
    ((((b * 128 + r) * 128 + n) * 4 + q) * 256 + e) / 16777216 = b ∧ ((((b * 128 + r) * 128 + n) * 4 + q) * 256 + e) / 1024 % 16384 = r * 128 + n
      ∧ ((((b * 128 + r) * 128 + n) * 4 + q) * 256 + e) % 1024 = q * 256 + e := by
  refine ⟨?_, ?_, ?_⟩ <;> omega

/-- The normalised rows by groups of channels. -/
theorem group_at (i : S2x128x128x4x256.Idx) : val_main_v17 (F := Ideal) x3 x4 i
    = normF (at3 (a := 2) (b := 16384) (c := 1024) x3 (i 0).val ((i 1).val * 128 + (i 2).val)) (at2 (a := 1) (b := 1024) x4) ((i 3).val * 256 + (i 4).val) := by
  obtain ⟨e0, e1, e2⟩ := join_row (i 0).val (i 1).val (i 2).val (i 3).val (i 4).val (i 1).isLt (i 2).isLt (i 3).isLt (i 4).isLt
  rw [val_main_v17_apply, norm_at]
  show normF (at3 (a := 2) (b := 16384) (c := 1024) x3 (_ / 16777216) (_ / 1024 % 16384)) _ (_ % 1024) = _
  rw [e0, e1, e2]

/-- The index of a channel, split into the row, the position, the group and the channel in it. -/
theorem split_channel (b m n c : ℕ) (hm : m < 128) (hn : n < 128) (hc : c < 1024) :
    (((b * 128 + m) * 128 + n) * 1024 + c) / 16777216 = b ∧ (((b * 128 + m) * 128 + n) * 1024 + c) / 131072 % 128 = m
      ∧ (((b * 128 + m) * 128 + n) * 1024 + c) / 1024 % 128 = n ∧ (((b * 128 + m) * 128 + n) * 1024 + c) / 256 % 4 = c / 256
      ∧ (((b * 128 + m) * 128 + n) * 1024 + c) % 256 = c % 256 := by
  refine ⟨?_, ?_, ?_, ?_, ?_⟩ <;> omega

/-- The channel transform's cosine half. -/
theorem re_at (j : S2x128x128x1024.Idx) : val_main_v20 (F := Ideal) x1 x3 x4 j
    = dF (normF (at3 (a := 2) (b := 16384) (c := 1024) x3 (j 0).val ((j 1).val * 128 + (j 2).val)) (at2 (a := 1) (b := 1024) x4)) (at2 (a := 256) (b := 512) x1)
        ((j 3).val / 256) (0 * 256 + (j 3).val % 256) := by
  obtain ⟨e0, e1, e2, e3, e4⟩ := split_channel (j 0).val (j 1).val (j 2).val (j 3).val (j 1).isLt (j 2).isLt (j 3).isLt
  rw [val_main_v20_apply, val_main_v19_apply, dF]
  refine Finset.sum_congr rfl fun e _ => ?_
  rw [group_at, val_main_v18_apply, val_main_v1_apply, Ideal.extf_def, idx2 (a := 256) (b := 512) x1, Nat.zero_mul, Nat.zero_add]
  show normF (at3 (a := 2) (b := 16384) (c := 1024) x3 (_ / 16777216) (_ / 131072 % 128 * 128 + _ / 1024 % 128)) _ (_ / 256 % 4 * 256 + e.val)
    * at2 (a := 256) (b := 512) x1 e.val (_ % 256) = _
  rw [e0, e1, e2, e3, e4]

/-- The channel transform's sine half. -/
theorem im_at (j : S2x128x128x1024.Idx) : val_main_v23 (F := Ideal) x1 x3 x4 j
    = dF (normF (at3 (a := 2) (b := 16384) (c := 1024) x3 (j 0).val ((j 1).val * 128 + (j 2).val)) (at2 (a := 1) (b := 1024) x4)) (at2 (a := 256) (b := 512) x1)
        ((j 3).val / 256) (1 * 256 + (j 3).val % 256) := by
  obtain ⟨e0, e1, e2, e3, e4⟩ := split_channel (j 0).val (j 1).val (j 2).val (j 3).val (j 1).isLt (j 2).isLt (j 3).isLt
  rw [val_main_v23_apply, val_main_v22_apply, dF]
  refine Finset.sum_congr rfl fun e _ => ?_
  rw [group_at, val_main_v21_apply, val_main_v1_apply, Ideal.extf_def, idx2 (a := 256) (b := 512) x1, Nat.one_mul]
  show normF (at3 (a := 2) (b := 16384) (c := 1024) x3 (_ / 16777216) (_ / 131072 % 128 * 128 + _ / 1024 % 128)) _ (_ / 256 % 4 * 256 + e.val)
    * at2 (a := 256) (b := 512) x1 e.val (256 + _ % 256) = _
  rw [e0, e1, e2, e3, e4]

/-- The transform over the blocks of rows: the real parts. -/
theorem low_at (j : S2x128x128x1024.Idx) : val_main_v32 (F := Ideal) x0 x1 x3 x4 j = yX x0 x1 x4 x3 (j 0).val 0 (j 1).val (j 2).val (j 3).val := by
  rw [val_main_v32_apply, val_main_v28_apply, val_main_v27_apply, val_main_v31_apply, val_main_v30_apply, Ideal.addf_def, yX, resF, yF, Nat.zero_mul 128, Nat.zero_add (j 1).val]
  refine congrArg₂ (· + ·) (Finset.sum_congr rfl fun k _ => ?_) (Finset.sum_congr rfl fun k _ => ?_)
  · rw [re_at, val_main_v26_apply, val_main_v25_apply, val_main_v0_apply, Ideal.extf_def, idx2 (a := 256) (b := 256) x0, mul_comm]
  · rw [im_at, val_main_v29_apply, val_main_v25_apply, val_main_v0_apply, Ideal.extf_def, idx2 (a := 256) (b := 256) x0, mul_comm]

/-- The transform over the blocks of rows: the imaginary parts. -/
theorem high_at (j : S2x128x128x1024.Idx) : val_main_v43 (F := Ideal) x0 x1 x3 x4 j = yX x0 x1 x4 x3 (j 0).val 1 (j 1).val (j 2).val (j 3).val := by
  rw [val_main_v43_apply, val_main_v39_apply, val_main_v38_apply, val_main_v42_apply, val_main_v41_apply, Ideal.addf_def, yX, resF, yF]
  refine congrArg₂ (· + ·) (Finset.sum_congr rfl fun k _ => ?_) (Finset.sum_congr rfl fun k _ => ?_)
  · rw [re_at, val_main_v37_apply, val_main_v36_apply, val_main_v0_apply, Ideal.extf_def, idx2 (a := 256) (b := 256) x0, mul_comm, Nat.one_mul]
  · rw [im_at, val_main_v40_apply, val_main_v36_apply, val_main_v0_apply, Ideal.extf_def, idx2 (a := 256) (b := 256) x0, mul_comm, Nat.one_mul]

/-- The reference's mixed rows. -/
theorem mix_at (j : S2x128x128x1024.Idx) : val_main_v46 (F := Ideal) x0 x1 x2 x3 x4 j = fX x0 x1 x2 x3 x4 (j 0).val (j 1).val (j 2).val (j 3).val := by
  rw [val_main_v46_apply, val_main_v34_apply, val_main_v33_apply, val_main_v45_apply, val_main_v44_apply, Ideal.addf_def, fX, fF]
  refine congrArg₂ (· + ·) (Finset.sum_congr rfl fun n _ => ?_) (Finset.sum_congr rfl fun n _ => ?_)
  · rw [low_at, val_main_v24_apply, val_main_v2_apply, Ideal.extf_def, idx3 (a := 128) (b := 128) (c := 256) x2, mul_comm]
  · rw [high_at, val_main_v35_apply, val_main_v2_apply, Ideal.extf_def, idx3 (a := 128) (b := 128) (c := 256) x2, mul_comm]

/-- The index of a row, split into its block and its position. -/
theorem split_row (b s d : ℕ) (hs : s < 16384) (hd : d < 1024) :
    ((b * 16384 + s) * 1024 + d) / 16777216 = b ∧ ((b * 16384 + s) * 1024 + d) / 131072 % 128 = s / 128
      ∧ ((b * 16384 + s) * 1024 + d) / 1024 % 128 = s % 128 ∧ ((b * 16384 + s) * 1024 + d) % 1024 = d := by
  refine ⟨?_, ?_, ?_, ?_⟩ <;> omega

/-- The mixed rows in the order of the residual's. -/
theorem mixed_at (j : S2x16384x1024.Idx) : val_main_v49 (F := Ideal) x0 x1 x2 x3 x4 j
    = fX x0 x1 x2 x3 x4 (j 0).val ((j 1).val / 128) ((j 1).val % 128) (j 2).val := by
  obtain ⟨e0, e1, e2, e3⟩ := split_row (j 0).val (j 1).val (j 2).val (j 1).isLt (j 2).isLt
  rw [val_main_v49_apply, mix_at]
  show fX x0 x1 x2 x3 x4 (_ / 16777216) (_ / 131072 % 128) (_ / 1024 % 128) (_ % 1024) = _
  rw [e0, e1, e2, e3]

/-- The reference's gate before its sigmoid. -/
theorem gate_at (j : S2x16384x1024.Idx) : val_main_v48 (F := Ideal) x3 x4 x5 j
    = zF (fun _ => at3 (a := 2) (b := 16384) (c := 1024) x3 (j 0).val (j 1).val) (at2 (a := 1) (b := 1024) x4) (at2 (a := 1024) (b := 1024) x5) 0 (j 2).val := by
  rw [val_main_v48_apply]
  unfold zF
  refine Finset.sum_congr rfl fun e _ => ?_
  rw [norm_at, val_main_v47_apply, Ideal.extf_def, idx2 (a := 1024) (b := 1024) x5]
  rfl

/-- The reference's gate. -/
theorem silu_at (j : S2x16384x1024.Idx) :
    val_main_v50 (F := Ideal) x3 x4 x5 j = val_main_v48 (F := Ideal) x3 x4 x5 j * Ideal.logistic (val_main_v48 (F := Ideal) x3 x4 x5 j) := by
  have e1 : Ideal.ofBits .f32 0x3F800000#32 = 1 := by simp
  rw [val_main_v50_apply, val_main_call0_v5_apply, val_main_call0_v4_apply, val_main_call0_cst_0_apply, val_main_call0_v3_apply, val_main_call0_v2_apply, val_main_call0_cst_apply,
    val_main_call0_v1_apply, val_main_call0_v0_apply, Ideal.ofBits_def, e1]
  rfl

variable (h3 : ∀ i, x3 i = ((EReal.toReal (x3 i) : ℝ) : EReal)) (h4 : ∀ i, x4 i = ((EReal.toReal (x4 i) : ℝ) : EReal))
  (h5 : ∀ i, x5 i = ((EReal.toReal (x5 i) : ℝ) : EReal))

include h3 h4 h5 in
/-- The reference's rows before the last norm. -/
theorem pre_at (j : S2x16384x1024.Idx) : val_main_v54 (F := Ideal) x0 x1 x2 x3 x4 x5 x6 j
    = preF (at3 (a := 2) (b := 16384) (c := 1024) x3 (j 0).val (j 1).val) (fX x0 x1 x2 x3 x4 (j 0).val ((j 1).val / 128) ((j 1).val % 128))
        (at2 (a := 1) (b := 1024) x4) (at2 (a := 1024) (b := 1024) x5) (at2 (a := 1024) (b := 1024) x6) (j 2).val := by
  rw [val_main_v54_apply, val_main_v53_apply, Ideal.addf_def, preF, outF]
  refine congrArg₂ (· + ·) (idx3 (a := 2) (b := 16384) (c := 1024) x3 j) (Finset.sum_congr rfl fun e _ => ?_)
  rw [val_main_v51_apply, val_main_v52_apply, Ideal.mulf_def, Ideal.extf_def, mixed_at, silu_at, gate_at, idx2 (a := 1024) (b := 1024) x6,
    gF_eq _ _ _ _ _ (Pre.gate_real (fun _ c => EReal.toReal (at3 (a := 2) (b := 16384) (c := 1024) x3 (j 0).val (j 1).val c)) _ _
      (fun _ c => Pre.at3_real h3 _ _ c) (fun r c => Pre.at2_real h4 r c) (fun r c => Pre.at2_real h5 r c) 0 e.val)]

include h3 h4 h5 in
/-- The reference's result. -/
theorem ref_out : val_main_v68 (F := Ideal) x0 x1 x2 x3 x4 x5 x6 x7 = fun j : S2x16384x1024.Idx =>
    resX x0 x1 x2 x3 x4 x5 x6 x7 (j 0).val (j 1).val (j 2).val := by
  funext j
  have e0 : (val_main_cst_2 (F := Ideal) (Shape.Idx.first h_S_) : EReal) = 0 := by
    rw [val_main_cst_2_apply, Ideal.ofBits_def]
    simp
  have he : (j 2).val % 1024 = (j 2).val := Nat.mod_eq_of_lt (j 2).isLt
  rw [val_main_v68_apply, val_main_v65_apply, val_main_v64_apply, val_main_v63_apply, val_main_v62_apply, val_main_v60_apply, val_main_v58_apply, val_main_v57_apply, e0, zero_add,
    val_main_v59_apply, val_main_cst_3_apply, val_main_v61_apply, val_main_cst_4_apply, val_main_v67_apply, val_main_v66_apply, val_main_v55_apply]
  simp only [val_main_v56_apply, Ideal.mulf_def, Ideal.addf_def, Ideal.hostDivf_def, Ideal.hostUnary_rsqrt_def, Ideal.ofBits_def,
    pre_at x0 x1 x2 x3 x4 x5 x6 h3 h4 h5, idx2 (a := 1) (b := 1024) x7]
  rw [resX, normF]
  congr 1
  show at2 (a := 1) (b := 1024) x7 0 ((j 2).val % 1024) = _
  rw [he]
end

/-- The program of the two calls and its reference end with the same array, from a memory where the residual, the gain and the
    gate's weights are finite. -/
theorem fourier_prompt : Cert.algebraic_Kernel7Ideal_Reference7Ideal_pre_finite_fourier_prompt := by
  intro m g m' g' hpre hagree
  refine ⟨fun c => Cert.Kernel7Ideal.Gen.W5 m g c (Proc.devRef .tc Cert.Kernel7Ideal.main_v4), run m g, ?_⟩
  refine (θ_run Cert.Reference7Ideal.defs _ _).mono (fun r h c => ⟨(h c).1.trans ?_, (h c).2⟩) (Cert.Reference7Ideal.Value.run (F := Ideal) m' g')
  obtain ⟨a0, a1, a2, a3, a4, a5, a6, a7⟩ := hagree c
  obtain ⟨h3, h4, h5⟩ := split_fourier_prompt (hpre c)
  refine Eq.trans ?_ (result m g c).symm
  rw [Cert.Reference7Ideal.Read.val_main_v68_eq, a0, a1, a2, a3, a4, a5, a6, a7]
  exact ref_out _ _ _ _ _ _ _ _ h3 h4 h5

end Cert.Proof.FourierP

end
-- ==== Proof.lean ====
/- THE CLAIM: the frames of the four calls, the last also at the prompt's shapes, of the two transforms' calls together (at both shapes) and of their references, what the rules
   replace, and the equality of each program's result arrays with its reference's. The proofs of the equalities are in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_arguments
public import proofs.«01_k».proof.Proof.Gen.Pre_finite_gate
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_prompt
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_fourier
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_fourier_prompt
public import proofs.«01_k».proof.Proof.Softmax
public import proofs.«01_k».proof.Proof.Consts
public import proofs.«01_k».proof.Proof.Words
public import proofs.«01_k».proof.Proof.Lists
public import proofs.«01_k».proof.Proof.Reads
public import proofs.«01_k».proof.Proof.Values
public import proofs.«01_k».proof.Proof.Scores
public import proofs.«01_k».proof.Proof.Tile
public import proofs.«01_k».proof.Proof.Block
public import proofs.«01_k».proof.Proof.Host
public import proofs.«01_k».proof.Proof.Spec
public import proofs.«01_k».proof.Proof.RefReads
public import proofs.«01_k».proof.Proof.Ref
public import proofs.«01_k».proof.Proof.Pre
public import proofs.«01_k».proof.Proof.Assemble
public import proofs.«01_k».proof.Proof.Inproj
public import proofs.«01_k».proof.Proof.Stage2
public import proofs.«01_k».proof.Proof.Stage2Ref
public import proofs.«01_k».proof.Proof.Stage2Prompt
public import proofs.«01_k».proof.Proof.Stage2PromptRef
public import proofs.«01_k».proof.Proof.Stage1
public import proofs.«01_k».proof.Proof.Stage1Ref
public import proofs.«01_k».proof.Proof.FourierCalls
public import proofs.«01_k».proof.Proof.Fourier
public import proofs.«01_k».proof.Proof.FourierRef
public import proofs.«01_k».proof.Proof.FourierPromptCalls
public import proofs.«01_k».proof.Proof.FourierPrompt
public import proofs.«01_k».proof.Proof.FourierPromptRef
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The reference runs to the end, leaves its arguments as they were and every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from a memory that meets the precondition. -/
theorem reference_frame' : Cert.quiescent_ReferenceIdeal_pre_finite_arguments := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The projections' reference likewise. -/
theorem reference2_frame : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The last call's reference likewise. -/
theorem reference3_frame : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The same from a memory that meets the precondition. -/
theorem reference3_frame' : Cert.quiescent_Reference3Ideal_pre_finite_gate := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The reference of the transform's first half likewise. -/
theorem reference4_frame : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The last call's reference at the prompt's shapes likewise. -/
theorem reference5_frame : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The same from a memory that meets the precondition. -/
theorem reference5_frame' : Cert.quiescent_Reference5Ideal_pre_finite_prompt := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The reference of the two transforms' calls together likewise. -/
theorem reference6_frame : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The same from a memory that meets the precondition. -/
theorem reference6_frame' : Cert.quiescent_Reference6Ideal_pre_finite_fourier := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The reference of the two transforms' calls together at the prompt's shapes likewise. -/
theorem reference7_frame : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The same from a memory that meets the precondition. -/
theorem reference7_frame' : Cert.quiescent_Reference7Ideal_pre_finite_fourier_prompt := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_arguments.Gen.facts, Cert.Pre_finite_gate.Gen.facts, Cert.Pre_finite_prompt.Gen.facts, Cert.Pre_finite_fourier.Gen.facts, Cert.Pre_finite_fourier_prompt.Gen.facts,
  fun m ρ _ => Cert.Kernel.Gen.frame m ρ, fun m ρ _ => Cert.KernelIdeal.Gen.frame m ρ, fun m ρ _ => Cert.KernelIdeal.Gen.frame m ρ,
  reference_frame, reference_frame',
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, fun m ρ _ => Cert.Kernel3Ideal.Gen.frame m ρ, reference3_frame, reference3_frame',
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, fun m ρ _ => Cert.Kernel5Ideal.Gen.frame m ρ, reference5_frame, reference5_frame',
  fun m ρ _ => Cert.Kernel6.Gen.frame m ρ, fun m ρ _ => Cert.Kernel6Ideal.Gen.frame m ρ, fun m ρ _ => Cert.Kernel6Ideal.Gen.frame m ρ, reference6_frame, reference6_frame',
  fun m ρ _ => Cert.Kernel7.Gen.frame m ρ, fun m ρ _ => Cert.Kernel7Ideal.Gen.frame m ρ, fun m ρ _ => Cert.Kernel7Ideal.Gen.frame m ρ, reference7_frame, reference7_frame',
  IdealRules.named_const.statement Cert.KernelIdeal.κ "mask" .f32 0xF149F2CA#32 ⊥ rfl, attention,
  IdealRules.named_const.statement Cert.Kernel2Ideal.κ "scale" .f32 0x3E38AA3B#32 (((1 / 8) * (Real.log 2)⁻¹ : ℝ) : EReal) rfl, Inproj.inproj,
  trivial, Stage2.stage2,
  ⟨IdealRules.bf16_pair.packStatement _, IdealRules.bf16_pair.statement _ _⟩, Stage1.stage1,
  trivial, Stage2P.stage2_prompt,
  ⟨IdealRules.bf16_pair.packStatement _, IdealRules.bf16_pair.statement _ _⟩, Fourier.fourier,
  ⟨IdealRules.bf16_pair.packStatement _, IdealRules.bf16_pair.statement _ _⟩, FourierP.fourier_prompt⟩

end Cert.Proof

end
